-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 1024, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 1024, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 256, 512]⟩ ⟨3, ![2, 1024, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x256x4x64 .f32 := (extf .f32 · bitsLt_bf16_f32) main_arg2
  let main_v12 : FVec F S2x256x4x64 .f32 := Host.absf main_v11
  let main_cst_2 : FVec F S_ .f32 := constant S_ .f32 0x7F800000#32
  let main_v13 : FVec F S2x256x4x64 .f32 := broadcastInDim S2x256x4x64 ![] bcast_S_S2x256x4x64 main_cst_2
  let main_v14 : IVec S2x256x4x64 1 := cmpf .olt main_v12 main_v13
  let main_c_3 : IVec S_ 1 := constantI S_ 1 1#1
  let main_v15 : IVec S_ 1 := (fun x v => Host.reduce IntOp.andi x v reducesTo_S2x256x4x64_S_d0_1_2_3 h_S_) main_v14 main_c_3
  let main_v16 : IVec S_ 1 := andi main_v10 main_v15
  main_v16
-- ==== Pre_finite_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x1024x512 .bf16) (main_arg1 : FVec F S512x256 .bf16) (main_arg2 : FVec F S2x1024x4x64 .bf16) (main_arg3 : FVec F S2x1024x4x64 .bf16) (main_arg4 : FVec F S256x512 .bf16) : IVec S_ 1 :=
  let main_v0 : FVec F S2x1024x512 .f32 := (extf .f32 · bitsLt_bf16_f32) main_arg0
  let main_v1 : FVec F S2x1024x512 .f32 := Host.absf main_v0
  let main_cst : FVec F S_ .f32 := constant S_ .f32 0x7F800000#32
  let main_v2 : FVec F S2x1024x512 .f32 := broadcastInDim S2x1024x512 ![] bcast_S_S2x1024x512 main_cst
  let main_v3 : IVec S2x1024x512 1 := cmpf .olt main_v1 main_v2
  let main_c : IVec S_ 1 := constantI S_ 1 1#1
  let main_v4 : IVec S_ 1 := (fun x v => Host.reduce IntOp.andi x v reducesTo_S2x1024x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x1024x4x64 .f32 := (extf .f32 · bitsLt_bf16_f32) main_arg2
  let main_v12 : FVec F S2x1024x4x64 .f32 := Host.absf main_v11
  let main_cst_2 : FVec F S_ .f32 := constant S_ .f32 0x7F800000#32
  let main_v13 : FVec F S2x1024x4x64 .f32 := broadcastInDim S2x1024x4x64 ![] bcast_S_S2x1024x4x64 main_cst_2
  let main_v14 : IVec S2x1024x4x64 1 := cmpf .olt main_v12 main_v13
  let main_c_3 : IVec S_ 1 := constantI S_ 1 1#1
  let main_v15 : IVec S_ 1 := (fun x v => Host.reduce IntOp.andi x v reducesTo_S2x1024x4x64_S_d0_1_2_3 h_S_) main_v14 main_c_3
  let main_v16 : IVec S_ 1 := andi main_v10 main_v15
  main_v16
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x256x256 : Shape := ⟨3, ![2, 256, 256]⟩
abbrev S4x2x256x256 : Shape := ⟨4, ![4, 2, 256, 256]⟩
abbrev S2x32x256 : Shape := ⟨3, ![2, 32, 256]⟩
abbrev S2x4x32x128 : Shape := ⟨4, ![2, 4, 32, 128]⟩
abbrev S3x2x4x32x128 : Shape := ⟨5, ![3, 2, 4, 32, 128]⟩
abbrev S4 : Shape := ⟨1, ![4]⟩
abbrev S3 : Shape := ⟨1, ![3]⟩
abbrev S1 : Shape := ⟨1, ![1]⟩
abbrev S_ : Shape := ⟨0, ![]⟩
abbrev S1x2x32x256 : Shape := ⟨4, ![1, 2, 32, 256]⟩
abbrev S1x2x128x256 : Shape := ⟨4, ![1, 2, 128, 256]⟩
abbrev S2x128x256 : Shape := ⟨3, ![2, 128, 256]⟩
abbrev S1x32x512 : Shape := ⟨3, ![1, 32, 512]⟩
abbrev S32x512 : Shape := ⟨2, ![32, 512]⟩
abbrev S32x256 : Shape := ⟨2, ![32, 256]⟩
abbrev S1x32x256 : Shape := ⟨3, ![1, 32, 256]⟩
abbrev S1x256x512 : Shape := ⟨3, ![1, 256, 512]⟩
abbrev S256x256 : Shape := ⟨2, ![256, 256]⟩
abbrev S256x128 : Shape := ⟨2, ![256, 128]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩
abbrev S1x1x128x256 : Shape := ⟨4, ![1, 1, 128, 256]⟩
abbrev S128x256 : Shape := ⟨2, ![128, 256]⟩
abbrev S128x64 : Shape := ⟨2, ![128, 64]⟩
abbrev S1x2x4x32x128 : Shape := ⟨5, ![1, 2, 4, 32, 128]⟩
abbrev S32x1 : Shape := ⟨2, ![32, 1]⟩
abbrev S32x64 : Shape := ⟨2, ![32, 64]⟩
abbrev S1x1x1x32x128 : Shape := ⟨5, ![1, 1, 1, 32, 128]⟩
abbrev S32x128 : Shape := ⟨2, ![32, 128]⟩
abbrev S224x64 : Shape := ⟨2, ![224, 64]⟩
abbrev S224x1 : Shape := ⟨2, ![224, 1]⟩
abbrev S256x160 : Shape := ⟨2, ![256, 160]⟩
abbrev S1x128x256 : Shape := ⟨3, ![1, 128, 256]⟩
abbrev S32 : Shape := ⟨1, ![32]⟩
abbrev S1x1x32x64 : Shape := ⟨4, ![1, 1, 32, 64]⟩
abbrev S1x1x32x256 : Shape := ⟨4, ![1, 1, 32, 256]⟩
abbrev S160x256 : Shape := ⟨2, ![160, 256]⟩
abbrev S160x64 : Shape := ⟨2, ![160, 64]⟩
abbrev S256x288 : Shape := ⟨2, ![256, 288]⟩
abbrev S288x256 : Shape := ⟨2, ![288, 256]⟩
abbrev S288x64 : Shape := ⟨2, ![288, 64]⟩

abbrev nBuf : Space → Nat
  | .hbm => 8
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x256, .bf16⟩
  | .hbm, ⟨6, _⟩ => ⟨S2x256x256, .bf16⟩
  | .hbm, ⟨7, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .bf16⟩
  | .local _ .vmem, ⟨6, _⟩ => ⟨S4x2x256x256, .bf16⟩
  | .local _ .vmem, ⟨7, _⟩ => ⟨S4x2x256x256, .bf16⟩
  | .local _ .vmem, ⟨8, _⟩ => ⟨S2x32x256, .bf16⟩
  | .local _ .vmem, ⟨9, _⟩ => ⟨S2x4x32x128, .bf16⟩
  | .local _ .vmem, ⟨10, _⟩ => ⟨S3x2x4x32x128, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v8 : BitVec 32 := Scalar.addi v2 c1_i32_3
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v12 : BitVec 32 := Scalar.addi v2 c2_i32
  let c4_i32_7 : BitVec 32 := 4#32
  let v13 : BitVec 32 := Scalar.remsi v12 c4_i32_7
  let c1_i32_9 : BitVec 32 := 1#32
  let v14 : BitVec 32 := Scalar.muli v13 c1_i32_9
  let v15 : BitVec 32 := Scalar.addi c0_i32_10 v14
  v15.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v16 : BitVec 32 := Scalar.addi v2 c3_i32
  let c4_i32_11 : BitVec 32 := 4#32
  let v17 : BitVec 32 := Scalar.remsi v16 c4_i32_11
  let c1_i32_13 : BitVec 32 := 1#32
  let v18 : BitVec 32 := Scalar.muli v17 c1_i32_13
  let v19 : BitVec 32 := Scalar.addi c0_i32_14 v18
  v19.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_16 : BitVec 32 := 0#32
  let v20 : BitVec 1 := Scalar.cmpi .eq v2 c0_i32_16
  let v21 : BitVec 32 := Scalar.extui v20
  let c0_i32_17 : BitVec 32 := 0#32
  let v22 : BitVec 1 := Scalar.cmpi .ne v21 c0_i32_17
  v22

def k0_dev4 : Nat :=
  let c0_i32_29 : BitVec 32 := 0#32
  let c1_i32_27 : BitVec 32 := 1#32
  let c1_i32_28 : BitVec 32 := 1#32
  let v32 : BitVec 32 := Scalar.muli c1_i32_27 c1_i32_28
  let v33 : BitVec 32 := Scalar.addi c0_i32_29 v32
  v33.toNat
def k0_dev5 : Nat :=
  let c0_i32_41 : BitVec 32 := 0#32
  let c1_i32_39 : BitVec 32 := 1#32
  let c1_i32_40 : BitVec 32 := 1#32
  let v41 : BitVec 32 := Scalar.muli c1_i32_39 c1_i32_40
  let v42 : BitVec 32 := Scalar.addi c0_i32_41 v41
  v42.toNat
def k0_dev6 : Nat :=
  let c0_i32_52 : BitVec 32 := 0#32
  let c3_i32_50 : BitVec 32 := 3#32
  let c1_i32_51 : BitVec 32 := 1#32
  let v50 : BitVec 32 := Scalar.muli c3_i32_50 c1_i32_51
  let v51 : BitVec 32 := Scalar.addi c0_i32_52 v50
  v51.toNat
def k0_dev7 : Nat :=
  let c0_i32_64 : BitVec 32 := 0#32
  let c2_i32_62 : BitVec 32 := 2#32
  let c1_i32_63 : BitVec 32 := 1#32
  let v59 : BitVec 32 := Scalar.muli c2_i32_62 c1_i32_63
  let v60 : BitVec 32 := Scalar.addi c0_i32_64 v59
  v60.toNat
def k0_dev8 : Nat :=
  let c0_i32_76 : BitVec 32 := 0#32
  let c1_i32_74 : BitVec 32 := 1#32
  let c1_i32_75 : BitVec 32 := 1#32
  let v68 : BitVec 32 := Scalar.muli c1_i32_74 c1_i32_75
  let v69 : BitVec 32 := Scalar.addi c0_i32_76 v68
  v69.toNat
def k0_dev9 : Nat :=
  let c0_i32_88 : BitVec 32 := 0#32
  let c1_i32_86 : BitVec 32 := 1#32
  let c1_i32_87 : BitVec 32 := 1#32
  let v77 : BitVec 32 := Scalar.muli c1_i32_86 c1_i32_87
  let v78 : BitVec 32 := Scalar.addi c0_i32_88 v77
  v78.toNat
def k0_dev10 : Nat :=
  let c0_i32_100 : BitVec 32 := 0#32
  let c3_i32_98 : BitVec 32 := 3#32
  let c1_i32_99 : BitVec 32 := 1#32
  let v86 : BitVec 32 := Scalar.muli c3_i32_98 c1_i32_99
  let v87 : BitVec 32 := Scalar.addi c0_i32_100 v86
  v87.toNat
def k0_dev11 : Nat :=
  let c0_i32_112 : BitVec 32 := 0#32
  let c2_i32_110 : BitVec 32 := 2#32
  let c1_i32_111 : BitVec 32 := 1#32
  let v95 : BitVec 32 := Scalar.muli c2_i32_110 c1_i32_111
  let v96 : BitVec 32 := Scalar.addi c0_i32_112 v95
  v96.toNat
def k0_dev12 : Nat :=
  let c0_i32_137 : BitVec 32 := 0#32
  let c1_i32_135 : BitVec 32 := 1#32
  let c1_i32_136 : BitVec 32 := 1#32
  let v122 : BitVec 32 := Scalar.muli c1_i32_135 c1_i32_136
  let v123 : BitVec 32 := Scalar.addi c0_i32_137 v122
  v123.toNat
def k0_dev13 : Nat :=
  let c0_i32_142 : BitVec 32 := 0#32
  let c2_i32_140 : BitVec 32 := 2#32
  let c1_i32_141 : BitVec 32 := 1#32
  let v128 : BitVec 32 := Scalar.muli c2_i32_140 c1_i32_141
  let v129 : BitVec 32 := Scalar.addi c0_i32_142 v128
  v129.toNat
def k0_dev14 : Nat :=
  let c0_i32_147 : BitVec 32 := 0#32
  let c3_i32_145 : BitVec 32 := 3#32
  let c1_i32_146 : BitVec 32 := 1#32
  let v134 : BitVec 32 := Scalar.muli c3_i32_145 c1_i32_146
  let v135 : BitVec 32 := Scalar.addi c0_i32_147 v134
  v135.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v23 : BitVec 1 := Scalar.cmpi .eq v2 c1_i32_18
  let v24 : BitVec 32 := Scalar.extui v23
  let c0_i32_19 : BitVec 32 := 0#32
  let v25 : BitVec 1 := Scalar.cmpi .ne v24 c0_i32_19
  v25

def k0_dev15 : Nat :=
  let c0_i32_29 : BitVec 32 := 0#32
  let c0_i32_27 : BitVec 32 := 0#32
  let c1_i32_28 : BitVec 32 := 1#32
  let v32 : BitVec 32 := Scalar.muli c0_i32_27 c1_i32_28
  let v33 : BitVec 32 := Scalar.addi c0_i32_29 v32
  v33.toNat
def k0_dev16 : Nat :=
  let c0_i32_41 : BitVec 32 := 0#32
  let c2_i32_39 : BitVec 32 := 2#32
  let c1_i32_40 : BitVec 32 := 1#32
  let v41 : BitVec 32 := Scalar.muli c2_i32_39 c1_i32_40
  let v42 : BitVec 32 := Scalar.addi c0_i32_41 v41
  v42.toNat
def k0_dev17 : Nat :=
  let c0_i32_52 : BitVec 32 := 0#32
  let c0_i32_50 : BitVec 32 := 0#32
  let c1_i32_51 : BitVec 32 := 1#32
  let v50 : BitVec 32 := Scalar.muli c0_i32_50 c1_i32_51
  let v51 : BitVec 32 := Scalar.addi c0_i32_52 v50
  v51.toNat
def k0_dev18 : Nat :=
  let c0_i32_64 : BitVec 32 := 0#32
  let c2_i32_62 : BitVec 32 := 2#32
  let c1_i32_63 : BitVec 32 := 1#32
  let v59 : BitVec 32 := Scalar.muli c2_i32_62 c1_i32_63
  let v60 : BitVec 32 := Scalar.addi c0_i32_64 v59
  v60.toNat
def k0_dev19 : Nat :=
  let c0_i32_209 : BitVec 32 := 0#32
  let c0_i32_207 : BitVec 32 := 0#32
  let c1_i32_208 : BitVec 32 := 1#32
  let v306 : BitVec 32 := Scalar.muli c0_i32_207 c1_i32_208
  let v307 : BitVec 32 := Scalar.addi c0_i32_209 v306
  v307.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v26 : BitVec 1 := Scalar.cmpi .eq v2 c2_i32_20
  let v27 : BitVec 32 := Scalar.extui v26
  let c0_i32_21 : BitVec 32 := 0#32
  let v28 : BitVec 1 := Scalar.cmpi .ne v27 c0_i32_21
  v28

def k0_dev20 : Nat :=
  let c0_i32_29 : BitVec 32 := 0#32
  let c1_i32_27 : BitVec 32 := 1#32
  let c1_i32_28 : BitVec 32 := 1#32
  let v32 : BitVec 32 := Scalar.muli c1_i32_27 c1_i32_28
  let v33 : BitVec 32 := Scalar.addi c0_i32_29 v32
  v33.toNat
def k0_dev21 : Nat :=
  let c0_i32_41 : BitVec 32 := 0#32
  let c3_i32_39 : BitVec 32 := 3#32
  let c1_i32_40 : BitVec 32 := 1#32
  let v41 : BitVec 32 := Scalar.muli c3_i32_39 c1_i32_40
  let v42 : BitVec 32 := Scalar.addi c0_i32_41 v41
  v42.toNat
def k0_dev22 : Nat :=
  let c0_i32_52 : BitVec 32 := 0#32
  let c1_i32_50 : BitVec 32 := 1#32
  let c1_i32_51 : BitVec 32 := 1#32
  let v50 : BitVec 32 := Scalar.muli c1_i32_50 c1_i32_51
  let v51 : BitVec 32 := Scalar.addi c0_i32_52 v50
  v51.toNat
def k0_dev23 : Nat :=
  let c0_i32_64 : BitVec 32 := 0#32
  let c3_i32_62 : BitVec 32 := 3#32
  let c1_i32_63 : BitVec 32 := 1#32
  let v59 : BitVec 32 := Scalar.muli c3_i32_62 c1_i32_63
  let v60 : BitVec 32 := Scalar.addi c0_i32_64 v59
  v60.toNat
def k0_dev24 : Nat :=
  let c0_i32_205 : BitVec 32 := 0#32
  let c0_i32_203 : BitVec 32 := 0#32
  let c1_i32_204 : BitVec 32 := 1#32
  let v294 : BitVec 32 := Scalar.muli c0_i32_203 c1_i32_204
  let v295 : BitVec 32 := Scalar.addi c0_i32_205 v294
  v295.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v29 : BitVec 1 := Scalar.cmpi .eq v2 c3_i32_22
  let v30 : BitVec 32 := Scalar.extui v29
  let c0_i32_23 : BitVec 32 := 0#32
  let v31 : BitVec 1 := Scalar.cmpi .ne v30 c0_i32_23
  v31

def k0_dev25 : Nat :=
  let c0_i32_29 : BitVec 32 := 0#32
  let c2_i32_27 : BitVec 32 := 2#32
  let c1_i32_28 : BitVec 32 := 1#32
  let v32 : BitVec 32 := Scalar.muli c2_i32_27 c1_i32_28
  let v33 : BitVec 32 := Scalar.addi c0_i32_29 v32
  v33.toNat
def k0_dev26 : Nat :=
  let c0_i32_41 : BitVec 32 := 0#32
  let c2_i32_39 : BitVec 32 := 2#32
  let c1_i32_40 : BitVec 32 := 1#32
  let v41 : BitVec 32 := Scalar.muli c2_i32_39 c1_i32_40
  let v42 : BitVec 32 := Scalar.addi c0_i32_41 v41
  v42.toNat
def k0_dev27 : Nat :=
  let c0_i32_181 : BitVec 32 := 0#32
  let c0_i32_179 : BitVec 32 := 0#32
  let c1_i32_180 : BitVec 32 := 1#32
  let v271 : BitVec 32 := Scalar.muli c0_i32_179 c1_i32_180
  let v272 : BitVec 32 := Scalar.addi c0_i32_181 v271
  v272.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x1024x512, .bf16⟩
  | .hbm, ⟨1, _⟩ => ⟨S512x256, .bf16⟩
  | .hbm, ⟨2, _⟩ => ⟨S2x1024x4x64, .bf16⟩
  | .hbm, ⟨3, _⟩ => ⟨S2x1024x4x64, .bf16⟩
  | .hbm, ⟨4, _⟩ => ⟨S256x512, .bf16⟩
  | .hbm, ⟨5, _⟩ => ⟨S2x1024x256, .f32⟩
  | .hbm, ⟨6, _⟩ => ⟨S2x1024x256, .bf16⟩
  | .hbm, ⟨7, _⟩ => ⟨S2x1024x4x64, .bf16⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S_, .i32⟩
  | .hbm, ⟨20, _⟩ => ⟨S1x1024, .i32⟩
  | .hbm, ⟨21, _⟩ => ⟨S1x1024, .i1⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1024x1024, .i1⟩
  | .hbm, ⟨29, _⟩ => ⟨S2x4x1024x1024, .f32⟩
  | .hbm, ⟨30, _⟩ => ⟨S2x4x1024x1024, .bf16⟩
  | .hbm, ⟨31, _⟩ => ⟨S2x4x1024x1024, .f32⟩
  | .hbm, ⟨32, _⟩ => ⟨S_, .f32⟩
  | .hbm, ⟨33, _⟩ => ⟨S2x4x1024x1024, .f32⟩
  | .hbm, ⟨34, _⟩ => ⟨S2x4x1024x1024, .f32⟩
  | .hbm, ⟨35, _⟩ => ⟨S1x1x1024x1024, .i1⟩
  | .hbm, ⟨36, _⟩ => ⟨S_, .f32⟩
  | .hbm, ⟨37, _⟩ => ⟨S_, .f32⟩
  | .hbm, ⟨38, _⟩ => ⟨S2x4x1024x1024, .i1⟩
  | .hbm, ⟨39, _⟩ => ⟨S2x4x1024x1024, .f32⟩
  | .hbm, ⟨40, _⟩ => ⟨S2x4x1024x1024, .f32⟩
  | .hbm, ⟨41, _⟩ => ⟨S_, .f32⟩
  | .hbm, ⟨42, _⟩ => ⟨S2x4x1024, .f32⟩
  | .hbm, ⟨43, _⟩ => ⟨S2x4x1024x1, .f32⟩
  | .hbm, ⟨44, _⟩ => ⟨S2x4x1024x1024, .f32⟩
  | .hbm, ⟨45, _⟩ => ⟨S2x4x1024x1024, .f32⟩
  | .hbm, ⟨46, _⟩ => ⟨S2x4x1024x1024, .f32⟩
  | .hbm, ⟨47, _⟩ => ⟨S_, .i1⟩
  | .hbm, ⟨48, _⟩ => ⟨S1024, .i1⟩
  | .hbm, ⟨49, _⟩ => ⟨S1x1x1024x1, .i1⟩
  | .hbm, ⟨50, _⟩ => ⟨S_, .f32⟩
  | .hbm, ⟨51, _⟩ => ⟨S2x4x1024, .f32⟩
  | .hbm, ⟨52, _⟩ => ⟨S2x4x1024x1, .f32⟩
  | .hbm, ⟨53, _⟩ => ⟨S_, .f32⟩
  | .hbm, ⟨54, _⟩ => ⟨S_, .f32⟩
  | .hbm, ⟨55, _⟩ => ⟨S2x4x1024x1, .i1⟩
  | .hbm, ⟨56, _⟩ => ⟨S2x4x1024x1, .f32⟩
  | .hbm, ⟨57, _⟩ => ⟨S2x4x1024x1, .f32⟩
  | .hbm, ⟨58, _⟩ => ⟨S2x4x1024x1024, .f32⟩
  | .hbm, ⟨59, _⟩ => ⟨S2x4x1024x1024, .f32⟩
  | .hbm, ⟨60, _⟩ => ⟨S1x1x1024x1, .i1⟩
  | .hbm, ⟨61, _⟩ => ⟨S_, .f32⟩
  | .hbm, ⟨62, _⟩ => ⟨S_, .f32⟩
  | .hbm, ⟨63, _⟩ => ⟨S2x4x1024x1024, .i1⟩
  | .hbm, ⟨64, _⟩ => ⟨S2x4x1024x1024, .f32⟩
  | .hbm, ⟨65, _⟩ => ⟨S2x4x1024x1024, .f32⟩
  | .hbm, ⟨66, _⟩ => ⟨S2x1024x4x64, .f32⟩
  | .hbm, ⟨67, _⟩ => ⟨S2x4x64x1024, .f32⟩
  | .hbm, ⟨68, _⟩ => ⟨S2x1024x4x64, .f32⟩
  | .hbm, ⟨69, _⟩ => ⟨S2x1024x256, .f32⟩
  | .hbm, ⟨70, _⟩ => ⟨S256x512, .f32⟩
  | .hbm, ⟨71, _⟩ => ⟨S2x1024x512, .f32⟩
  | .hbm, ⟨72, _⟩ => ⟨S2x1024x512, .bf16⟩
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Table.lean ====
/-
# The cross-device protocol: the table of copies

The kernel runs on four devices. After a barrier in which each device signals the other three and waits for three
units, 24 remote copies are made, numbered here in program order of their senders:

*   key rows (`0`–`3`, `11`, `12`, `16`, `17`, `21`) and value rows (`4`–`7`, `13`, `14`, `18`, `19`, `22`): rows of the
    sender's key or value block into slot `sender` of the receiver's gathered buffer;
*   the scaled queries of the first 32 rows (`8`–`10`) from device 0 to the other three;
*   the partial results for those rows (`15`, `20`, `23`) from devices 1, 2, 3 to device 0.

Every copy has a send semaphore on its sender and a receive semaphore on its receiver that no other copy of that device
uses. `Src I t` is what the sender lends for copy `t` and gets back with the send semaphore, `LandAny t` the window the
copy lands in, at any contents, and `Land I t` that window at what the copy brings.
-/
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Kit
public import Idealize.ShloMosaic.Lib.Rounds
public import Idealize.ShloMosaic.Lib.Tactic
public import Idealize.ShloMosaic.Lib.Pointwise.Index

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy and the protocol's, whose duties are the copies -/

abbrev UB : Type := URounds (GSem nD τ sig) (Fin 24)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Sender, receiver, semaphores of a copy -/

/-- The sender of each copy, -/
def xsrc : Fin 24 → Dev nD := ![0, 0, 0, 0, 0, 0, 0, 0, 0, 0, 0, 1, 1, 1, 1, 1, 2, 2, 2, 2, 2, 3, 3, 3]
/-- its receiver, -/
def xdst : Fin 24 → Dev nD := ![1, 1, 3, 2, 1, 1, 3, 2, 1, 2, 3, 0, 2, 0, 2, 0, 1, 3, 1, 3, 0, 2, 2, 0]
/-- its send semaphore on the sender, -/
def xs : Fin 24 → Fin 24 := ![0, 1, 2, 3, 8, 9, 10, 11, 16, 17, 18, 0, 1, 8, 9, 20, 0, 1, 8, 9, 20, 0, 8, 20]
/-- and its receive semaphore on the receiver (the kernel's own semaphores counted from the first of them). -/
def xr : Fin 24 → Fin 24 := ![4, 5, 4, 4, 12, 13, 12, 12, 19, 19, 19, 4, 5, 12, 13, 21, 6, 5, 14, 13, 22, 6, 14, 23]

/-- The copies device `c` sends, -/
def mine (c : Dev nD) : Finset (Fin 24) := Finset.univ.filter fun t => xsrc t = c
/-- and those it receives. -/
def inc (c : Dev nD) : Finset (Fin 24) := Finset.univ.filter fun t => xdst t = c
/-- The copies from one device to another. -/
def grp (s d : ℕ) : Finset (Fin 24) := Finset.univ.filter fun t => (xsrc t).val = s ∧ (xdst t).val = d
/-- The copies that use semaphore `k` of device `c`: one or none. -/
def dut (c : Dev nD) (k : Fin 24) : Finset (Fin 24) :=
  Finset.univ.filter fun t => (xsrc t = c ∧ xs t = k) ∨ (xdst t = c ∧ xr t = k)

theorem dut_send : ∀ t, dut (xsrc t) (xs t) = {t} := by decide
theorem dut_recv : ∀ t, dut (xdst t) (xr t) = {t} := by decide
theorem xr_ne_xs : ∀ t, xr t ≠ xs t := by decide

/-! ## Cells -/

/-- The runtime's barrier semaphore of collective id 0. -/
abbrev barS : Sem sig := (SemArray.scalar (sig.barrier 0 rfl) : Sems sig S_).sem
/-- The kernel's own semaphores: numbers 6 to 29. -/
abbrev dsem (k : Fin 24) : DmaSem sig := (⟨6 + k.val, by have := k.isLt; show 6 + k.val < 30; omega⟩ : Fin 30)

abbrev barCell (c : Dev nD) : GSem nD τ sig := ((c : Thread nD τ), .reg barS)
abbrev dcell (c : Dev nD) (k : Fin 24) : GSem nD τ sig := ((c : Thread nD τ), .dma (dsem k))
abbrev scell (t : Fin 24) : GSem nD τ sig := dcell (xsrc t) (xs t)
abbrev rcell (t : Fin 24) : GSem nD τ sig := dcell (xdst t) (xr t)

/-- The place of a semaphore among the kernel's own. -/
def sidx (s : Fin 30) : Fin 24 := ⟨s.val - 6, by have := s.isLt; omega⟩
theorem sidx_dsem (k : Fin 24) : sidx (dsem k) = k := Fin.ext (by show 6 + k.val - 6 = k.val; omega)

theorem dcell_inj {c c' : Dev nD} {k k' : Fin 24} (h : dcell c k = dcell c' k') : c = c' ∧ k = k' := by
  have h1 : c = c' := congrArg (fun g : GSem nD τ sig => g.1.1) h
  refine ⟨h1, ?_⟩
  have h2 : SemLoc.dma (dsem k) = SemLoc.dma (dsem k') := congrArg Prod.snd h
  have h3 : dsem k = dsem k' := by injection h2
  rw [← sidx_dsem k, h3, sidx_dsem]

/-! ## The windows -/

/-- Rows `lo … lo + n` of a staged block, -/
abbrev rowsOf (b : Memref sig .tc .vmem S2x256x256 .bf16) (lo n : ℕ) (h : ∀ a, ![0, lo, 0] a + ![2, n, 256] a ≤ S2x256x256.size a) :
    Memref sig .tc .vmem ⟨3, ![2, n, 256]⟩ .bf16 :=
  b.slice (Rect.unit (s := S2x256x256) ![0, lo, 0] ![2, n, 256] h) (fun _ => rfl)
/-- and of slot `p` of a gathered buffer. -/
abbrev slotRows (b : Memref sig .tc .vmem S4x2x256x256 .bf16) (p lo n : ℕ) (h : ∀ a, ![p, 0, lo, 0] a + ![1, 2, n, 256] a ≤ S4x2x256x256.size a)
    (hq : (⟨4, ![1, 2, n, 256]⟩ : Shape).Squeezes ⟨3, ![2, n, 256]⟩) : Memref sig .tc .vmem ⟨3, ![2, n, 256]⟩ .bf16 :=
  (b.slice (Rect.unit (s := S4x2x256x256) ![p, 0, lo, 0] ![1, 2, n, 256] h) (fun _ => rfl)).squeeze ⟨3, ![2, n, 256]⟩ hq
/-- Part `i` of the gathered partial results. -/
abbrev partOf (i : ℕ) (h : ∀ a, ![i, 0, 0, 0, 0] a + ![1, 2, 4, 32, 128] a ≤ S3x2x4x32x128.size a)
    (hq : S1x2x4x32x128.Squeezes S2x4x32x128) : Memref sig .tc .vmem S2x4x32x128 .bf16 :=
  ((Memref.whole cc0_scratch4).slice (Rect.unit (s := S3x2x4x32x128) ![i, 0, 0, 0, 0] ![1, 2, 4, 32, 128] h) (fun _ => rfl)).squeeze S2x4x32x128 hq

abbrev kM : Memref sig .tc .vmem S2x256x256 .bf16 := Memref.whole cc0_stg2_0
abbrev vM : Memref sig .tc .vmem S2x256x256 .bf16 := Memref.whole cc0_stg3_0
abbrev kgM : Memref sig .tc .vmem S4x2x256x256 .bf16 := Memref.whole cc0_scratch0
abbrev vgM : Memref sig .tc .vmem S4x2x256x256 .bf16 := Memref.whole cc0_scratch1
abbrev qM : Memref sig .tc .vmem S2x32x256 .bf16 := Memref.whole cc0_scratch2
abbrev pM : Memref sig .tc .vmem S2x4x32x128 .bf16 := Memref.whole cc0_scratch3

/-! ## Contents -/

/-- What the devices' buffers hold: each device's key and value block, the scaled queries of the first 32 rows, and each
    device's partial results for them. -/
structure Ins (F : FTy → Type) where
  k : Dev nD → cc0_stg2_0.ty.Contents (Elt F)
  v : Dev nD → cc0_stg3_0.ty.Contents (Elt F)
  q : cc0_scratch2.ty.Contents (Elt F)
  p : Dev nD → cc0_scratch3.ty.Contents (Elt F)

variable (I : Ins F)

/-- The gathered buffers where all has landed: slot `s` holds device `s`'s block, -/
def kgAll : cc0_scratch0.ty.Contents (Elt F) := fun i : S4x2x256x256.Idx => I.k (i 0) (ix3 (i 1) (i 2) (i 3))
def vgAll : cc0_scratch1.ty.Contents (Elt F) := fun i : S4x2x256x256.Idx => I.v (i 0) (ix3 (i 1) (i 2) (i 3))
/-- and part `i` of the gathered partial results those of device `i + 1`. -/
def ppAll : cc0_scratch4.ty.Contents (Elt F) := fun i : S3x2x4x32x128.Idx =>
  I.p (⟨(i 0).val + 1, by have := (i 0).isLt; show _ < 4; exact Nat.succ_lt_succ this⟩ : Fin 4) (ix4 (i 1) (i 2) (i 3) (i 4))

/-- A set of a buffer's elements, with contents for the buffer. -/
structure Piece (F : FTy → Type) where
  b : Ref sig .tc
  S : Finset b.ty.Idx
  f : b.ty.Contents (Elt F)

theorem inR32 : ∀ a, ![0, 0, 0] a + ![2, 32, 256] a ≤ S2x256x256.size a := by decide
theorem inR0 : ∀ a, ![0, 0, 0] a + ![2, 128, 256] a ≤ S2x256x256.size a := by decide
theorem inR128 : ∀ a, ![0, 128, 0] a + ![2, 128, 256] a ≤ S2x256x256.size a := by decide
theorem inS32 : ∀ a, ![0, 0, 0, 0] a + ![1, 2, 32, 256] a ≤ S4x2x256x256.size a := by decide
theorem inS0 (p : Fin 4) : ∀ a, ![p.val, 0, 0, 0] a + ![1, 2, 128, 256] a ≤ S4x2x256x256.size a := by revert p; decide
theorem inS128 (p : Fin 4) : ∀ a, ![p.val, 0, 128, 0] a + ![1, 2, 128, 256] a ≤ S4x2x256x256.size a := by revert p; decide
theorem inP (i : Fin 3) : ∀ a, ![i.val, 0, 0, 0, 0] a + ![1, 2, 4, 32, 128] a ≤ S3x2x4x32x128.size a := by revert i; decide
theorem sq32 : (⟨4, ![1, 2, 32, 256]⟩ : Shape).Squeezes ⟨3, ![2, 32, 256]⟩ := by decide
theorem sq128 : (⟨4, ![1, 2, 128, 256]⟩ : Shape).Squeezes ⟨3, ![2, 128, 256]⟩ := by decide
theorem sqP : S1x2x4x32x128.Squeezes S2x4x32x128 := by decide

/-- The pieces the copies are on: rows of a staged key or value block, rows of a slot of the gathered keys or values, and a part of
    the gathered partial results. -/
def kPc (p : Fin 4) (lo n : ℕ) (h : ∀ a, ![0, lo, 0] a + ![2, n, 256] a ≤ S2x256x256.size a) : Piece F := ⟨cc0_stg2_0, (rowsOf kM lo n h).view.set, I.k p⟩
def vPc (p : Fin 4) (lo n : ℕ) (h : ∀ a, ![0, lo, 0] a + ![2, n, 256] a ≤ S2x256x256.size a) : Piece F := ⟨cc0_stg3_0, (rowsOf vM lo n h).view.set, I.v p⟩
def kgPc (p lo n : ℕ) (h : ∀ a, ![p, 0, lo, 0] a + ![1, 2, n, 256] a ≤ S4x2x256x256.size a) (hq : (⟨4, ![1, 2, n, 256]⟩ : Shape).Squeezes ⟨3, ![2, n, 256]⟩) : Piece F := ⟨cc0_scratch0, (slotRows kgM p lo n h hq).view.set, kgAll I⟩
def vgPc (p lo n : ℕ) (h : ∀ a, ![p, 0, lo, 0] a + ![1, 2, n, 256] a ≤ S4x2x256x256.size a) (hq : (⟨4, ![1, 2, n, 256]⟩ : Shape).Squeezes ⟨3, ![2, n, 256]⟩) : Piece F := ⟨cc0_scratch1, (slotRows vgM p lo n h hq).view.set, vgAll I⟩
def qPc : Piece F := ⟨cc0_scratch2, qM.view.set, I.q⟩
def pPc (p : Fin 4) : Piece F := ⟨cc0_scratch3, pM.view.set, I.p p⟩
def ppPc (i : ℕ) (h : ∀ a, ![i, 0, 0, 0, 0] a + ![1, 2, 4, 32, 128] a ≤ S3x2x4x32x128.size a) : Piece F := ⟨cc0_scratch4, (partOf i h sqP).view.set, ppAll I⟩

/-- The piece of device `c` at share `q`, holding its contents, -/
abbrev Piece.at (w : Piece F) (c : Dev nD) (q : PosShare TreeShare) : sProp 𝕄 := ((c : Thread nD τ).loc w.b) ↦[w.S]{q} w.f
/-- or any. -/
abbrev Piece.any (w : Piece F) (c : Dev nD) : sProp 𝕄 := iprop(∃ f : w.b.ty.Contents (Elt F), ((c : Thread nD τ).loc w.b) ↦[w.S]{fullShare} f)

/-- Where each copy lands and what it brings, -/
def dpc : Fin 24 → Piece F := ![
  kgPc I 0 0 32 inS32 sq32,
  kgPc I 0 128 128 (inS128 0) sq128,
  kgPc I 0 0 32 inS32 sq32,
  kgPc I 0 0 32 inS32 sq32,
  vgPc I 0 0 32 inS32 sq32,
  vgPc I 0 128 128 (inS128 0) sq128,
  vgPc I 0 0 32 inS32 sq32,
  vgPc I 0 0 32 inS32 sq32,
  qPc I,
  qPc I,
  qPc I,
  kgPc I 1 0 128 (inS0 1) sq128,
  kgPc I 1 128 128 (inS128 1) sq128,
  vgPc I 1 0 128 (inS0 1) sq128,
  vgPc I 1 128 128 (inS128 1) sq128,
  ppPc I 0 (inP 0),
  kgPc I 2 0 128 (inS0 2) sq128,
  kgPc I 2 128 128 (inS128 2) sq128,
  vgPc I 2 0 128 (inS0 2) sq128,
  vgPc I 2 128 128 (inS128 2) sq128,
  ppPc I 1 (inP 1),
  kgPc I 3 0 128 (inS0 3) sq128,
  vgPc I 3 0 128 (inS0 3) sq128,
  ppPc I 2 (inP 2)]
/-- and where it comes from. -/
def spc : Fin 24 → Piece F := ![
  kPc I 0 0 32 inR32,
  kPc I 0 128 128 inR128,
  kPc I 0 0 32 inR32,
  kPc I 0 0 32 inR32,
  vPc I 0 0 32 inR32,
  vPc I 0 128 128 inR128,
  vPc I 0 0 32 inR32,
  vPc I 0 0 32 inR32,
  qPc I,
  qPc I,
  qPc I,
  kPc I 1 0 128 inR0,
  kPc I 1 128 128 inR128,
  vPc I 1 0 128 inR0,
  vPc I 1 128 128 inR128,
  pPc I 1,
  kPc I 2 0 128 inR0,
  kPc I 2 128 128 inR128,
  vPc I 2 0 128 inR0,
  vPc I 2 128 128 inR128,
  pPc I 2,
  kPc I 3 0 128 inR0,
  vPc I 3 0 128 inR0,
  pPc I 3]

/-- The units a copy's semaphores count: of 32 rows, of 128 rows, of the partial results. -/
def a32 : ℕ := (rowsOf kM 0 32 inR32).view.dmaCredit
def a128 : ℕ := (rowsOf kM 0 128 inR0).view.dmaCredit
def aP : ℕ := pM.view.dmaCredit
def xamt : Fin 24 → ℕ := ![a32, a128, a32, a32, a32, a128, a32, a32, a32, a32, a32, a128, a128, a128, a128, aP, a128, a128, a128, a128, aP, a128, a128, aP]

theorem xamt_pos (t : Fin 24) : 0 < xamt t := by
  have h1 : 0 < a32 := View.dmaCredit_pos _ (by decide)
  have h2 : 0 < a128 := View.dmaCredit_pos _ (by decide)
  have h3 : 0 < aP := View.dmaCredit_pos _ (by decide)
  fin_cases t <;> assumption

/-- The share of a buffer kept after lending `n` parts of it, and the `n`-th part lent. -/
def keepSh : ℕ → PosShare TreeShare
  | 0 => fullShare
  | n + 1 => (keepSh n).left
def lendSh (n : ℕ) : PosShare TreeShare := (keepSh n).right
/-- The share of its source copy `t` is lent. -/
def xshare : Fin 24 → PosShare TreeShare := ![lendSh 0, lendSh 1, lendSh 2, lendSh 3, lendSh 0, lendSh 1, lendSh 2, lendSh 3, lendSh 0, lendSh 1, lendSh 2,
  lendSh 0, lendSh 1, lendSh 0, lendSh 1, fullShare, lendSh 0, lendSh 1, lendSh 0, lendSh 1, fullShare, lendSh 0, lendSh 0, fullShare]

def Src (t : Fin 24) : sProp 𝕄 := (spc I t).at (xsrc t) (xshare t)
def Land (t : Fin 24) : sProp 𝕄 := (dpc I t).at (xdst t) fullShare
def LandAny (t : Fin 24) : sProp 𝕄 := (dpc I t).any (xdst t)

theorem land_any (t : Fin 24) : (Land I t : sProp 𝕄) ⊢ LandAny I t := by
  unfold Land LandAny; iintro H; iexists _; iexact H

instance src_storable (t : Fin 24) : BI.Storable (upEmb : UEmb _ 𝕄) (Src I t) := by unfold Src; infer_instance
instance land_storable (t : Fin 24) : BI.Storable (upEmb : UEmb _ 𝕄) (Land I t) := by unfold Land; infer_instance
instance landAny_storable (t : Fin 24) : BI.Storable (upEmb : UEmb _ 𝕄) (LandAny I t) := by unfold LandAny; infer_instance

end Cert.KernelIdeal.Att
-- ==== Proof.Sched.lean ====
/-
# The cross-device protocol: the schedule, what each device owes, the levels

Every cell has one round. A device's barrier cell is paid one unit by each other device, which hands over the windows of
its own buffers that the owner of the cell will write, and that its receive semaphores for them are in place. A copy's
send cell is paid by the copy with what was lent, its receive cell with the window at what the copy brought. A device
owes, from the start, the units of all it will signal and of all its copies at their receivers. Barriers are at level 1,
the receive cells of keys, values and queries at 2, those of the partial results (sent after the queries were waited for)
at 3.
-/
module

public import proofs.«01_k».proof.Proof.Table

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-! ## The schedule -/

/-- What device number `d` hands to device `e` with its barrier signal: the windows `e`'s copies land in. -/
def barPay (e : Dev nD) (d : ℕ) : sProp 𝕄 := bigSep (grp e.val d) fun t => iprop(LandAny I t ∗ reached ER (rcell t) 0)

/-- The duties of a barrier cell are the other devices. -/
def bdut (c : Dev nD) : Finset (Fin 24) := Finset.univ.filter fun d => d.val < 4 ∧ d.val ≠ c.val
def dn (c : Dev nD) : Fin 24 := ⟨c.val, Nat.lt_trans c.isLt (by decide)⟩

def Rd : Rounds.Schedule (GSem nD τ sig) (Fin 24) 𝕄 where
  duties g r := if r = 0 ∧ g.1.2 = .tc then (match g.2 with | .reg _ => bdut g.1.1 | .dma s => dut g.1.1 (sidx s)) else ∅
  unitless _ := False
  amount g _ t := match g.2 with | .reg _ => 1 | .dma _ => xamt t
  payload g _ t := match g.2 with | .reg _ => barPay I g.1.1 t.val | .dma s => if sidx s = xs t then Src I t else Land I t
  amount_pos g _ t _ := by
    rcases g with ⟨th, s | s⟩
    · exact Nat.one_pos
    · exact xamt_pos t

instance barPay_storable (e : Dev nD) (d : ℕ) : BI.Storable (upEmb : UEmb _ 𝕄) (barPay I e d) := by unfold barPay; infer_instance

instance Rd_payload_storable (g : GSem nD τ sig) (r : ℕ) (d : Fin 24) : BI.Storable (upEmb : UEmb _ 𝕄) ((Rd I).payload g r d) := by
  rcases g with ⟨th, s | s⟩
  · exact barPay_storable I th.1 d.val
  · show BI.Storable upEmb (if sidx s = xs d then Src I d else Land I d)
    split <;> infer_instance

theorem duties_bar (c : Dev nD) : (Rd I).duties (barCell c) 0 = bdut c := by
  show (if (0 : ℕ) = 0 ∧ (barCell c).1.2 = .tc then bdut c else ∅) = bdut c
  exact if_pos ⟨rfl, rfl⟩
theorem duties_dma (c : Dev nD) (k : Fin 24) : (Rd I).duties (dcell c k) 0 = dut c k := by
  show (if (0 : ℕ) = 0 ∧ (dcell c k).1.2 = .tc then dut c (sidx (dsem k)) else ∅) = dut c k
  rw [if_pos ⟨rfl, rfl⟩, sidx_dsem]
theorem duties_scell (t : Fin 24) : (Rd I).duties (scell t) 0 = {t} := (duties_dma I _ _).trans (dut_send t)
theorem duties_rcell (t : Fin 24) : (Rd I).duties (rcell t) 0 = {t} := (duties_dma I _ _).trans (dut_recv t)
theorem duties_later (g : GSem nD τ sig) : ∀ r, 1 ≤ r → (Rd I).duties g r = ∅ := fun r hr => if_neg fun h => by omega
theorem duties_none (c : Dev nD) (k : Fin 24) (h : dut c k = ∅) : ∀ r, 0 ≤ r → (Rd I).duties (dcell c k) r = ∅ := fun r _ => by
  rcases Nat.eq_zero_or_pos r with rfl | hr
  · rw [duties_dma, h]
  · exact duties_later I _ r hr

theorem amount_bar (c : Dev nD) (d : Fin 24) : (Rd I).amount (barCell c) 0 d = 1 := rfl
theorem amount_dma (c : Dev nD) (k : Fin 24) (t : Fin 24) : (Rd I).amount (dcell c k) 0 t = xamt t := rfl

theorem payload_bar (c : Dev nD) (d : Fin 24) : (Rd I).payload (barCell c) 0 d = barPay I c d.val := rfl
theorem payload_scell (t : Fin 24) : (Rd I).payload (scell t) 0 t = Src I t := if_pos (sidx_dsem _)
theorem payload_rcell (t : Fin 24) : (Rd I).payload (rcell t) 0 t = Land I t := if_neg (by rw [sidx_dsem]; exact xr_ne_xs t)

theorem bdut_card (c : Dev nD) : (bdut c).card = 3 := by revert c; decide

theorem expect_bar (c : Dev nD) : (Rd I).expect (barCell c) 0 = 3 := by
  unfold Schedule.expect Schedule.amountOf
  rw [duties_bar, Finset.sum_congr rfl fun d _ => amount_bar I c d, Finset.sum_const, bdut_card]; rfl
theorem expect_scell (t : Fin 24) : (Rd I).expect (scell t) 0 = xamt t := by
  unfold Schedule.expect Schedule.amountOf; rw [duties_scell, Finset.sum_singleton]; rfl
theorem expect_rcell (t : Fin 24) : (Rd I).expect (rcell t) 0 = xamt t := by
  unfold Schedule.expect Schedule.amountOf; rw [duties_rcell, Finset.sum_singleton]; rfl

theorem rest_scell (t : Fin 24) : bigSep ((Rd I).duties (scell t) 0 \ ∅) (fun d => (Rd I).payload (scell t) 0 d) = Src I t := by
  rw [Finset.sdiff_empty, duties_scell, bigSep_singleton, payload_scell]
theorem rest_rcell (t : Fin 24) : bigSep ((Rd I).duties (rcell t) 0 \ ∅) (fun d => (Rd I).payload (rcell t) 0 d) = Land I t := by
  rw [Finset.sdiff_empty, duties_rcell, bigSep_singleton, payload_rcell]

/-! A union of disjoint groups. -/

theorem bigSep_groups {J : Type} [DecidableEq J] (s : Finset J) (f : J → Finset (Fin 24)) (Φ : Fin 24 → sProp 𝕄)
    (h : ∀ i ∈ s, ∀ j ∈ s, i ≠ j → Disjoint (f i) (f j)) : bigSep s (fun j => bigSep (f j) Φ) = bigSep (s.biUnion f) Φ := by
  induction s using Finset.induction_on with
  | empty => rw [Finset.biUnion_empty, bigSep_empty, bigSep_empty]
  | insert j s hj ih =>
    have hd : Disjoint (f j) (s.biUnion f) := (Finset.disjoint_biUnion_right _ _ _).mpr fun i hi =>
      h j (Finset.mem_insert_self _ _) i (Finset.mem_insert_of_mem hi) fun e => hj (e ▸ hi)
    rw [bigSep_insert hj, Finset.biUnion_insert, bigSep_union hd,
      ih fun a ha b hb => h a (Finset.mem_insert_of_mem ha) b (Finset.mem_insert_of_mem hb)]

theorem grp_disj {s d s' d' : ℕ} (h : (s, d) ≠ (s', d')) : Disjoint (grp s d) (grp s' d') :=
  Finset.disjoint_left.mpr fun t h1 h2 => h (by
    have a := (Finset.mem_filter.mp h1).2; have b := (Finset.mem_filter.mp h2).2
    rw [← a.1, ← a.2, b.1, b.2])

theorem grps_src (c : Dev nD) : (bdut c).biUnion (fun d => grp c.val d.val) = mine c := by revert c; decide
theorem grps_dst (c : Dev nD) : (Finset.univ.erase c).biUnion (fun e : Dev nD => grp e.val c.val) = inc c := by revert c; decide

theorem rest_bar (c : Dev nD) : bigSep ((Rd I).duties (barCell c) 0 \ ∅) (fun d => (Rd I).payload (barCell c) 0 d)
    = bigSep (mine c) fun t => iprop(LandAny I t ∗ reached ER (rcell t) 0) := by
  rw [Finset.sdiff_empty, duties_bar, ← grps_src c]
  exact bigSep_groups (bdut c) (fun d => grp c.val d.val) _ fun i _ j _ hij => grp_disj fun h => hij (Fin.ext (congrArg Prod.snd h))

/-! ## What a device owes -/

/-- Who has the copies `un` and the signals to `S` still to make owes their units. -/
def ow (un : Finset (Fin 24)) (S : Finset (Dev nD)) : CellTallies nD τ sig Unit :=
  (∑ t ∈ un, tallyAt (rcell t) () (xamt t)) + ∑ e ∈ S, tallyAt (barCell e) () 1
/-- What a device owes from the start. -/
def O₀ (c : Dev nD) : CellTallies nD τ sig Unit := ow (mine c) (Finset.univ.erase c)

theorem ow_signal (un : Finset (Fin 24)) (S : Finset (Dev nD)) (e : Dev nD) (he : e ∈ S) :
    ow un S = ow un (S.erase e) + tallyAt (barCell e) () 1 := by
  unfold ow; rw [← Finset.sum_erase_add S _ he, add_assoc]
theorem ow_send (un : Finset (Fin 24)) (t : Fin 24) (ht : t ∈ un) : ow un ∅ = ow (un.erase t) ∅ + tallyAt (rcell t) () (xamt t) := by
  unfold ow
  rw [← Finset.sum_erase_add un _ ht, Finset.sum_empty, add_zero, add_zero]
theorem ow_none : ow ∅ ∅ = 0 := by unfold ow; rw [Finset.sum_empty, Finset.sum_empty, add_zero]

theorem sum_pos {J : Type} (s : Finset J) (f : J → CellTallies nD τ sig Unit) {g : GSem nD τ sig} {u : Unit}
    (h : 0 < (∑ i ∈ s, f i) g u) : ∃ i ∈ s, 0 < f i g u := by
  classical
  induction s using Finset.induction_on with
  | empty => rw [Finset.sum_empty] at h; exact absurd h (Nat.lt_irrefl 0)
  | insert j s hj ih =>
    rw [Finset.sum_insert hj, Pi.add_apply, Finsupp.add_apply] at h
    rcases Nat.add_pos_iff_pos_or_pos.mp h with h | h
    · exact ⟨j, Finset.mem_insert_self _ _, h⟩
    · obtain ⟨i, hi, h'⟩ := ih h; exact ⟨i, Finset.mem_insert_of_mem hi, h'⟩
theorem tally_pos {g g' : GSem nD τ sig} {u : Unit} {n : ℕ} (h : 0 < (tallyAt g () n : CellTallies nD τ sig Unit) g' u) : g' = g := by
  rw [tallyAt_apply] at h
  split at h
  · next hg => exact hg.1
  · exact absurd h (Nat.lt_irrefl 0)

theorem ow_pos {un : Finset (Fin 24)} {S : Finset (Dev nD)} {g : GSem nD τ sig} {u : Unit} (h : 0 < ow un S g u) :
    (∃ t ∈ un, g = rcell t) ∨ ∃ e ∈ S, g = barCell e := by
  unfold ow at h
  rw [Pi.add_apply, Finsupp.add_apply] at h
  rcases Nat.add_pos_iff_pos_or_pos.mp h with h | h
  · obtain ⟨t, ht, h⟩ := sum_pos _ _ h; exact .inl ⟨t, ht, tally_pos h⟩
  · obtain ⟨t, ht, h⟩ := sum_pos _ _ h; exact .inr ⟨t, ht, tally_pos h⟩

/-! ## Levels -/

/-- The level of a semaphore of the kernel's own. -/
def klev : Fin 24 → ℕ := ![0, 0, 0, 0, 2, 2, 2, 2, 0, 0, 0, 0, 2, 2, 2, 2, 0, 0, 0, 2, 0, 3, 3, 3]

def L (g : GSem nD τ sig) : Finset Unit := if g.1.2 = .tc then {()} else ∅
def lv (g : GSem nD τ sig) (_ : Unit) : ℕ := match g.2 with | .reg _ => 1 | .dma s => klev (sidx s)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_dma (c : Dev nD) (k : Fin 24) : lv (dcell c k) () = klev k := congrArg klev (sidx_dsem k)
theorem klev_recv (t : Fin 24) : 1 < klev (xr t) := by revert t; decide

/-- A device may wait on a cell below all it owes. -/
theorem mayWait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem mayWait_bar (c : Dev nD) (un : Finset (Fin 24)) : (levAts L lv : sProp 𝕄) ⊢ MayWait (c : Thread nD τ) (.reg barS) () (ow un ∅) :=
  mayWait c _ _ fun g u hg => by
    rcases ow_pos hg with ⟨t, -, rfl⟩ | ⟨e, he, -⟩
    · exact ⟨rfl, by rw [show u = () from rfl, lv_dma]; exact klev_recv t⟩
    · exact absurd he (Finset.notMem_empty e)
theorem mayWait_dma (c : Dev nD) (k : Fin 24) (un : Finset (Fin 24)) (h : ∀ t ∈ un, klev k < klev (xr t)) :
    (levAts L lv : sProp 𝕄) ⊢ MayWait (c : Thread nD τ) (.dma (dsem k)) () (ow un ∅) :=
  mayWait c _ _ fun g u hg => by
    rcases ow_pos hg with ⟨t, ht, rfl⟩ | ⟨e, he, -⟩
    · refine ⟨rfl, ?_⟩
      rw [show u = () from rfl, lv_dma, lv_dma]
      exact h t ht
    · exact absurd he (Finset.notMem_empty e)

end Cert.KernelIdeal.Att
-- ==== Proof.Steps.lean ====
/-
# The protocol's steps

What a device holds of the protocol, and how each signal, wait and copy changes it. `Pers` is shared knowledge: the
cells' invariants, the levels, that the cells are in place. `PB c S` is device `c` before its barrier wait, with the
devices `S` still to signal. `PS c un sc rc wt` is it afterwards: the copies `un` still to make, the send waits `sc` and
the receive waits `rc` still to come, the semaphores `wt` waited for.
-/
module

public import proofs.«01_k».proof.Proof.Sched
public import Idealize.SL.ProofMode.BigOp

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-! ## What everyone knows -/

/-- The cells' invariants, under the names `K`. -/
def invs (K : GSem nD τ sig → ℕ) : sProp 𝕄 :=
  iprop((bigSep Finset.univ fun c : Dev nD => cellInv ER (Rd I) (K (barCell c)) (barCell c))
    ∗ bigSep Finset.univ fun x : Dev nD × Fin 24 => cellInv ER (Rd I) (K (dcell x.1 x.2)) (dcell x.1 x.2))
instance invs_persistent (K : GSem nD τ sig → ℕ) : BI.Persistent (invs I K) := by unfold invs; infer_instance

theorem invs_bar (K : GSem nD τ sig → ℕ) (c : Dev nD) : invs I K ⊢ cellInv ER (Rd I) (K (barCell c)) (barCell c) := by
  unfold invs
  exact sep_elim_left.trans (bigSep_elim (Φ := fun c : Dev nD => cellInv ER (Rd I) (K (barCell c)) (barCell c)) (Finset.mem_univ c))
theorem invs_dma (K : GSem nD τ sig → ℕ) (c : Dev nD) (k : Fin 24) : invs I K ⊢ cellInv ER (Rd I) (K (dcell c k)) (dcell c k) := by
  unfold invs
  exact sep_elim_right.trans (bigSep_elim (Φ := fun x : Dev nD × Fin 24 => cellInv ER (Rd I) (K (dcell x.1 x.2)) (dcell x.1 x.2)) (Finset.mem_univ (c, k)))

/-- With the levels, that the barriers are in place, and that device `c`'s own semaphores are. -/
def Pers (K : GSem nD τ sig → ℕ) (c : Dev nD) : sProp 𝕄 :=
  iprop(invs I K ∗ levAts L lv ∗ (bigSep Finset.univ fun e : Dev nD => reached ER (barCell e) 0)
    ∗ bigSep Finset.univ fun k : Fin 24 => reached ER (dcell c k) 0)
instance Pers_persistent (K : GSem nD τ sig → ℕ) (c : Dev nD) : BI.Persistent (Pers I K c) := by unfold Pers; infer_instance

theorem pers_invs (K : GSem nD τ sig → ℕ) (c : Dev nD) : Pers I K c ⊢ invs I K := by unfold Pers; exact sep_elim_left
theorem pers_lev (K : GSem nD τ sig → ℕ) (c : Dev nD) : Pers I K c ⊢ levAts L lv := by
  unfold Pers; exact sep_elim_right.trans sep_elim_left
theorem pers_bar (K : GSem nD τ sig → ℕ) (c e : Dev nD) : Pers I K c ⊢ reached ER (barCell e) 0 := by
  unfold Pers
  exact sep_elim_right.trans (sep_elim_right.trans (sep_elim_left.trans
    (bigSep_elim (Φ := fun e : Dev nD => reached ER (barCell e) 0) (Finset.mem_univ e))))
theorem pers_dma (K : GSem nD τ sig → ℕ) (c : Dev nD) (k : Fin 24) : Pers I K c ⊢ reached ER (dcell c k) 0 := by
  unfold Pers
  exact sep_elim_right.trans (sep_elim_right.trans (sep_elim_right.trans
    (bigSep_elim (Φ := fun k : Fin 24 => reached ER (dcell c k) 0) (Finset.mem_univ k))))

/-! ## What a device holds -/

/-- The tokens of one copy: for its send semaphore and its receive semaphore. -/
def tok2 (t : Fin 24) : sProp 𝕄 := iprop(dutyTok ER (scell t) 0 t ∗ dutyTok ER (rcell t) 0 t)
/-- What a device may wait with on the receive semaphore of a copy, and on its send semaphore. -/
def credR (t : Fin 24) : sProp 𝕄 := cred (tallyAt (rcell t) () (xamt t))
def credS (t : Fin 24) : sProp 𝕄 := cred (tallyAt (scell t) () (xamt t))
/-- Device `c` at its semaphores: past those of `wt`. -/
def posn (c : Dev nD) (wt : Finset (Fin 24)) : sProp 𝕄 := bigSep Finset.univ fun k : Fin 24 => atPos ER (dcell c k) (if k ∈ wt then 1 else 0) ∅ 0

/-- What device `c` has ready for the barrier of device `e`. -/
def sig1 (c e : Dev nD) : sProp 𝕄 := iprop(dutyTok ER (barCell e) 0 (dn c) ∗ bigSep (grp e.val c.val) fun t => LandAny I t)
/-- What device `c` has ready for copy `t` once the barrier is passed. -/
def rdy (t : Fin 24) : sProp 𝕄 := iprop(tok2 t ∗ LandAny I t ∗ reached ER (rcell t) 0)

def PB (c : Dev nD) (S : Finset (Dev nD)) : sProp 𝕄 :=
  iprop((∃ W, owes (c : Thread nD τ) (ow (mine c) S) W) ∗ bigSep S (sig1 I c) ∗ cred (tallyAt (barCell c) () 3) ∗ atPos ER (barCell c) 0 ∅ 0
    ∗ bigSep (mine c) tok2 ∗ bigSep (inc c) credR ∗ posn c ∅)

def PS (c : Dev nD) (un sc rc wt : Finset (Fin 24)) : sProp 𝕄 :=
  iprop((∃ W, owes (c : Thread nD τ) (ow un ∅) W) ∗ bigSep un (rdy I) ∗ bigSep sc credS ∗ bigSep rc credR ∗ posn c wt ∗ atPos ER (barCell c) 1 ∅ 0)

theorem pick {J : Type} [DecidableEq J] {s : Finset J} {i : J} (hi : i ∈ s) (Φ : J → sProp 𝕄) :
    bigSep s Φ = iprop(Φ i ∗ bigSep (s.erase i) Φ) := bigSep_erase hi
theorem put {J : Type} [DecidableEq J] {s : Finset J} {i : J} (hi : i ∉ s) (Φ : J → sProp 𝕄) :
    bigSep (insert i s) Φ = iprop(Φ i ∗ bigSep s Φ) := bigSep_insert hi

/-- With a fact `R` that stays, each part can be changed. -/
theorem each {J : Type} [DecidableEq J] (s : Finset J) (R : sProp 𝕄) [BI.Persistent R] {Φ Ψ : J → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert i s hi ih =>
    rw [put hi, put hi]
    iintro ⟨#HR, Hi, Hs⟩
    isplitl [Hi]
    · iapply (h i (Finset.mem_insert_self i s)); isplitr; · iexact HR
      iexact Hi
    iapply (ih fun j hj => h j (Finset.mem_insert_of_mem hj)); isplitr; · iexact HR
    iexact Hs

theorem posn_step (c : Dev nD) (wt : Finset (Fin 24)) (k : Fin 24) (hk : k ∉ wt) :
    (posn c wt : sProp 𝕄) ⊢ iprop(atPos ER (dcell c k) 0 ∅ 0 ∗ (atPos ER (dcell c k) 1 ∅ 0 -∗ posn c (insert k wt))) := by
  have e1 : (posn c wt : sProp 𝕄) = iprop(atPos ER (dcell c k) 0 ∅ 0
      ∗ bigSep (Finset.univ.erase k) fun k : Fin 24 => atPos ER (dcell c k) (if k ∈ wt then 1 else 0) ∅ 0) := by
    unfold posn; rw [pick (Finset.mem_univ k), if_neg hk]
  have e2 : (posn c (insert k wt) : sProp 𝕄) = iprop(atPos ER (dcell c k) 1 ∅ 0
      ∗ bigSep (Finset.univ.erase k) fun k : Fin 24 => atPos ER (dcell c k) (if k ∈ wt then 1 else 0) ∅ 0) := by
    unfold posn; rw [pick (Finset.mem_univ k), if_pos (Finset.mem_insert_self _ _)]
    congr 1
    refine bigSep_congr fun i hi => ?_
    have hp : (i ∈ insert k wt) ↔ (i ∈ wt) := ⟨fun h => (Finset.mem_insert.mp h).resolve_left (Finset.ne_of_mem_erase hi), Finset.mem_insert_of_mem⟩
    simp only [hp]
  rw [e1, e2]
  iintro ⟨H, Hr⟩
  isplitl [H]; · iexact H
  iintro H
  isplitl [H]; · iexact H
  iexact Hr

/-! ## The barrier -/

theorem dn_mem {c e : Dev nD} (h : e ≠ c) : dn c ∈ bdut e := by revert c e; decide

theorem signal_step {α : Type} {Q : α → sProp 𝕄} {Es : Set ℕ} (K : GSem nD τ sig → ℕ) (c e : Dev nD) (S : Finset (Dev nD)) (he : e ∈ S) (hc : e ≠ c)
    {dst : Thread nD τ} {sem : Sem sig} {n : ℤ} {k : PUnit.{1} → Prog (TpuEff nD τ sig (Elt F) Λ₀ .tc) α}
    (hd : dst = (e : Thread nD τ)) (hs : sem = barS) (hn : n = 1) :
    iprop(Pers I K c ∗ PB I c S) ⊢ iprop((PB I c (S.erase e) -∗ wp frame (wpE (defs₀ (F := F)) 𝒱₀ (c : Thread nD τ) none) Es (k ⟨⟩) Q)
      -∗ wp frame (wpE (defs₀ (F := F)) 𝒱₀ (c : Thread nD τ) none) Es (.op (.semSignal dst sem n) k) Q) := by
  subst hd hs hn
  unfold PB
  rw [pick he]
  unfold sig1
  iintro ⟨#HP, ⟨%W, HO⟩, ⟨⟨Ht, HL⟩, HS⟩, Hcb, Hat, Htk, Hcr, Hpo⟩ Hk
  iapply (Rounds.wp_signal 𝒱₀ ER (Rd I) (c : Thread nD τ) none (dst := (e : Thread nD τ)) (sem := barS) (r := 0) (d := dn c) (κ := K (barCell e))
      (by rw [duties_bar]; exact dn_mem hc) (amount_bar I e (dn c)) () (ow (mine c) (S.erase e)) (ow_signal _ _ _ he)) $$ [HO Ht HL]
  · isplitr; · iapply (invs_bar I K e); iapply (pers_invs I K c); iexact HP
    isplitl [HO]; · iexact HO
    isplitl [Ht]; · iexact Ht
    isplitl [HL]
    · rw [payload_bar]; unfold barPay
      rw [show (dn c).val = c.val from rfl]
      have h : iprop(Pers I K c ∗ bigSep (grp e.val c.val) fun t => LandAny I t) ⊢ bigSep (grp e.val c.val) fun t => iprop(LandAny I t ∗ reached ER (rcell t) 0) :=
        each _ _ fun t ht => by
          iintro ⟨#HP, HL⟩
          isplitl [HL]; · iexact HL
          rw [show rcell t = dcell c (xr t) from congrArg (fun d => dcell d (xr t)) (show xdst t = c from Fin.ext (Finset.mem_filter.mp ht).2.2)]
          iapply (pers_dma I K c (xr t)); iexact HP
      iapply h
      isplitr; · iexact HP
      iexact HL
    · iapply (pers_bar I K c e); iexact HP
  iintro HO
  iapply Hk
  isplitl [HO]; · iexists W; iexact HO
  isplitl [HS]; · iexact HS
  isplitl [Hcb]; · iexact Hcb
  isplitl [Hat]; · iexact Hat
  isplitl [Htk]; · iexact Htk
  isplitl [Hcr]; · iexact Hcr
  iexact Hpo

/-- Past the barrier a device has all its copies ready. -/
theorem barrier_step {α : Type} {Q : α → sProp 𝕄} (K : GSem nD τ sig → ℕ) (c : Dev nD) {S : Finset (Dev nD)} (hS : S = ∅) {sem : Sem sig} {n : ℕ} {k : PUnit.{1} → Prog (TpuEff nD τ sig (Elt F) Λ₀ .tc) α}
    (hs : sem = barS) (hn : n = 3) :
    iprop(Pers I K c ∗ PB I c S) ⊢ iprop((PS I c (mine c) ∅ (inc c) ∅ -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem n) k) Q) := by
  subst hS hs hn
  unfold PB PS
  iintro ⟨#HP, ⟨%W, HO⟩, -, Hcb, Hat, Htk, Hcr, Hpo⟩ Hk
  iapply (Rounds.wp_wait_rest_token 𝒱₀ ER (Rd I) (c : Thread nD τ) none (κ := K (barCell c))
      (wpE_semWait_eq 𝒱₀ (c : Thread nD τ) none Set.univ) (Set.mem_univ _) () (O := ow (mine c) ∅) (W := W) (R := 0) (m := 0) (T := ∅)
      ((Nat.zero_add 3).trans (expect_bar I c).symm)) $$ [Hcb HO Hat]
  · isplitr; · iapply (invs_bar I K c); iapply (pers_invs I K c); iexact HP
    isplitl [Hcb]; · iexact Hcb
    isplitl [HO]; · iexact HO
    isplitr; · iapply (mayWait_bar c (mine c)); iapply (pers_lev I K c); iexact HP
    iexact Hat
  iintro ⟨HO, Hat, -, Hpay⟩
  ihave Hp := (Entails.of_eq (rest_bar I c)) $$ Hpay
  iapply Hk
  isplitl [HO]; · iexists _; iexact HO
  isplitl [Htk Hp]
  · unfold rdy
    have h : iprop(bigSep (mine c) tok2 ∗ bigSep (mine c) fun t => iprop(LandAny I t ∗ reached ER (rcell t) 0))
        = bigSep (mine c) fun t => iprop(tok2 t ∗ LandAny I t ∗ reached ER (rcell t) 0) :=
      (bigSep_sep (mine c) tok2 (fun t => iprop(LandAny I t ∗ reached ER (rcell t) 0))).symm
    iapply (Entails.of_eq h)
    isplitl [Htk]; · iexact Htk
    iexact Hp
  isplitr; · rw [bigSep_empty]; iempintro
  isplitl [Hcr]; · iexact Hcr
  isplitl [Hpo]; · iexact Hpo
  iexact Hat

/-! ## A copy, and its waits -/

theorem send_step {α : Type} {Q : α → sProp 𝕄} {Es : Set ℕ} (K : GSem nD τ sig → ℕ) (c : Dev nD) (t : Fin 24) {un sc rc wt : Finset (Fin 24)} (ht : t ∈ un) (hsc : t ∉ sc) (hc : xsrc t = c)
    {sp sp' : Space} {s : Shape} {e : EltTy} {c' : Thread nD τ} {src : Memref sig .tc sp s e} {dst : Memref sig c'.2.kind sp' s e}
    {hscr : dst.view.ref.isScScratch = false} {sS sem : SemLoc sig} {hsrc : src.view.WordExact} {hdst : dst.view.WordExact}
    {hsem : DmaTarget.Typed sp sem (.remote c' dst sS hscr)} {k : PUnit.{1} → Prog (TpuEff nD τ sig (Elt F) Λ₀ .tc) α}
    (hS : sS = .dma (dsem (xs t))) (hc' : c' = (xdst t : Thread nD τ)) (hR : sem = .dma (dsem (xr t)))
    (hN : dst.view.amount sem = xamt t)
    (fs : Buf (Elt F) (src.view.loc (c : Thread nD τ))) (q : PosShare TreeShare)
    (hs₁ : Src I t ⊢ (src.view.loc (c : Thread nD τ) ↦[src.view.set]{q} fs : sProp 𝕄))
    (hs₂ : (src.view.loc (c : Thread nD τ) ↦[src.view.set]{q} fs : sProp 𝕄) ⊢ Src I t)
    (hl : LandAny I t ⊢ (∃ fd : Buf (Elt F) (dst.view.loc c'), dst.view.loc c' ↦[dst.view.set]{fullShare} fd : sProp 𝕄))
    (hp : ∀ fd : Buf (Elt F) (dst.view.loc c'), (dst.view.loc c' ↦[dst.view.set]{fullShare} dst.view.write (Elt F) fd (src.view.read (Elt F) fs) Finset.univ : sProp 𝕄) ⊢ Land I t) :
    iprop(Pers I K c ∗ PS I c un sc rc wt ∗ Src I t) ⊢ iprop((PS I c (un.erase t) (insert t sc) rc wt -∗ wp frame (wpE (defs₀ (F := F)) 𝒱₀ (c : Thread nD τ) none) Es (k ⟨⟩) Q)
      -∗ wp frame (wpE (defs₀ (F := F)) 𝒱₀ (c : Thread nD τ) none) Es (.op (.enqueueDma src (.remote c' dst sS hscr) sem hsrc hdst hsem) k) Q) := by
  subst hS hR hc' hc
  unfold PS
  rw [pick ht, put hsc]
  unfold rdy tok2
  iintro ⟨#HP, ⟨⟨%W, HO⟩, ⟨⟨⟨Ht1, Ht2⟩, HL, #Hr2⟩, Hun⟩, Hsc, Hrc, Hpo, Hba⟩, HS⟩ Hk
  ihave HS := hs₁ $$ HS
  ihave HL := hl $$ HL
  icases HL with ⟨%fd, HL⟩
  iapply (Rounds.wp_send_pointsTo 𝒱₀ ER (Rd I) (xsrc t : Thread nD τ) none (c' := (xdst t : Thread nD τ)) (src := src) (dst := dst)
      (sS := .dma (dsem (xs t))) (sem := .dma (dsem (xr t))) (q := q) (fs := fs) (κ₁ := K (scell t)) (κ₂ := K (rcell t))
      (r₁ := 0) (r₂ := 0) (d₁ := t) (d₂ := t) (fd := fd)
      (by rw [duties_scell]; exact Finset.mem_singleton_self _) (by rw [duties_rcell]; exact Finset.mem_singleton_self _)
      () () (xamt t) hN (amount_dma I _ _ t) (amount_dma I _ _ t) (ow (un.erase t) ∅) (ow_send un t ht) (W := W)
      (by rw [payload_scell]; exact hs₂) (by rw [payload_rcell]; exact hp fd)) $$ [HS HL HO Ht1 Ht2]
  · isplitr; · iapply (invs_dma I K (xsrc t) (xs t)); iapply (pers_invs I K (xsrc t)); iexact HP
    isplitr; · iapply (invs_dma I K (xdst t) (xr t)); iapply (pers_invs I K (xsrc t)); iexact HP
    isplitl [HS]; · iexact HS
    isplitl [HL]; · iexact HL
    isplitl [HO]; · iexact HO
    isplitl [Ht1]; · iexact Ht1
    isplitr; · iapply (pers_dma I K (xsrc t) (xs t)); iexact HP
    isplitl [Ht2]; · iexact Ht2
    iexact Hr2
  iintro ⟨HcS, HO⟩
  iapply Hk
  isplitl [HO]; · iexists _; iexact HO
  isplitl [Hun]; · iexact Hun
  isplitl [Hsc HcS]
  · isplitl [HcS]; · unfold credS; iexact HcS
    iexact Hsc
  isplitl [Hrc]; · iexact Hrc
  isplitl [Hpo]; · iexact Hpo
  iexact Hba

theorem recv_step {α : Type} {Q : α → sProp 𝕄} (K : GSem nD τ sig → ℕ) (c : Dev nD) (t : Fin 24) {un sc rc wt : Finset (Fin 24)} (ht : t ∈ rc) (hc : xdst t = c) (hw : xr t ∉ wt)
    (hlev : ∀ u ∈ un, klev (xr t) < klev (xr u))
    {sp sp' : Space} {s : Shape} {e : EltTy} {sem : DmaSem sig} {src : Memref sig .tc sp s e} {dst : Memref sig .tc sp' s e}
    {hsrc : src.view.WordExact} {hdst : dst.view.WordExact} {k : PUnit.{1} → Prog (TpuEff nD τ sig (Elt F) Λ₀ .tc) α}
    (hs : sem = dsem (xr t)) (hN : dst.view.dmaCredit = xamt t) :
    iprop(Pers I K c ∗ PS I c un sc rc wt) ⊢ iprop((PS I c un sc (rc.erase t) (insert (xr t) wt) ∗ Land I t
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hs hc
  unfold PS
  rw [pick ht]
  iintro ⟨#HP, ⟨%W, HO⟩, Hun, Hsc, ⟨Hcr, Hrc⟩, Hpo, Hba⟩ Hk
  ihave Hpo := (posn_step (xdst t) wt (xr t) hw) $$ Hpo
  icases Hpo with ⟨Hat, Hpo⟩
  unfold credR
  iapply (Rounds.wp_wait_rest_token 𝒱₀ ER (Rd I) (xdst t : Thread nD τ) none (κ := K (rcell t))
      (wpE_waitDma2_eq 𝒱₀ (xdst t : Thread nD τ) none Set.univ) (Set.mem_univ _) () (O := ow un ∅) (W := W) (R := 0) (m := 0) (T := ∅)
      ((Nat.zero_add _).trans (hN.trans (expect_rcell I t).symm))) $$ [Hcr HO Hat]
  · isplitr; · iapply (invs_dma I K (xdst t) (xr t)); iapply (pers_invs I K (xdst t)); iexact HP
    isplitl [Hcr]; · rw [hN]; iexact Hcr
    isplitl [HO]; · iexact HO
    isplitr; · iapply (mayWait_dma (xdst t) (xr t) un hlev); iapply (pers_lev I K (xdst t)); iexact HP
    iexact Hat
  iintro ⟨HO, Hat, -, Hpay⟩
  ihave Hp := (Entails.of_eq (rest_rcell I t)) $$ Hpay
  iapply Hk
  isplitr [Hp]
  · isplitl [HO]; · iexists _; iexact HO
    isplitl [Hun]; · iexact Hun
    isplitl [Hsc]; · iexact Hsc
    isplitl [Hrc]; · iexact Hrc
    isplitl [Hpo Hat]; · iapply Hpo; iexact Hat
    iexact Hba
  iexact Hp

theorem sent_step {α : Type} {Q : α → sProp 𝕄} (K : GSem nD τ sig → ℕ) (c : Dev nD) (t : Fin 24) {un sc rc wt : Finset (Fin 24)} (ht : t ∈ sc) (hc : xsrc t = c) (hw : xs t ∉ wt) (hun : un = ∅)
    {sp sp' : Space} {s : Shape} {e : EltTy} {sem : DmaSem sig} {src : Memref sig .tc sp s e} {dst : Memref sig .tc sp' s e}
    {hsrc : src.view.WordExact} {hdst : dst.view.WordExact} {k : PUnit.{1} → Prog (TpuEff nD τ sig (Elt F) Λ₀ .tc) α}
    (hs : sem = dsem (xs t)) (hN : dst.view.dmaCredit = xamt t) :
    iprop(Pers I K c ∗ PS I c un sc rc wt) ⊢ iprop((PS I c un (sc.erase t) rc (insert (xs t) wt) ∗ Src I t
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hs hc hun
  unfold PS
  rw [pick ht]
  iintro ⟨#HP, ⟨%W, HO⟩, Hun, ⟨Hcr, Hsc⟩, Hrc, Hpo, Hba⟩ Hk
  ihave Hpo := (posn_step (xsrc t) wt (xs t) hw) $$ Hpo
  icases Hpo with ⟨Hat, Hpo⟩
  unfold credS
  iapply (Rounds.wp_wait_rest_token 𝒱₀ ER (Rd I) (xsrc t : Thread nD τ) none (κ := K (scell t))
      (wpE_waitDma2_eq 𝒱₀ (xsrc t : Thread nD τ) none Set.univ) (Set.mem_univ _) () (O := ow ∅ ∅) (W := W) (R := 0) (m := 0) (T := ∅)
      ((Nat.zero_add _).trans (hN.trans (expect_scell I t).symm))) $$ [Hcr HO Hat]
  · isplitr; · iapply (invs_dma I K (xsrc t) (xs t)); iapply (pers_invs I K (xsrc t)); iexact HP
    isplitl [Hcr]; · rw [hN]; iexact Hcr
    isplitl [HO]; · iexact HO
    isplitr; · rw [ow_none, MayWait_zero]; iempintro
    iexact Hat
  iintro ⟨HO, Hat, -, Hpay⟩
  ihave Hp := (Entails.of_eq (rest_scell I t)) $$ Hpay
  iapply Hk
  isplitr [Hp]
  · isplitl [HO]; · iexists _; iexact HO
    isplitl [Hun]; · iexact Hun
    isplitl [Hsc]; · iexact Hsc
    isplitl [Hrc]; · iexact Hrc
    isplitl [Hpo Hat]; · iapply Hpo; iexact Hat
    iexact Hba
  iexact Hp

/-! ## The end -/

/-- The semaphores device `c` uses. -/
def used (c : Dev nD) : Finset (Fin 24) := (mine c).image xs ∪ (inc c).image xr
theorem dut_unused (c : Dev nD) (k : Fin 24) (h : k ∉ used c) : dut c k = ∅ := by revert c k; decide

/-- When all has been waited for, the counters are all zero and nothing is owed. -/
theorem finish (K : GSem nD τ sig → ℕ) (c : Dev nD) {un sc rc wt : Finset (Fin 24)} (hun : un = ∅) (hwt : wt = used c) :
    iprop(Pers I K c ∗ PS I c un sc rc wt) ⊢ (|={Set.univ}=> iprop((∃ W, owes (c : Thread nD τ) (0 : CellTallies nD τ sig Unit) W)
      ∗ semVal (barCell c) 0 ∗ bigSep Finset.univ fun k : Fin 24 => semVal (dcell c k) 0) : sProp 𝕄) := by
  subst hun hwt
  unfold PS posn
  iintro ⟨#HP, ⟨%W, HO⟩, -, -, -, Hpo, Hba⟩
  imod (Rounds.cell_close ER (Rd I) (g := barCell c) (Set.mem_univ (K (barCell c))) id (duties_later I (barCell c))) $$ [Hba] with Hb0
  · isplitr; · iapply (invs_bar I K c); iapply (pers_invs I K c); iexact HP
    iexact Hba
  have h : iprop(Pers I K c ∗ bigSep Finset.univ fun k : Fin 24 => atPos ER (dcell c k) (if k ∈ used c then 1 else 0) ∅ 0)
      ⊢ bigSep Finset.univ fun k : Fin 24 => iprop(|={Set.univ}=> (semVal (dcell c k) 0 : sProp 𝕄)) :=
    each _ _ fun k _ => by
      iintro ⟨#HP, Hat⟩
      imod (Rounds.cell_close ER (Rd I) (g := dcell c k) (Set.mem_univ (K (dcell c k))) id (R := if k ∈ used c then 1 else 0) (by
        split
        · exact duties_later I (dcell c k)
        · next h => exact duties_none I c k (dut_unused c k h))) $$ [Hat] with Hv
      · isplitr; · iapply (invs_dma I K c k); iapply (pers_invs I K c); iexact HP
        iexact Hat
      imodintro
      iexact Hv
  ihave H := h $$ [Hpo]
  · isplitr; · iexact HP
    iexact Hpo
  imod (bigSep_fupd Finset.univ fun k : Fin 24 => (semVal (dcell c k) 0 : sProp 𝕄)) $$ [H] with Hv
  · iexact H
  imodintro
  isplitl [HO]; · iexists W; rw [← ow_none]; iexact HO
  isplitl [Hb0]; · iexact Hb0
  iexact Hv

end Cert.KernelIdeal.Att
-- ==== Proof.Copies.lean ====
/-
# The copies, one by one

What each kind of copy brings is what `kgAll`, `vgAll` and `ppAll` say; the state of a device by how many of its copies
are made, waited for, and received.
-/
module

public import proofs.«01_k».proof.Proof.Steps
public import Idealize.ShloMosaic.Lib.Pipeline.Value

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-! ## What a copy brings -/

/-- A window written with what another reads holds what the window reads the same of. -/
theorem landed {sp sp' : Space} {s : Shape} {e : EltTy} (c : Dev nD) (src : Memref sig .tc sp s e) (dst : Memref sig .tc sp' s e)
    (fs : src.view.ty.Contents (Elt F)) (fd g : dst.view.ty.Contents (Elt F)) (h : dst.view.read (Elt F) g = src.view.read (Elt F) fs) :
    (dst.view.loc (c : Thread nD τ) ↦[dst.view.set]{fullShare} dst.view.write (Elt F) fd (src.view.read (Elt F) fs) Finset.univ : sProp 𝕄)
      = (dst.view.loc (c : Thread nD τ) ↦[dst.view.set]{fullShare} g) :=
  pointsTo_congr fun i hi => by
    rw [← h, View.write_read_eq_piecewise]
    exact Finset.piecewise_eq_of_mem _ _ _ hi

theorem kg_read (p : Fin 4) (lo n : ℕ) (h : ∀ a, ![0, lo, 0] a + ![2, n, 256] a ≤ S2x256x256.size a)
    (h' : ∀ a, ![p.val, 0, lo, 0] a + ![1, 2, n, 256] a ≤ S4x2x256x256.size a) (hq : (⟨4, ![1, 2, n, 256]⟩ : Shape).Squeezes ⟨3, ![2, n, 256]⟩)
    (hc : (⟨4, ![1, 2, n, 256]⟩ : Shape).ShapeCasts ⟨3, ![2, n, 256]⟩) :
    (slotRows kgM p.val lo n h' hq).view.read (Elt F) (kgAll I) = (rowsOf kM lo n h).view.read (Elt F) (I.k p) := by
  funext x
  rw [Memref.read_squeeze_slice (hc := hc)]
  refine (shapeCast_apply (s := ⟨4, ![1, 2, n, 256]⟩) _ hc x (ix4 (0 : Fin 1) (x 0) (x 1) (x 2)) (by
    rw [Shape.rowMajor_val_four, Shape.rowMajor_val_three]
    show (((0 : ℕ) * 2 + (x 0).val) * n + (x 1).val) * 256 + (x 2).val = ((x 0).val * n + (x 1).val) * 256 + (x 2).val
    rw [Nat.zero_mul, Nat.zero_add])).trans ?_
  show I.k _ _ = I.k p _
  congr 1
  funext a; match a with
  | ⟨0, _⟩ => rfl
  | ⟨1, _⟩ => rfl
  | ⟨2, _⟩ => rfl

theorem vg_read (p : Fin 4) (lo n : ℕ) (h : ∀ a, ![0, lo, 0] a + ![2, n, 256] a ≤ S2x256x256.size a)
    (h' : ∀ a, ![p.val, 0, lo, 0] a + ![1, 2, n, 256] a ≤ S4x2x256x256.size a) (hq : (⟨4, ![1, 2, n, 256]⟩ : Shape).Squeezes ⟨3, ![2, n, 256]⟩)
    (hc : (⟨4, ![1, 2, n, 256]⟩ : Shape).ShapeCasts ⟨3, ![2, n, 256]⟩) :
    (slotRows vgM p.val lo n h' hq).view.read (Elt F) (vgAll I) = (rowsOf vM lo n h).view.read (Elt F) (I.v p) := by
  funext x
  rw [Memref.read_squeeze_slice (hc := hc)]
  refine (shapeCast_apply (s := ⟨4, ![1, 2, n, 256]⟩) _ hc x (ix4 (0 : Fin 1) (x 0) (x 1) (x 2)) (by
    rw [Shape.rowMajor_val_four, Shape.rowMajor_val_three]
    show (((0 : ℕ) * 2 + (x 0).val) * n + (x 1).val) * 256 + (x 2).val = ((x 0).val * n + (x 1).val) * 256 + (x 2).val
    rw [Nat.zero_mul, Nat.zero_add])).trans ?_
  show I.v _ _ = I.v p _
  congr 1
  funext a; match a with
  | ⟨0, _⟩ => rfl
  | ⟨1, _⟩ => rfl
  | ⟨2, _⟩ => rfl

theorem pp_read (i : Fin 3) (h : ∀ a, ![i.val, 0, 0, 0, 0] a + ![1, 2, 4, 32, 128] a ≤ S3x2x4x32x128.size a)
    (hc : S1x2x4x32x128.ShapeCasts S2x4x32x128) :
    (partOf i.val h sqP).view.read (Elt F) (ppAll I) = pM.view.read (Elt F) (I.p ⟨i.val + 1, Nat.succ_lt_succ i.isLt⟩) := by
  funext x
  rw [Memref.read_squeeze_slice (hc := hc)]
  refine (shapeCast_apply (s := S1x2x4x32x128) _ hc x (ix5 (0 : Fin 1) (x 0) (x 1) (x 2) (x 3)) (by
    rw [Shape.rowMajor_val_five, Shape.rowMajor_val_four]
    show ((((0 : ℕ) * 2 + (x 0).val) * 4 + (x 1).val) * 32 + (x 2).val) * 128 + (x 3).val = (((x 0).val * 4 + (x 1).val) * 32 + (x 2).val) * 128 + (x 3).val
    rw [Nat.zero_mul, Nat.zero_add])).trans ?_
  show I.p _ _ = I.p _ _
  congr 1
  funext a; match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 0 + 1 * (x 2).val = (x 2).val by omega)
  | ⟨3, _⟩ => exact Fin.ext (show 0 + 1 * (x 3).val = (x 3).val by omega)

theorem sc32 : (⟨4, ![1, 2, 32, 256]⟩ : Shape).ShapeCasts ⟨3, ![2, 32, 256]⟩ := by decide
theorem sc128 : (⟨4, ![1, 2, 128, 256]⟩ : Shape).ShapeCasts ⟨3, ![2, 128, 256]⟩ := by decide
theorem scP : S1x2x4x32x128.ShapeCasts S2x4x32x128 := by decide

/-! ## A device's place in its program -/

/-- The first copy of each device, and the first that is not its own any more; how many it receives. -/
def nA : Dev nD → ℕ := ![0, 11, 16, 21]
def nE : Dev nD → ℕ := ![11, 16, 21, 24]
def rE : Dev nD → ℕ := ![5, 7, 7, 5]
/-- The place of a copy in the order in which its receiver waits. -/
def xk : Fin 24 → ℕ := ![1, 2, 1, 1, 3, 4, 3, 4, 0, 0, 0, 0, 2, 1, 5, 2, 5, 2, 6, 4, 3, 3, 6, 4]
/-- The copies made when the copy is waited for: those of partial results come after the queries were waited for. -/
def nR : Fin 24 → ℕ := ![16, 16, 24, 21, 16, 16, 24, 21, 15, 20, 23, 11, 21, 11, 21, 11, 16, 24, 16, 24, 11, 21, 21, 11]
/-- The receipts when a copy is made. -/
def rS : Fin 24 → ℕ := ![0, 0, 0, 0, 0, 0, 0, 0, 0, 0, 0, 0, 0, 0, 0, 1, 0, 0, 0, 0, 1, 0, 0, 1]

def unA (c : Dev nD) (n : ℕ) : Finset (Fin 24) := (mine c).filter fun u => n ≤ u.val
def scA (c : Dev nD) (n m : ℕ) : Finset (Fin 24) := (mine c).filter fun u => m ≤ u.val ∧ u.val < n
def rcA (c : Dev nD) (r : ℕ) : Finset (Fin 24) := (inc c).filter fun u => r ≤ xk u
def wtA (c : Dev nD) (m r : ℕ) : Finset (Fin 24) := ((mine c).filter fun u => u.val < m).image xs ∪ ((inc c).filter fun u => xk u < r).image xr

/-- Device `c`: the copies before `n` made, those before `m` waited for, `r` copies received. -/
def PN (c : Dev nD) (n m r : ℕ) : sProp 𝕄 := PS I c (unA c n) (scA c n m) (rcA c r) (wtA c m r)

theorem unA_start : ∀ c, unA c (nA c) = mine c := by decide
theorem scA_start : ∀ c, scA c (nA c) (nA c) = ∅ := by decide
theorem rcA_start : ∀ c, rcA c 0 = inc c := by decide
theorem wtA_start : ∀ c, wtA c (nA c) 0 = ∅ := by decide
theorem unA_end : ∀ c, unA c (nE c) = ∅ := by decide
theorem wtA_end : ∀ c, wtA c (nE c) (rE c) = used c := by decide

theorem un_mem : ∀ t, t ∈ unA (xsrc t) t.val := by decide
theorem un_next : ∀ t, (unA (xsrc t) t.val).erase t = unA (xsrc t) (t.val + 1) := by decide
theorem sc_not : ∀ t, t ∉ scA (xsrc t) t.val (nA (xsrc t)) := by decide
theorem sc_next : ∀ t, insert t (scA (xsrc t) t.val (nA (xsrc t))) = scA (xsrc t) (t.val + 1) (nA (xsrc t)) := by decide

theorem sw_mem : ∀ t, t ∈ scA (xsrc t) (nE (xsrc t)) t.val := by decide
theorem sw_next : ∀ t, (scA (xsrc t) (nE (xsrc t)) t.val).erase t = scA (xsrc t) (nE (xsrc t)) (t.val + 1) := by decide
theorem sw_wt : ∀ t, xs t ∉ wtA (xsrc t) t.val (rE (xsrc t)) := by decide
theorem sw_wtn : ∀ t, insert (xs t) (wtA (xsrc t) t.val (rE (xsrc t))) = wtA (xsrc t) (t.val + 1) (rE (xsrc t)) := by decide

theorem rw_mem : ∀ t, t ∈ rcA (xdst t) (xk t) := by decide
theorem rw_next : ∀ t, (rcA (xdst t) (xk t)).erase t = rcA (xdst t) (xk t + 1) := by decide
theorem rw_wt : ∀ t, xr t ∉ wtA (xdst t) (nA (xdst t)) (xk t) := by decide
theorem rw_wtn : ∀ t, insert (xr t) (wtA (xdst t) (nA (xdst t)) (xk t)) = wtA (xdst t) (nA (xdst t)) (xk t + 1) := by decide
theorem rw_lev : ∀ t, ∀ u ∈ unA (xdst t) (nR t), klev (xr t) < klev (xr u) := by decide

/-! ## The steps by number -/

theorem barrierN {α : Type} {Q : α → sProp 𝕄} (K : GSem nD τ sig → ℕ) (c : Dev nD) {S : Finset (Dev nD)} (hS : S = ∅) {sem : Sem sig} {n : ℕ} {k : PUnit.{1} → Prog (TpuEff nD τ sig (Elt F) Λ₀ .tc) α}
    (hs : sem = barS) (hn : n = 3) :
    iprop(Pers I K c ∗ PB I c S) ⊢ iprop((PN I c (nA c) (nA c) 0 -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem n) k) Q) := by
  unfold PN
  rw [unA_start, scA_start, rcA_start, wtA_start]
  exact barrier_step I K c hS hs hn

theorem recvN {α : Type} {Q : α → sProp 𝕄} (K : GSem nD τ sig → ℕ) (c : Dev nD) (t : Fin 24) (hc : xdst t = c)
    {sp sp' : Space} {s : Shape} {e : EltTy} {sem : DmaSem sig} {src : Memref sig .tc sp s e} {dst : Memref sig .tc sp' s e}
    {hsrc : src.view.WordExact} {hdst : dst.view.WordExact} {k : PUnit.{1} → Prog (TpuEff nD τ sig (Elt F) Λ₀ .tc) α}
    (hs : sem = dsem (xr t)) (hN : dst.view.dmaCredit = xamt t) :
    iprop(Pers I K c ∗ PN I c (nR t) (nA c) (xk t)) ⊢ iprop((PN I c (nR t) (nA c) (xk t + 1) ∗ Land I t
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hc
  unfold PN
  rw [← rw_next, ← rw_wtn]
  exact recv_step I K (xdst t) t (rw_mem t) rfl (rw_wt t) (rw_lev t) hs hN

theorem sentN {α : Type} {Q : α → sProp 𝕄} (K : GSem nD τ sig → ℕ) (c : Dev nD) (t : Fin 24) (hc : xsrc t = c)
    {sp sp' : Space} {s : Shape} {e : EltTy} {sem : DmaSem sig} {src : Memref sig .tc sp s e} {dst : Memref sig .tc sp' s e}
    {hsrc : src.view.WordExact} {hdst : dst.view.WordExact} {k : PUnit.{1} → Prog (TpuEff nD τ sig (Elt F) Λ₀ .tc) α}
    (hs : sem = dsem (xs t)) (hN : dst.view.dmaCredit = xamt t) :
    iprop(Pers I K c ∗ PN I c (nE c) t.val (rE c)) ⊢ iprop((PN I c (nE c) (t.val + 1) (rE c) ∗ Src I t
        -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hc
  unfold PN
  rw [← sw_next, ← sw_wtn]
  exact sent_step I K (xsrc t) t (sw_mem t) rfl (sw_wt t) (unA_end _) hs hN

theorem finishN (K : GSem nD τ sig → ℕ) (c : Dev nD) :
    iprop(Pers I K c ∗ PN I c (nE c) (nE c) (rE c)) ⊢ (|={Set.univ}=> iprop((∃ W, owes (c : Thread nD τ) 0 W) ∗ semVal (barCell c) 0
      ∗ bigSep Finset.univ fun k : Fin 24 => semVal (dcell c k) 0) : sProp 𝕄) := by
  unfold PN
  exact finish I K c (unA_end c) (wtA_end c)

theorem sendN {α : Type} {Q : α → sProp 𝕄} {Es : Set ℕ} (K : GSem nD τ sig → ℕ) (c : Dev nD) (t : Fin 24) (hc : xsrc t = c)
    {sp sp' : Space} {s : Shape} {e : EltTy} {c' : Thread nD τ} {src : Memref sig .tc sp s e} {dst : Memref sig c'.2.kind sp' s e}
    {hscr : dst.view.ref.isScScratch = false} {sS sem : SemLoc sig} {hsrc : src.view.WordExact} {hdst : dst.view.WordExact}
    {hsem : DmaTarget.Typed sp sem (.remote c' dst sS hscr)} {k : PUnit.{1} → Prog (TpuEff nD τ sig (Elt F) Λ₀ .tc) α}
    (hS : sS = .dma (dsem (xs t))) (hc' : c' = (xdst t : Thread nD τ)) (hR : sem = .dma (dsem (xr t)))
    (hN : dst.view.amount sem = xamt t)
    (fs : Buf (Elt F) (src.view.loc (c : Thread nD τ))) (q : PosShare TreeShare)
    (hs : Src I t = (src.view.loc (c : Thread nD τ) ↦[src.view.set]{q} fs : sProp 𝕄))
    (hl : LandAny I t ⊢ (∃ fd : Buf (Elt F) (dst.view.loc c'), dst.view.loc c' ↦[dst.view.set]{fullShare} fd : sProp 𝕄))
    (hp : ∀ fd : Buf (Elt F) (dst.view.loc c'), (dst.view.loc c' ↦[dst.view.set]{fullShare} dst.view.write (Elt F) fd (src.view.read (Elt F) fs) Finset.univ : sProp 𝕄) ⊢ Land I t) :
    iprop(Pers I K c ∗ PN I c t.val (nA c) (rS t) ∗ Src I t) ⊢ iprop((PN I c (t.val + 1) (nA c) (rS t) -∗ wp frame (wpE (defs₀ (F := F)) 𝒱₀ (c : Thread nD τ) none) Es (k ⟨⟩) Q)
      -∗ wp frame (wpE (defs₀ (F := F)) 𝒱₀ (c : Thread nD τ) none) Es (.op (.enqueueDma src (.remote c' dst sS hscr) sem hsrc hdst hsem) k) Q) := by
  subst hc
  unfold PN
  rw [← un_next, ← sc_next]
  exact send_step I K (xsrc t) t (un_mem t) (sc_not t) rfl hS hc' hR hN fs q (Entails.of_eq hs) (Entails.of_eq hs.symm) hl hp

theorem sendK {α : Type} {Q : α → sProp 𝕄} {Es : Set ℕ} (K : GSem nD τ sig → ℕ) (c : Dev nD) (t : Fin 24) (hc : xsrc t = c)
    (p : Fin 4) (lo n : ℕ) (h : ∀ a, ![0, lo, 0] a + ![2, n, 256] a ≤ S2x256x256.size a)
    (h' : ∀ a, ![p.val, 0, lo, 0] a + ![1, 2, n, 256] a ≤ S4x2x256x256.size a) (hq : (⟨4, ![1, 2, n, 256]⟩ : Shape).Squeezes ⟨3, ![2, n, 256]⟩)
    (hcast : (⟨4, ![1, 2, n, 256]⟩ : Shape).ShapeCasts ⟨3, ![2, n, 256]⟩)
    (hs : spc I t = kPc I p lo n h) (hd : dpc I t = kgPc I p.val lo n h' hq)
    {c' : Dev nD} {hscr : (slotRows kgM p.val lo n h' hq).view.ref.isScScratch = false} {sS sem : SemLoc sig}
    {hsrc : (rowsOf kM lo n h).view.WordExact} {hdst : (slotRows kgM p.val lo n h' hq).view.WordExact}
    {hsem : DmaTarget.Typed .vmem sem (.remote (c' : Thread nD τ) (slotRows kgM p.val lo n h' hq) sS hscr)} {k : PUnit.{1} → Prog (TpuEff nD τ sig (Elt F) Λ₀ .tc) α}
    (hS : sS = .dma (dsem (xs t))) (hc' : c' = xdst t) (hR : sem = .dma (dsem (xr t)))
    (hN : (slotRows kgM p.val lo n h' hq).view.amount sem = xamt t) :
    iprop(Pers I K c ∗ PN I c t.val (nA c) (rS t) ∗ Src I t) ⊢ iprop((PN I c (t.val + 1) (nA c) (rS t) -∗ wp frame (wpE (defs₀ (F := F)) 𝒱₀ (c : Thread nD τ) none) Es (k ⟨⟩) Q)
      -∗ wp frame (wpE (defs₀ (F := F)) 𝒱₀ (c : Thread nD τ) none) Es
        (.op (.enqueueDma (rowsOf kM lo n h) (.remote (c' : Thread nD τ) (slotRows kgM p.val lo n h' hq) sS hscr) sem hsrc hdst hsem) k) Q) := by
  subst hc'
  refine sendN I K c t hc hS rfl hR hN (I.k p) (xshare t) ?_ ?_ ?_
  · unfold Src; rw [hs, hc]; rfl
  · unfold LandAny; rw [hd]; exact .rfl
  · intro fd
    rw [landed _ _ _ _ _ (kgAll I) (kg_read I p lo n h h' hq hcast)]
    unfold Land; rw [hd]; exact .rfl

theorem sendV {α : Type} {Q : α → sProp 𝕄} {Es : Set ℕ} (K : GSem nD τ sig → ℕ) (c : Dev nD) (t : Fin 24) (hc : xsrc t = c)
    (p : Fin 4) (lo n : ℕ) (h : ∀ a, ![0, lo, 0] a + ![2, n, 256] a ≤ S2x256x256.size a)
    (h' : ∀ a, ![p.val, 0, lo, 0] a + ![1, 2, n, 256] a ≤ S4x2x256x256.size a) (hq : (⟨4, ![1, 2, n, 256]⟩ : Shape).Squeezes ⟨3, ![2, n, 256]⟩)
    (hcast : (⟨4, ![1, 2, n, 256]⟩ : Shape).ShapeCasts ⟨3, ![2, n, 256]⟩)
    (hs : spc I t = vPc I p lo n h) (hd : dpc I t = vgPc I p.val lo n h' hq)
    {c' : Dev nD} {hscr : (slotRows vgM p.val lo n h' hq).view.ref.isScScratch = false} {sS sem : SemLoc sig}
    {hsrc : (rowsOf vM lo n h).view.WordExact} {hdst : (slotRows vgM p.val lo n h' hq).view.WordExact}
    {hsem : DmaTarget.Typed .vmem sem (.remote (c' : Thread nD τ) (slotRows vgM p.val lo n h' hq) sS hscr)} {k : PUnit.{1} → Prog (TpuEff nD τ sig (Elt F) Λ₀ .tc) α}
    (hS : sS = .dma (dsem (xs t))) (hc' : c' = xdst t) (hR : sem = .dma (dsem (xr t)))
    (hN : (slotRows vgM p.val lo n h' hq).view.amount sem = xamt t) :
    iprop(Pers I K c ∗ PN I c t.val (nA c) (rS t) ∗ Src I t) ⊢ iprop((PN I c (t.val + 1) (nA c) (rS t) -∗ wp frame (wpE (defs₀ (F := F)) 𝒱₀ (c : Thread nD τ) none) Es (k ⟨⟩) Q)
      -∗ wp frame (wpE (defs₀ (F := F)) 𝒱₀ (c : Thread nD τ) none) Es
        (.op (.enqueueDma (rowsOf vM lo n h) (.remote (c' : Thread nD τ) (slotRows vgM p.val lo n h' hq) sS hscr) sem hsrc hdst hsem) k) Q) := by
  subst hc'
  refine sendN I K c t hc hS rfl hR hN (I.v p) (xshare t) ?_ ?_ ?_
  · unfold Src; rw [hs, hc]; rfl
  · unfold LandAny; rw [hd]; exact .rfl
  · intro fd
    rw [landed _ _ _ _ _ (vgAll I) (vg_read I p lo n h h' hq hcast)]
    unfold Land; rw [hd]; exact .rfl

theorem sendQ {α : Type} {Q : α → sProp 𝕄} {Es : Set ℕ} (K : GSem nD τ sig → ℕ) (c : Dev nD) (t : Fin 24) (hc : xsrc t = c)
    (hs : spc I t = qPc I) (hd : dpc I t = qPc I)
    {c' : Dev nD} {hscr : (qM).view.ref.isScScratch = false} {sS sem : SemLoc sig}
    {hsrc : (qM).view.WordExact} {hdst : (qM).view.WordExact}
    {hsem : DmaTarget.Typed .vmem sem (.remote (c' : Thread nD τ) (qM) sS hscr)} {k : PUnit.{1} → Prog (TpuEff nD τ sig (Elt F) Λ₀ .tc) α}
    (hS : sS = .dma (dsem (xs t))) (hc' : c' = xdst t) (hR : sem = .dma (dsem (xr t)))
    (hN : (qM).view.amount sem = xamt t) :
    iprop(Pers I K c ∗ PN I c t.val (nA c) (rS t) ∗ Src I t) ⊢ iprop((PN I c (t.val + 1) (nA c) (rS t) -∗ wp frame (wpE (defs₀ (F := F)) 𝒱₀ (c : Thread nD τ) none) Es (k ⟨⟩) Q)
      -∗ wp frame (wpE (defs₀ (F := F)) 𝒱₀ (c : Thread nD τ) none) Es
        (.op (.enqueueDma (qM) (.remote (c' : Thread nD τ) (qM) sS hscr) sem hsrc hdst hsem) k) Q) := by
  subst hc'
  refine sendN I K c t hc hS rfl hR hN (I.q) (xshare t) ?_ ?_ ?_
  · unfold Src; rw [hs, hc]; rfl
  · unfold LandAny; rw [hd]; exact .rfl
  · intro fd
    rw [landed (xdst t) qM qM I.q fd I.q rfl]
    unfold Land; rw [hd]; exact .rfl

theorem sendP {α : Type} {Q : α → sProp 𝕄} {Es : Set ℕ} (K : GSem nD τ sig → ℕ) (c : Dev nD) (t : Fin 24) (hc : xsrc t = c)
    (i : Fin 3) (h : ∀ a, ![i.val, 0, 0, 0, 0] a + ![1, 2, 4, 32, 128] a ≤ S3x2x4x32x128.size a)
    (hs : spc I t = pPc I ⟨i.val + 1, Nat.succ_lt_succ i.isLt⟩) (hd : dpc I t = ppPc I i.val h)
    {c' : Dev nD} {hscr : (partOf i.val h sqP).view.ref.isScScratch = false} {sS sem : SemLoc sig}
    {hsrc : (pM).view.WordExact} {hdst : (partOf i.val h sqP).view.WordExact}
    {hsem : DmaTarget.Typed .vmem sem (.remote (c' : Thread nD τ) (partOf i.val h sqP) sS hscr)} {k : PUnit.{1} → Prog (TpuEff nD τ sig (Elt F) Λ₀ .tc) α}
    (hS : sS = .dma (dsem (xs t))) (hc' : c' = xdst t) (hR : sem = .dma (dsem (xr t)))
    (hN : (partOf i.val h sqP).view.amount sem = xamt t) :
    iprop(Pers I K c ∗ PN I c t.val (nA c) (rS t) ∗ Src I t) ⊢ iprop((PN I c (t.val + 1) (nA c) (rS t) -∗ wp frame (wpE (defs₀ (F := F)) 𝒱₀ (c : Thread nD τ) none) Es (k ⟨⟩) Q)
      -∗ wp frame (wpE (defs₀ (F := F)) 𝒱₀ (c : Thread nD τ) none) Es
        (.op (.enqueueDma (pM) (.remote (c' : Thread nD τ) (partOf i.val h sqP) sS hscr) sem hsrc hdst hsem) k) Q) := by
  subst hc'
  refine sendN I K c t hc hS rfl hR hN (I.p ⟨i.val + 1, Nat.succ_lt_succ i.isLt⟩) (xshare t) ?_ ?_ ?_
  · unfold Src; rw [hs, hc]; rfl
  · unfold LandAny; rw [hd]; exact .rfl
  · intro fd
    rw [landed _ _ _ _ _ (ppAll I) (pp_read I i h scP)]
    unfold Land; rw [hd]; exact .rfl

end Cert.KernelIdeal.Att
-- ==== Proof.Lend.lean ====
/-
# Lending and handing over windows

A device keeps a share of each staged block and lends the rest, window by window, to its copies; it hands the windows of
its own buffers that the others write to them at the barrier. Each time what is left stays behind with a way back.
-/
module

public import proofs.«01_k».proof.Proof.Copies

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-- Device `c`'s buffer `b`, whole, at share `q`. -/
abbrev pt (c : Dev nD) (b : Ref sig .tc) (q : PosShare TreeShare) (f : b.ty.Contents (Elt F)) : sProp 𝕄 := (Memref.whole b).view.loc (c : Thread nD τ) ↦{q} f
/-- The part `S` of it. -/
abbrev ptOn (c : Dev nD) (b : Ref sig .tc) (S : Finset b.ty.Idx) (q : PosShare TreeShare) (f : b.ty.Contents (Elt F)) : sProp 𝕄 := (c : Thread nD τ).loc b ↦[S]{q} f

theorem lend1 (c : Dev nD) (b : Ref sig .tc) (n : ℕ) (S : Finset b.ty.Idx) (f : b.ty.Contents (Elt F)) :
    (pt c b (keepSh n) f : sProp 𝕄) ⊢ iprop(pt c b (keepSh (n + 1)) f ∗ ptOn c b S (lendSh n) f
      ∗ (pt c b (keepSh (n + 1)) f ∗ ptOn c b S (lendSh n) f -∗ pt c b (keepSh n) f)) := by
  have h1 := pointsTo_share (PosShare.mem_left_op_right (keepSh n)) (ℓ := (c : Thread nD τ).loc b) (I := Finset.univ) (f := f)
    (nD := nD) (τ := τ) (sig := sig) (Ix := Unit) (Val := Elt F) (Name := ℕ) (U := UU) (Lvl := ℕ)
  have h2 := pointsTo_split_subset (Finset.subset_univ S) (ℓ := (c : Thread nD τ).loc b) (q := (keepSh n).right) (f := f)
    (nD := nD) (τ := τ) (sig := sig) (Ix := Unit) (Val := Elt F) (Name := ℕ) (U := UU) (Lvl := ℕ)
  iintro H
  ihave H := h1.1 $$ H
  icases H with ⟨Hl, Hr⟩
  ihave Hr := h2.1 $$ Hr
  icases Hr with ⟨Hs, Ho⟩
  isplitl [Hl]; · iexact Hl
  isplitl [Hs]; · iexact Hs
  iintro ⟨Hl, Hs⟩
  iapply h1.2
  isplitl [Hl]; · iexact Hl
  iapply h2.2
  isplitl [Hs]; · iexact Hs
  iexact Ho

theorem lend2 (c : Dev nD) (b : Ref sig .tc) (n : ℕ) (S S' : Finset b.ty.Idx) (f : b.ty.Contents (Elt F)) :
    (pt c b (keepSh n) f : sProp 𝕄) ⊢ iprop(pt c b (keepSh (n + 2)) f ∗ ptOn c b S (lendSh n) f ∗ ptOn c b S' (lendSh (n + 1)) f
      ∗ (pt c b (keepSh (n + 2)) f ∗ ptOn c b S (lendSh n) f ∗ ptOn c b S' (lendSh (n + 1)) f -∗ pt c b (keepSh n) f)) := by
  iintro H
  ihave H := (lend1 c b n S f) $$ H
  icases H with ⟨H, H1, W1⟩
  ihave H := (lend1 c b (n + 1) S' f) $$ H
  icases H with ⟨H, H2, W2⟩
  isplitl [H]; · iexact H
  isplitl [H1]; · iexact H1
  isplitl [H2]; · iexact H2
  iintro ⟨H, H1, H2⟩
  iapply W1
  isplitr [H1]
  · iapply W2
    isplitl [H]; · iexact H
    iexact H2
  iexact H1

/-- A buffer held with some contents, less the part `S`. -/
theorem carve (c : Dev nD) (b : Ref sig .tc) {X : Finset b.ty.Idx} (S : Finset b.ty.Idx) (h : S ⊆ X) :
    (iprop(∃ f, ptOn c b X fullShare f) : sProp 𝕄) ⊢ iprop((∃ f, ptOn c b S fullShare f) ∗ (∃ f, ptOn c b (X \ S) fullShare f)
      ∗ ((∃ f, ptOn c b S fullShare f) ∗ (∃ f, ptOn c b (X \ S) fullShare f) -∗ ∃ f, ptOn c b X fullShare f)) := by
  iintro ⟨%f, H⟩
  ihave H := (pointsTo_split_subset h (ℓ := (c : Thread nD τ).loc b) (q := fullShare) (f := f)
    (nD := nD) (τ := τ) (sig := sig) (Ix := Unit) (Val := Elt F) (Name := ℕ) (U := UU) (Lvl := ℕ)).1 $$ H
  icases H with ⟨H1, H2⟩
  isplitl [H1]; · iexists f; iexact H1
  isplitl [H2]; · iexists f; iexact H2
  iintro ⟨⟨%f1, H1⟩, ⟨%f2, H2⟩⟩
  iexists _
  iapply (pointsTo_join_subset h (ℓ := (c : Thread nD τ).loc b) (q := fullShare) (f := f2) (g := f1)
    (nD := nD) (τ := τ) (sig := sig) (Ix := Unit) (Val := Elt F) (Name := ℕ) (U := UU) (Lvl := ℕ))
  isplitl [H1]; · iexact H1
  iexact H2

theorem carve1 (c : Dev nD) (b : Ref sig .tc) (S : Finset b.ty.Idx) :
    (iprop(∃ f, pt c b fullShare f) : sProp 𝕄) ⊢ iprop((∃ f, ptOn c b S fullShare f)
      ∗ ((∃ f, ptOn c b S fullShare f) -∗ ∃ f, pt c b fullShare f)) := by
  iintro H
  ihave H := (carve c b (X := Finset.univ) S (Finset.subset_univ S)) $$ H
  icases H with ⟨H1, H, W1⟩
  isplitl [H1]; · iexact H1
  iintro H1
  iapply W1
  isplitl [H1]; · iexact H1
  iexact H

theorem carve2 (c : Dev nD) (b : Ref sig .tc) (S S' : Finset b.ty.Idx) (h : Disjoint S' S) :
    (iprop(∃ f, pt c b fullShare f) : sProp 𝕄) ⊢ iprop((∃ f, ptOn c b S fullShare f) ∗ (∃ f, ptOn c b S' fullShare f)
      ∗ ((∃ f, ptOn c b S fullShare f) ∗ (∃ f, ptOn c b S' fullShare f) -∗ ∃ f, pt c b fullShare f)) := by
  iintro H
  ihave H := (carve c b (X := Finset.univ) S (Finset.subset_univ S)) $$ H
  icases H with ⟨H1, H, W1⟩
  ihave H := (carve c b S' (Finset.subset_sdiff.mpr ⟨Finset.subset_univ S', h⟩)) $$ H
  icases H with ⟨H2, H, W2⟩
  isplitl [H1]; · iexact H1
  isplitl [H2]; · iexact H2
  iintro ⟨H1, H2⟩
  iapply W1
  isplitl [H1]; · iexact H1
  iapply W2
  isplitl [H2]; · iexact H2
  iexact H

theorem carve3 (c : Dev nD) (b : Ref sig .tc) (S S' S'' : Finset b.ty.Idx) (h : Disjoint S' S) (h1 : Disjoint S'' S) (h2 : Disjoint S'' S') :
    (iprop(∃ f, pt c b fullShare f) : sProp 𝕄) ⊢ iprop((∃ f, ptOn c b S fullShare f) ∗ (∃ f, ptOn c b S' fullShare f) ∗ (∃ f, ptOn c b S'' fullShare f)
      ∗ ((∃ f, ptOn c b S fullShare f) ∗ (∃ f, ptOn c b S' fullShare f) ∗ (∃ f, ptOn c b S'' fullShare f) -∗ ∃ f, pt c b fullShare f)) := by
  iintro H
  ihave H := (carve c b (X := Finset.univ) S (Finset.subset_univ S)) $$ H
  icases H with ⟨H1, H, W1⟩
  ihave H := (carve c b S' (Finset.subset_sdiff.mpr ⟨Finset.subset_univ S', h⟩)) $$ H
  icases H with ⟨H2, H, W2⟩
  ihave H := (carve c b S'' (Finset.subset_sdiff.mpr ⟨Finset.subset_sdiff.mpr ⟨Finset.subset_univ S'', h1⟩, h2⟩)) $$ H
  icases H with ⟨H3, H, W3⟩
  isplitl [H1]; · iexact H1
  isplitl [H2]; · iexact H2
  isplitl [H3]; · iexact H3
  iintro ⟨H1, H2, H3⟩
  iapply W1
  isplitl [H1]; · iexact H1
  iapply W2
  isplitl [H2]; · iexact H2
  iapply W3
  isplitl [H3]; · iexact H3
  iexact H

/-! ## The landing windows do not meet -/

theorem slot_mem {p lo n : ℕ} {h : ∀ a, ![p, 0, lo, 0] a + ![1, 2, n, 256] a ≤ S4x2x256x256.size a}
    {i : S4x2x256x256.Idx} (hi : i ∈ (Rect.unit (s := S4x2x256x256) ![p, 0, lo, 0] ![1, 2, n, 256] h).set) : (i 0).val = p ∧ lo ≤ (i 2).val ∧ (i 2).val < lo + n := by
  rw [Rect.mem_set_unit] at hi
  have h0 : p ≤ (i 0).val ∧ (i 0).val < p + 1 := hi 0
  exact ⟨by omega, (hi 2).1, (hi 2).2⟩

theorem slot_disj {p lo n p' lo' n' : ℕ} {h : ∀ a, ![p, 0, lo, 0] a + ![1, 2, n, 256] a ≤ S4x2x256x256.size a}
    {h' : ∀ a, ![p', 0, lo', 0] a + ![1, 2, n', 256] a ≤ S4x2x256x256.size a} (hd : p ≠ p' ∨ lo + n ≤ lo' ∨ lo' + n' ≤ lo) :
    Disjoint (Rect.unit (s := S4x2x256x256) ![p, 0, lo, 0] ![1, 2, n, 256] h).set (Rect.unit (s := S4x2x256x256) ![p', 0, lo', 0] ![1, 2, n', 256] h').set :=
  Finset.disjoint_left.mpr fun i h1 h2 => by
    have a := slot_mem h1; have b := slot_mem h2
    rcases hd with h | h | h
    · exact h (a.1.symm.trans b.1)
    · omega
    · omega

theorem kg_set {p lo n : ℕ} (h : ∀ a, ![p, 0, lo, 0] a + ![1, 2, n, 256] a ≤ S4x2x256x256.size a) (hq : (⟨4, ![1, 2, n, 256]⟩ : Shape).Squeezes ⟨3, ![2, n, 256]⟩) :
    (slotRows kgM p lo n h hq).view.set = (Rect.unit (s := S4x2x256x256) ![p, 0, lo, 0] ![1, 2, n, 256] h).set :=
  (View.set_reshape _ _).trans (View.set_slice_whole cc0_scratch0 _)
theorem vg_set {p lo n : ℕ} (h : ∀ a, ![p, 0, lo, 0] a + ![1, 2, n, 256] a ≤ S4x2x256x256.size a) (hq : (⟨4, ![1, 2, n, 256]⟩ : Shape).Squeezes ⟨3, ![2, n, 256]⟩) :
    (slotRows vgM p lo n h hq).view.set = (Rect.unit (s := S4x2x256x256) ![p, 0, lo, 0] ![1, 2, n, 256] h).set :=
  (View.set_reshape _ _).trans (View.set_slice_whole cc0_scratch1 _)
theorem pp_set {i : ℕ} (h : ∀ a, ![i, 0, 0, 0, 0] a + ![1, 2, 4, 32, 128] a ≤ S3x2x4x32x128.size a) :
    (partOf i h sqP).view.set = (Rect.unit (s := S3x2x4x32x128) ![i, 0, 0, 0, 0] ![1, 2, 4, 32, 128] h).set :=
  (View.set_reshape _ _).trans (View.set_slice_whole cc0_scratch4 _)

theorem kg_disj {p lo n p' lo' n' : ℕ} (h) (hq) (h') (hq') (hd : p ≠ p' ∨ lo + n ≤ lo' ∨ lo' + n' ≤ lo) :
    Disjoint (slotRows kgM p lo n h hq).view.set (slotRows kgM p' lo' n' h' hq').view.set := by
  rw [kg_set, kg_set]; exact slot_disj hd
theorem vg_disj {p lo n p' lo' n' : ℕ} (h) (hq) (h') (hq') (hd : p ≠ p' ∨ lo + n ≤ lo' ∨ lo' + n' ≤ lo) :
    Disjoint (slotRows vgM p lo n h hq).view.set (slotRows vgM p' lo' n' h' hq').view.set := by
  rw [vg_set, vg_set]; exact slot_disj hd
theorem pp_disj {i j : ℕ} (h) (h') (hij : i ≠ j) : Disjoint (partOf i h sqP).view.set (partOf j h' sqP).view.set := by
  rw [pp_set, pp_set]
  refine Finset.disjoint_left.mpr fun x h1 h2 => hij ?_
  rw [Rect.mem_set_unit] at h1 h2
  have a : i ≤ (x 0).val ∧ (x 0).val < i + 1 := h1 0
  have b : j ≤ (x 0).val ∧ (x 0).val < j + 1 := h2 0
  omega

/-! ## What each device lends and hands over -/

theorem lend4 (c : Dev nD) (b : Ref sig .tc) (S T U V : Finset b.ty.Idx) (f : b.ty.Contents (Elt F)) :
    (pt c b (keepSh 0) f : sProp 𝕄) ⊢ iprop(pt c b (keepSh 4) f ∗ ptOn c b S (lendSh 0) f ∗ ptOn c b T (lendSh 1) f ∗ ptOn c b U (lendSh 2) f ∗ ptOn c b V (lendSh 3) f
      ∗ (pt c b (keepSh 4) f ∗ ptOn c b S (lendSh 0) f ∗ ptOn c b T (lendSh 1) f ∗ ptOn c b U (lendSh 2) f ∗ ptOn c b V (lendSh 3) f -∗ pt c b (keepSh 0) f)) := by
  iintro H
  ihave H := (lend2 c b 0 S T f) $$ H
  icases H with ⟨H, H1, H2, W⟩
  ihave H := (lend2 c b 2 U V f) $$ H
  icases H with ⟨H, H3, H4, W'⟩
  isplitl [H]; · iexact H
  isplitl [H1]; · iexact H1
  isplitl [H2]; · iexact H2
  isplitl [H3]; · iexact H3
  isplitl [H4]; · iexact H4
  iintro ⟨H, H1, H2, H3, H4⟩
  iapply W
  isplitr [H1 H2]
  · iapply W'
    isplitl [H]; · iexact H
    isplitl [H3]; · iexact H3
    iexact H4
  isplitl [H1]; · iexact H1
  iexact H2

theorem lend3 (c : Dev nD) (b : Ref sig .tc) (S T U : Finset b.ty.Idx) (f : b.ty.Contents (Elt F)) :
    (pt c b (keepSh 0) f : sProp 𝕄) ⊢ iprop(pt c b (keepSh 3) f ∗ ptOn c b S (lendSh 0) f ∗ ptOn c b T (lendSh 1) f ∗ ptOn c b U (lendSh 2) f
      ∗ (pt c b (keepSh 3) f ∗ ptOn c b S (lendSh 0) f ∗ ptOn c b T (lendSh 1) f ∗ ptOn c b U (lendSh 2) f -∗ pt c b (keepSh 0) f)) := by
  iintro H
  ihave H := (lend2 c b 0 S T f) $$ H
  icases H with ⟨H, H1, H2, W⟩
  ihave H := (lend1 c b 2 U f) $$ H
  icases H with ⟨H, H3, W'⟩
  isplitl [H]; · iexact H
  isplitl [H1]; · iexact H1
  isplitl [H2]; · iexact H2
  isplitl [H3]; · iexact H3
  iintro ⟨H, H1, H2, H3⟩
  iapply W
  isplitr [H1 H2]
  · iapply W'
    isplitl [H]; · iexact H
    iexact H3
  isplitl [H1]; · iexact H1
  iexact H2

theorem lendsK0 : (pt 0 cc0_stg2_0 fullShare (I.k 0) : sProp 𝕄) ⊢ iprop(pt 0 cc0_stg2_0 (keepSh 4) (I.k 0) ∗ Src I 0 ∗ Src I 1 ∗ Src I 2 ∗ Src I 3
    ∗ (pt 0 cc0_stg2_0 (keepSh 4) (I.k 0) ∗ Src I 0 ∗ Src I 1 ∗ Src I 2 ∗ Src I 3 -∗ pt 0 cc0_stg2_0 fullShare (I.k 0))) :=
  lend4 0 cc0_stg2_0 (spc I 0).S (spc I 1).S (spc I 2).S (spc I 3).S (I.k 0)
theorem lendsV0 : (pt 0 cc0_stg3_0 fullShare (I.v 0) : sProp 𝕄) ⊢ iprop(pt 0 cc0_stg3_0 (keepSh 4) (I.v 0) ∗ Src I 4 ∗ Src I 5 ∗ Src I 6 ∗ Src I 7
    ∗ (pt 0 cc0_stg3_0 (keepSh 4) (I.v 0) ∗ Src I 4 ∗ Src I 5 ∗ Src I 6 ∗ Src I 7 -∗ pt 0 cc0_stg3_0 fullShare (I.v 0))) :=
  lend4 0 cc0_stg3_0 (spc I 4).S (spc I 5).S (spc I 6).S (spc I 7).S (I.v 0)
theorem lendsK1 : (pt 1 cc0_stg2_0 fullShare (I.k 1) : sProp 𝕄) ⊢ iprop(pt 1 cc0_stg2_0 (keepSh 2) (I.k 1) ∗ Src I 11 ∗ Src I 12
    ∗ (pt 1 cc0_stg2_0 (keepSh 2) (I.k 1) ∗ Src I 11 ∗ Src I 12 -∗ pt 1 cc0_stg2_0 fullShare (I.k 1))) :=
  lend2 1 cc0_stg2_0 0 (spc I 11).S (spc I 12).S (I.k 1)
theorem lendsV1 : (pt 1 cc0_stg3_0 fullShare (I.v 1) : sProp 𝕄) ⊢ iprop(pt 1 cc0_stg3_0 (keepSh 2) (I.v 1) ∗ Src I 13 ∗ Src I 14
    ∗ (pt 1 cc0_stg3_0 (keepSh 2) (I.v 1) ∗ Src I 13 ∗ Src I 14 -∗ pt 1 cc0_stg3_0 fullShare (I.v 1))) :=
  lend2 1 cc0_stg3_0 0 (spc I 13).S (spc I 14).S (I.v 1)
theorem lendsK2 : (pt 2 cc0_stg2_0 fullShare (I.k 2) : sProp 𝕄) ⊢ iprop(pt 2 cc0_stg2_0 (keepSh 2) (I.k 2) ∗ Src I 16 ∗ Src I 17
    ∗ (pt 2 cc0_stg2_0 (keepSh 2) (I.k 2) ∗ Src I 16 ∗ Src I 17 -∗ pt 2 cc0_stg2_0 fullShare (I.k 2))) :=
  lend2 2 cc0_stg2_0 0 (spc I 16).S (spc I 17).S (I.k 2)
theorem lendsV2 : (pt 2 cc0_stg3_0 fullShare (I.v 2) : sProp 𝕄) ⊢ iprop(pt 2 cc0_stg3_0 (keepSh 2) (I.v 2) ∗ Src I 18 ∗ Src I 19
    ∗ (pt 2 cc0_stg3_0 (keepSh 2) (I.v 2) ∗ Src I 18 ∗ Src I 19 -∗ pt 2 cc0_stg3_0 fullShare (I.v 2))) :=
  lend2 2 cc0_stg3_0 0 (spc I 18).S (spc I 19).S (I.v 2)
theorem lendsK3 : (pt 3 cc0_stg2_0 fullShare (I.k 3) : sProp 𝕄) ⊢ iprop(pt 3 cc0_stg2_0 (keepSh 1) (I.k 3) ∗ Src I 21
    ∗ (pt 3 cc0_stg2_0 (keepSh 1) (I.k 3) ∗ Src I 21 -∗ pt 3 cc0_stg2_0 fullShare (I.k 3))) :=
  lend1 3 cc0_stg2_0 0 (spc I 21).S (I.k 3)
theorem lendsV3 : (pt 3 cc0_stg3_0 fullShare (I.v 3) : sProp 𝕄) ⊢ iprop(pt 3 cc0_stg3_0 (keepSh 1) (I.v 3) ∗ Src I 22
    ∗ (pt 3 cc0_stg3_0 (keepSh 1) (I.v 3) ∗ Src I 22 -∗ pt 3 cc0_stg3_0 fullShare (I.v 3))) :=
  lend1 3 cc0_stg3_0 0 (spc I 22).S (I.v 3)
theorem lendsQ : (pt 0 cc0_scratch2 fullShare I.q : sProp 𝕄) ⊢ iprop(pt 0 cc0_scratch2 (keepSh 3) I.q ∗ Src I 8 ∗ Src I 9 ∗ Src I 10
    ∗ (pt 0 cc0_scratch2 (keepSh 3) I.q ∗ Src I 8 ∗ Src I 9 ∗ Src I 10 -∗ pt 0 cc0_scratch2 fullShare I.q)) :=
  lend3 0 cc0_scratch2 (spc I 8).S (spc I 9).S (spc I 10).S I.q

theorem lendsP1 : (pt 1 cc0_scratch3 fullShare (I.p 1) : sProp 𝕄) = Src I 15 := by
  show _ = ptOn 1 cc0_scratch3 pM.view.set fullShare (I.p 1)
  rw [show pM.view.set = Finset.univ from View.set_whole cc0_scratch3]
theorem lendsP2 : (pt 2 cc0_scratch3 fullShare (I.p 2) : sProp 𝕄) = Src I 20 := by
  show _ = ptOn 2 cc0_scratch3 pM.view.set fullShare (I.p 2)
  rw [show pM.view.set = Finset.univ from View.set_whole cc0_scratch3]
theorem lendsP3 : (pt 3 cc0_scratch3 fullShare (I.p 3) : sProp 𝕄) = Src I 23 := by
  show _ = ptOn 3 cc0_scratch3 pM.view.set fullShare (I.p 3)
  rw [show pM.view.set = Finset.univ from View.set_whole cc0_scratch3]

theorem opensK0 : (iprop(∃ f, pt 0 cc0_scratch0 fullShare f) : sProp 𝕄) ⊢ iprop(LandAny I 11
    ∗ (LandAny I 11 -∗ ∃ f, pt 0 cc0_scratch0 fullShare f)) :=
  carve1 0 cc0_scratch0 (dpc I 11).S
theorem opensV0 : (iprop(∃ f, pt 0 cc0_scratch1 fullShare f) : sProp 𝕄) ⊢ iprop(LandAny I 13
    ∗ (LandAny I 13 -∗ ∃ f, pt 0 cc0_scratch1 fullShare f)) :=
  carve1 0 cc0_scratch1 (dpc I 13).S
theorem opensK1 : (iprop(∃ f, pt 1 cc0_scratch0 fullShare f) : sProp 𝕄) ⊢ iprop(LandAny I 0 ∗ LandAny I 1 ∗ LandAny I 16
    ∗ (LandAny I 0 ∗ LandAny I 1 ∗ LandAny I 16 -∗ ∃ f, pt 1 cc0_scratch0 fullShare f)) :=
  carve3 1 cc0_scratch0 (dpc I 0).S (dpc I 1).S (dpc I 16).S (kg_disj (inS128 0) sq128 inS32 sq32 (by decide)) (kg_disj (inS0 2) sq128 inS32 sq32 (by decide)) (kg_disj (inS0 2) sq128 (inS128 0) sq128 (by decide))
theorem opensV1 : (iprop(∃ f, pt 1 cc0_scratch1 fullShare f) : sProp 𝕄) ⊢ iprop(LandAny I 4 ∗ LandAny I 5 ∗ LandAny I 18
    ∗ (LandAny I 4 ∗ LandAny I 5 ∗ LandAny I 18 -∗ ∃ f, pt 1 cc0_scratch1 fullShare f)) :=
  carve3 1 cc0_scratch1 (dpc I 4).S (dpc I 5).S (dpc I 18).S (vg_disj (inS128 0) sq128 inS32 sq32 (by decide)) (vg_disj (inS0 2) sq128 inS32 sq32 (by decide)) (vg_disj (inS0 2) sq128 (inS128 0) sq128 (by decide))
theorem opensK2 : (iprop(∃ f, pt 2 cc0_scratch0 fullShare f) : sProp 𝕄) ⊢ iprop(LandAny I 3 ∗ LandAny I 12 ∗ LandAny I 21
    ∗ (LandAny I 3 ∗ LandAny I 12 ∗ LandAny I 21 -∗ ∃ f, pt 2 cc0_scratch0 fullShare f)) :=
  carve3 2 cc0_scratch0 (dpc I 3).S (dpc I 12).S (dpc I 21).S (kg_disj (inS128 1) sq128 inS32 sq32 (by decide)) (kg_disj (inS0 3) sq128 inS32 sq32 (by decide)) (kg_disj (inS0 3) sq128 (inS128 1) sq128 (by decide))
theorem opensV2 : (iprop(∃ f, pt 2 cc0_scratch1 fullShare f) : sProp 𝕄) ⊢ iprop(LandAny I 7 ∗ LandAny I 14 ∗ LandAny I 22
    ∗ (LandAny I 7 ∗ LandAny I 14 ∗ LandAny I 22 -∗ ∃ f, pt 2 cc0_scratch1 fullShare f)) :=
  carve3 2 cc0_scratch1 (dpc I 7).S (dpc I 14).S (dpc I 22).S (vg_disj (inS128 1) sq128 inS32 sq32 (by decide)) (vg_disj (inS0 3) sq128 inS32 sq32 (by decide)) (vg_disj (inS0 3) sq128 (inS128 1) sq128 (by decide))
theorem opensK3 : (iprop(∃ f, pt 3 cc0_scratch0 fullShare f) : sProp 𝕄) ⊢ iprop(LandAny I 2 ∗ LandAny I 17
    ∗ (LandAny I 2 ∗ LandAny I 17 -∗ ∃ f, pt 3 cc0_scratch0 fullShare f)) :=
  carve2 3 cc0_scratch0 (dpc I 2).S (dpc I 17).S (kg_disj (inS128 2) sq128 inS32 sq32 (by decide))
theorem opensV3 : (iprop(∃ f, pt 3 cc0_scratch1 fullShare f) : sProp 𝕄) ⊢ iprop(LandAny I 6 ∗ LandAny I 19
    ∗ (LandAny I 6 ∗ LandAny I 19 -∗ ∃ f, pt 3 cc0_scratch1 fullShare f)) :=
  carve2 3 cc0_scratch1 (dpc I 6).S (dpc I 19).S (vg_disj (inS128 2) sq128 inS32 sq32 (by decide))
theorem opensP : (iprop(∃ f, pt 0 cc0_scratch4 fullShare f) : sProp 𝕄) ⊢ iprop(LandAny I 15 ∗ LandAny I 20 ∗ LandAny I 23
    ∗ (LandAny I 15 ∗ LandAny I 20 ∗ LandAny I 23 -∗ ∃ f, pt 0 cc0_scratch4 fullShare f)) :=
  carve3 0 cc0_scratch4 (dpc I 15).S (dpc I 20).S (dpc I 23).S (pp_disj (inP 1) (inP 0) (by decide)) (pp_disj (inP 2) (inP 0) (by decide)) (pp_disj (inP 2) (inP 1) (by decide))
theorem opensQ1 : (iprop(∃ f, pt 1 cc0_scratch2 fullShare f) : sProp 𝕄) ⊢ iprop(LandAny I 8 ∗ (LandAny I 8 -∗ ∃ f, pt 1 cc0_scratch2 fullShare f)) :=
  carve1 1 cc0_scratch2 (dpc I 8).S
theorem opensQ2 : (iprop(∃ f, pt 2 cc0_scratch2 fullShare f) : sProp 𝕄) ⊢ iprop(LandAny I 9 ∗ (LandAny I 9 -∗ ∃ f, pt 2 cc0_scratch2 fullShare f)) :=
  carve1 2 cc0_scratch2 (dpc I 9).S
theorem opensQ3 : (iprop(∃ f, pt 3 cc0_scratch2 fullShare f) : sProp 𝕄) ⊢ iprop(LandAny I 10 ∗ (LandAny I 10 -∗ ∃ f, pt 3 cc0_scratch2 fullShare f)) :=
  carve1 3 cc0_scratch2 (dpc I 10).S

/-! What landed, at the window's own view. -/

theorem kg_land (t : Fin 24) (c : Dev nD) {p lo n : ℕ} {h : ∀ a, ![p, 0, lo, 0] a + ![1, 2, n, 256] a ≤ S4x2x256x256.size a} {hq : (⟨4, ![1, 2, n, 256]⟩ : Shape).Squeezes ⟨3, ![2, n, 256]⟩}
    (hc : xdst t = c) (hd : dpc I t = kgPc I p lo n h hq) :
    (Land I t : sProp 𝕄) = ((kgM.slice (Rect.unit (s := S4x2x256x256) ![p, 0, lo, 0] ![1, 2, n, 256] h) (fun _ => rfl)).view.loc (c : Thread nD τ)
      ↦[(kgM.slice (Rect.unit (s := S4x2x256x256) ![p, 0, lo, 0] ![1, 2, n, 256] h) (fun _ => rfl)).view.set]{fullShare} kgAll I) := by
  unfold Land; rw [hd, hc]
  show ptOn c cc0_scratch0 (slotRows kgM p lo n h hq).view.set fullShare (kgAll I) = _
  rw [show (slotRows kgM p lo n h hq).view.set = _ from View.set_reshape _ _]

theorem vg_land (t : Fin 24) (c : Dev nD) {p lo n : ℕ} {h : ∀ a, ![p, 0, lo, 0] a + ![1, 2, n, 256] a ≤ S4x2x256x256.size a} {hq : (⟨4, ![1, 2, n, 256]⟩ : Shape).Squeezes ⟨3, ![2, n, 256]⟩}
    (hc : xdst t = c) (hd : dpc I t = vgPc I p lo n h hq) :
    (Land I t : sProp 𝕄) = ((vgM.slice (Rect.unit (s := S4x2x256x256) ![p, 0, lo, 0] ![1, 2, n, 256] h) (fun _ => rfl)).view.loc (c : Thread nD τ)
      ↦[(vgM.slice (Rect.unit (s := S4x2x256x256) ![p, 0, lo, 0] ![1, 2, n, 256] h) (fun _ => rfl)).view.set]{fullShare} vgAll I) := by
  unfold Land; rw [hd, hc]
  show ptOn c cc0_scratch1 (slotRows vgM p lo n h hq).view.set fullShare (vgAll I) = _
  rw [show (slotRows vgM p lo n h hq).view.set = _ from View.set_reshape _ _]

theorem pp_land (t : Fin 24) (c : Dev nD) {i : ℕ} {h : ∀ a, ![i, 0, 0, 0, 0] a + ![1, 2, 4, 32, 128] a ≤ S3x2x4x32x128.size a}
    (hc : xdst t = c) (hd : dpc I t = ppPc I i h) :
    (Land I t : sProp 𝕄) = (((Memref.whole cc0_scratch4).slice (Rect.unit (s := S3x2x4x32x128) ![i, 0, 0, 0, 0] ![1, 2, 4, 32, 128] h) (fun _ => rfl)).view.loc (c : Thread nD τ)
      ↦[((Memref.whole cc0_scratch4).slice (Rect.unit (s := S3x2x4x32x128) ![i, 0, 0, 0, 0] ![1, 2, 4, 32, 128] h) (fun _ => rfl)).view.set]{fullShare} ppAll I) := by
  unfold Land; rw [hd, hc]
  show ptOn c cc0_scratch4 (partOf i h sqP).view.set fullShare (ppAll I) = _
  rw [show (partOf i h sqP).view.set = _ from View.set_reshape _ _]

theorem q_land (t : Fin 24) (c : Dev nD) (hc : xdst t = c) (hd : dpc I t = qPc I) : (Land I t : sProp 𝕄) = pt c cc0_scratch2 fullShare I.q := by
  unfold Land; rw [hd, hc]
  show ptOn c cc0_scratch2 qM.view.set fullShare I.q = _
  rw [show qM.view.set = Finset.univ from View.set_whole cc0_scratch2]

end Cert.KernelIdeal.Att
-- ==== Proof.Heads.lean ====
module

public import proofs.«01_k».proof.Proof.Table

/-! What the bodies compute, as functions of vectors: projected queries, masked exponential
weights of a block of keys, their row sums and weighted sums of values, one head's result, and
an output slab. They hold at any interpretation of the floating-point operations. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Vectors

abbrev sh (m n : ℕ) : Shape := ⟨2, ![m, n]⟩

theorem red_ok (m n : ℕ) : (sh m n).Reduces [1] ⟨1, ![m]⟩ := ⟨rfl, Nat.one_pos, fun b => by fin_cases b; rfl⟩
theorem col_ok (m : ℕ) : (⟨1, ![m]⟩ : Shape).ShapeCasts (sh m 1) := by
  simp [Shape.ShapeCasts, Shape.numel, Fin.prod_univ_succ]
theorem self_ok (s : Shape) : s.ShapeCasts s := rfl
theorem head_ok (m : ℕ) (h : Fin 4) : (sh m 256).Slices ![0, 64 * h.val] (sh m 64) :=
  ⟨rfl, fun a => by fin_cases a <;> simp; omega⟩
theorem spread_ok (m : ℕ) : (sh m 1).Broadcasts (sh m 64) :=
  ⟨le_refl _, fun a => by fin_cases a; · exact .inr fun _ => rfl
                          · exact .inl rfl⟩
theorem iota_ok (m n : ℕ) (a : Fin 2) : (sh m n).Iotas .tc 32 [a] :=
  ⟨List.nodup_singleton _, fun _ => ⟨.inr rfl, le_refl _⟩, fun h => absurd rfl h⟩

/-- Row and column numbers of a block of scores. -/
def rowNo (m n : ℕ) : IVec (sh m n) 32 := iota .tc (sh m n) 32 [0] (iota_ok m n 0)
def colNo (m n : ℕ) : IVec (sh m n) 32 := iota .tc (sh m n) 32 [1] (iota_ok m n 1)
def shift {s : Shape} (c : BitVec 32) (v : IVec s 32) : IVec s 32 := addi (broadcast s c) v

/-- The additive mask of queries numbered `qi` against keys numbered `ki`. -/
def maskOf {s : Shape} (qi ki : IVec s 32) : FVec F s .f32 :=
  select (ori (ori (cmpi .sle (absi (subi qi ki)) (broadcast s 128#32)) (cmpi .slt ki (broadcast s 32#32))) (cmpi .slt qi (broadcast s 32#32)))
    (broadcast s (Scalar.ofBits .f32 0x00000000#32)) (broadcast s (Named.named κ "mask" 0xCE6E6B28#32))

/-- Projected and scaled queries. -/
def proj (m : ℕ) (x : FVec F (sh m 512) .bf16) (w : FVec F (sh 512 256) .bf16) : FVec F (sh m 256) .f32 :=
  mulf (matmul (.plain m 512 256) none x w (constant _ .f32 0x00000000#32)) (broadcast _ (Scalar.ofBits .f32 0x3E000000#32))

/-- A head's columns. -/
def hd {α : Type} (m : ℕ) (h : Fin 4) (v : (sh m 256).Idx → α) : (sh m 64).Idx → α :=
  extractStridedSlice (sh m 64) ![0, 64 * h.val] v (head_ok m h)

def score (m n : ℕ) (q : FVec F (sh m 64) .bf16) (k : FVec F (sh n 64) .bf16) : FVec F (sh m n) .f32 :=
  matmul (.transposedRhs m 64 n) none q k (constant _ .f32 0x00000000#32)

/-- The weights of a block of keys: exponentials of masked scores. -/
def wgt (n : ℕ) (q : FVec F (sh 256 256) .f32) (msk : FVec F (sh 256 n) .f32) (k : FVec F (sh n 256) .bf16) (h : Fin 4) :
    FVec F (sh 256 n) .f32 :=
  exp (addf (score 256 n (truncf .bf16 (hd 256 h q) bitsLt_bf16_f32) (hd n h k)) msk)

/-- Their row sums, -/
def rsum (m n : ℕ) (e : FVec F (sh m n) .f32) : FVec F (sh m 1) .f32 :=
  shapeCast (sh m 1) (multiReduction .add [1] ⟨1, ![m]⟩ e 0x00000000#32 (red_ok m n) (.inl rfl) rfl) (col_ok m)
/-- and their sums of values. -/
def wsum (m n : ℕ) (e : FVec F (sh m n) .f32) (v : FVec F (sh n 256) .bf16) (h : Fin 4) : FVec F (sh m 64) .f32 :=
  matmul (.plain m n 64) none (truncf .bf16 e bitsLt_bf16_f32) (hd n h v) (constant _ .f32 0x00000000#32)

/-- The two sums of a block of keys and values. -/
def sumL (n : ℕ) (q : FVec F (sh 256 256) .f32) (msk : FVec F (sh 256 n) .f32) (k : FVec F (sh n 256) .bf16) (h : Fin 4) :
    FVec F (sh 256 1) .f32 := rsum 256 n (wgt n q msk k h)
def sumA (n : ℕ) (q : FVec F (sh 256 256) .f32) (msk : FVec F (sh 256 n) .f32) (k v : FVec F (sh n 256) .bf16) (h : Fin 4) :
    FVec F (sh 256 64) .f32 := wsum 256 n (wgt n q msk k h) v h

/-- The weights of the 32 global queries, unmasked. -/
def gwgt (n : ℕ) (q : FVec F (sh 32 256) .bf16) (k : FVec F (sh n 256) .bf16) (h : Fin 4) : FVec F (sh 32 n) .f32 :=
  exp (score 32 n (hd 32 h q) (hd n h k))
/-- The two slabs a device stores for the global queries of a head. -/
def partA (n : ℕ) (q : FVec F (sh 32 256) .bf16) (k v : FVec F (sh n 256) .bf16) (h : Fin 4) : FVec F S1x1x32x64 .bf16 :=
  shapeCast S1x1x32x64 (truncf .bf16 (wsum 32 n (gwgt n q k h) v h) bitsLt_bf16_f32) shapeCasts_S32x64_S1x1x32x64
def partL (n : ℕ) (q : FVec F (sh 32 256) .bf16) (k : FVec F (sh n 256) .bf16) (h : Fin 4) : FVec F S1x1x32x64 .bf16 :=
  shapeCast S1x1x32x64 (truncf .bf16 (broadcastTo S32x64 (shapeCast S32x1 (rsum 32 n (gwgt n q k h)) shapeCasts_S32x1_S32x1) broadcasts_S32x1_S32x64)
    bitsLt_bf16_f32) shapeCasts_S32x64_S1x1x32x64

/-- A head's result. -/
def quot (m : ℕ) (l : FVec F (sh m 1) .f32) (a : FVec F (sh m 64) .f32) : FVec F (sh m 64) .f32 :=
  divf a (broadcastTo (sh m 64) l (spread_ok m))

/-- Sums of the first 32 rows with a device's part added. -/
def plusA (a : FVec F S32x64 .f32) (p : FVec F S32x128 .bf16) : FVec F S32x64 .f32 :=
  addf a (extf .f32 (extractStridedSlice S32x64 ![0, 0] p slices_S32x128_o0_0_S32x64) bitsLt_bf16_f32)
def plusL (l : FVec F S32x1 .f32) (p : FVec F S32x128 .bf16) : FVec F S32x1 .f32 :=
  addf l (extf .f32 (extractStridedSlice S32x1 ![0, 64] p slices_S32x128_o0_64_S32x1) bitsLt_bf16_f32)

/-- A head's result on device 0: its first 32 rows are the global queries'. -/
def quot0 (l : FVec F S256x1 .f32) (a : FVec F S256x64 .f32) (p : Fin 3 → FVec F S32x128 .bf16) : FVec F S256x64 .f32 :=
  concatenate S256x64 0
    [⟨S32x64, quot 32 (plusL (plusL (plusL (extractStridedSlice S32x1 ![0, 0] l slices_S256x1_o0_0_S32x1) (p 0)) (p 1)) (p 2))
        (plusA (plusA (plusA (extractStridedSlice S32x64 ![0, 0] a slices_S256x64_o0_0_S32x64) (p 0)) (p 1)) (p 2))⟩,
     ⟨S224x64, quot 224 (extractStridedSlice S224x1 ![32, 0] l slices_S256x1_o32_0_S224x1)
        (extractStridedSlice S224x64 ![32, 0] a slices_S256x64_o32_0_S224x64)⟩] concatenates_S32x64_S224x64_S256x64_d0

/-- An output slab from its four heads. -/
def slab (c : Fin 4 → FVec F S256x64 .f32) (wo : FVec F S256x512 .bf16) : FVec F S1x256x512 .bf16 :=
  shapeCast S1x256x512 (truncf .bf16 (matmul (.plain 256 256 512) none
    (truncf .bf16 (concatenate S256x256 1 [⟨S256x64, c 0⟩, ⟨S256x64, c 1⟩, ⟨S256x64, c 2⟩, ⟨S256x64, c 3⟩]
      concatenates_S256x64_S256x64_S256x64_S256x64_S256x256_d1) bitsLt_bf16_f32)
    wo (constant _ .f32 0x00000000#32)) bitsLt_bf16_f32) shapeCasts_S256x512_S1x256x512

end Vectors

section Loads

theorem in_x (b : Fin 2) (m : ℕ) (hm : m ≤ 256) : ∀ a, ![b.val, 0, 0] a + ![1, m, 512] a ≤ S2x256x512.size a := fun a => by
  fin_cases a
  · show b.val + 1 ≤ 2; omega
  · show 0 + m ≤ 256; omega
  · exact le_refl _
theorem in_k (b : Fin 2) (lo m : ℕ) (hm : lo + m ≤ 256) : ∀ a, ![b.val, lo, 0] a + ![1, m, 256] a ≤ S2x256x256.size a := fun a => by
  fin_cases a
  · show b.val + 1 ≤ 2; omega
  · exact hm
  · exact le_refl _
theorem in_kg (s : Fin 4) (b : Fin 2) (lo m : ℕ) (hm : lo + m ≤ 256) :
    ∀ a, ![s.val, b.val, lo, 0] a + ![1, 1, m, 256] a ≤ S4x2x256x256.size a := fun a => by
  fin_cases a
  · show s.val + 1 ≤ 4; omega
  · show b.val + 1 ≤ 2; omega
  · exact hm
  · exact le_refl _
theorem in_q (b : Fin 2) : ∀ a, ![b.val, 0, 0] a + ![1, 32, 256] a ≤ S2x32x256.size a := by revert b; decide
theorem in_pp (i : Fin 3) (b : Fin 2) (h : Fin 4) : ∀ a, ![i.val, b.val, h.val, 0, 0] a + ![1, 1, 1, 32, 128] a ≤ S3x2x4x32x128.size a := by
  revert i b h; decide
theorem in_ps (b : Fin 2) (h : Fin 4) (j : Fin 2) : ∀ a, ![b.val, h.val, 0, 64 * j.val] a + ![1, 1, 32, 64] a ≤ S2x4x32x128.size a := by
  revert b h j; decide
theorem drop3 (m n : ℕ) : (⟨3, ![1, m, n]⟩ : Shape).ShapeCasts (sh m n) := by
  simp [Shape.ShapeCasts, Shape.numel, Fin.prod_univ_succ]
theorem drop4 (m n : ℕ) : (⟨4, ![1, 1, m, n]⟩ : Shape).ShapeCasts (sh m n) := by
  simp [Shape.ShapeCasts, Shape.numel, Fin.prod_univ_succ]

/-- The weights' buffers, -/
def wqV (wq : cc0_stg1_0.ty.Contents (Elt F)) : FVec F (sh 512 256) .bf16 :=
  shapeCast S512x256 (View.readAt (Elt F) (Memref.whole cc0_stg1_0).view
    (Rect.unit (s := S512x256) ![0, 0] S512x256.size inb_S512x256_S512x256_0_0).toLoadRect wq) shapeCasts_S512x256_S512x256
def woV (wo : cc0_stg4_0.ty.Contents (Elt F)) : FVec F S256x512 .bf16 :=
  shapeCast S256x512 (View.readAt (Elt F) (Memref.whole cc0_stg4_0).view
    (Rect.unit (s := S256x512) ![0, 0] S256x512.size inb_S256x512_S256x512_0_0).toLoadRect wo) shapeCasts_S256x512_S256x512
/-- the first `m` rows of a batch's inputs, -/
def xV (x : cc0_stg0_0.ty.Contents (Elt F)) (m : ℕ) (hm : m ≤ 256) (b : Fin 2) : FVec F (sh m 512) .bf16 :=
  shapeCast (sh m 512) (View.readAt (Elt F) (Memref.whole cc0_stg0_0).view
    (Rect.unit (s := S2x256x512) ![b.val, 0, 0] ![1, m, 512] (in_x b m hm)).toLoadRect x) (drop3 m 512)
/-- some rows of a batch's own keys and values, -/
def kV (k : cc0_stg2_0.ty.Contents (Elt F)) (lo m : ℕ) (hm : lo + m ≤ 256) (b : Fin 2) : FVec F (sh m 256) .bf16 :=
  shapeCast (sh m 256) (View.readAt (Elt F) (Memref.whole cc0_stg2_0).view
    (Rect.unit (s := S2x256x256) ![b.val, lo, 0] ![1, m, 256] (in_k b lo m hm)).toLoadRect k) (drop3 m 256)
def vV (v : cc0_stg3_0.ty.Contents (Elt F)) (lo m : ℕ) (hm : lo + m ≤ 256) (b : Fin 2) : FVec F (sh m 256) .bf16 :=
  shapeCast (sh m 256) (View.readAt (Elt F) (Memref.whole cc0_stg3_0).view
    (Rect.unit (s := S2x256x256) ![b.val, lo, 0] ![1, m, 256] (in_k b lo m hm)).toLoadRect v) (drop3 m 256)
/-- of those gathered from device `s`, -/
def kgV (k : cc0_scratch0.ty.Contents (Elt F)) (s : Fin 4) (lo m : ℕ) (hm : lo + m ≤ 256) (b : Fin 2) : FVec F (sh m 256) .bf16 :=
  shapeCast (sh m 256) (View.readAt (Elt F) (Memref.whole cc0_scratch0).view
    (Rect.unit (s := S4x2x256x256) ![s.val, b.val, lo, 0] ![1, 1, m, 256] (in_kg s b lo m hm)).toLoadRect k) (drop4 m 256)
def vgV (v : cc0_scratch1.ty.Contents (Elt F)) (s : Fin 4) (lo m : ℕ) (hm : lo + m ≤ 256) (b : Fin 2) : FVec F (sh m 256) .bf16 :=
  shapeCast (sh m 256) (View.readAt (Elt F) (Memref.whole cc0_scratch1).view
    (Rect.unit (s := S4x2x256x256) ![s.val, b.val, lo, 0] ![1, 1, m, 256] (in_kg s b lo m hm)).toLoadRect v) (drop4 m 256)
/-- the global queries, and a part of their sums. -/
def qV (q : cc0_scratch2.ty.Contents (Elt F)) (b : Fin 2) : FVec F (sh 32 256) .bf16 :=
  shapeCast (sh 32 256) (View.readAt (Elt F) (Memref.whole cc0_scratch2).view
    (Rect.unit (s := S2x32x256) ![b.val, 0, 0] ![1, 32, 256] (in_q b)).toLoadRect q) (drop3 32 256)
def ppV (p : cc0_scratch4.ty.Contents (Elt F)) (b : Fin 2) (h : Fin 4) (i : Fin 3) : FVec F S32x128 .bf16 :=
  shapeCast S32x128 (View.readAt (Elt F) (Memref.whole cc0_scratch4).view
    (Rect.unit (s := S3x2x4x32x128) ![i.val, b.val, h.val, 0, 0] ![1, 1, 1, 32, 128] (in_pp i b h)).toLoadRect p)
    shapeCasts_S1x1x1x32x128_S32x128

end Loads

section Devices

variable (I : Ins F) (x : cc0_stg0_0.ty.Contents (Elt F)) (wq : cc0_stg1_0.ty.Contents (Elt F)) (wo : cc0_stg4_0.ty.Contents (Elt F))

/-- The staged global queries of device 0, -/
def qOf : cc0_scratch2.ty.Contents (Elt F) :=
  (Memref.whole cc0_scratch2).view.writes (Elt F) (Memref.whole cc0_scratch2).view.junk
    [⟨Rect.unit (s := S2x32x256) ![1, 0, 0] S1x32x256.size inb_S2x32x256_S1x32x256_1_0_0,
        shapeCast S1x32x256 (truncf .bf16 (proj 32 (xV x 32 (by decide) 1) (wqV wq)) bitsLt_bf16_f32) shapeCasts_S32x256_S1x32x256⟩,
     ⟨Rect.unit (s := S2x32x256) ![0, 0, 0] S1x32x256.size inb_S2x32x256_S1x32x256_0_0_0,
        shapeCast S1x32x256 (truncf .bf16 (proj 32 (xV x 32 (by decide) 0) (wqV wq)) bitsLt_bf16_f32) shapeCasts_S32x256_S1x32x256⟩]

/-- the parts device `p` stages from the given keys and values, -/
def pOf (n : ℕ) (k v : Fin 2 → FVec F (sh n 256) .bf16) : cc0_scratch3.ty.Contents (Elt F) :=
  (Memref.whole cc0_scratch3).view.writes (Elt F) (Memref.whole cc0_scratch3).view.junk
    [⟨Rect.unit (s := S2x4x32x128) ![1, 3, 0, 64] S1x1x32x64.size (in_ps 1 3 1), partL n (qV I.q 1) (k 1) 3⟩,
     ⟨Rect.unit (s := S2x4x32x128) ![1, 3, 0, 0] S1x1x32x64.size (in_ps 1 3 0), partA n (qV I.q 1) (k 1) (v 1) 3⟩,
     ⟨Rect.unit (s := S2x4x32x128) ![1, 2, 0, 64] S1x1x32x64.size (in_ps 1 2 1), partL n (qV I.q 1) (k 1) 2⟩,
     ⟨Rect.unit (s := S2x4x32x128) ![1, 2, 0, 0] S1x1x32x64.size (in_ps 1 2 0), partA n (qV I.q 1) (k 1) (v 1) 2⟩,
     ⟨Rect.unit (s := S2x4x32x128) ![1, 1, 0, 64] S1x1x32x64.size (in_ps 1 1 1), partL n (qV I.q 1) (k 1) 1⟩,
     ⟨Rect.unit (s := S2x4x32x128) ![1, 1, 0, 0] S1x1x32x64.size (in_ps 1 1 0), partA n (qV I.q 1) (k 1) (v 1) 1⟩,
     ⟨Rect.unit (s := S2x4x32x128) ![1, 0, 0, 64] S1x1x32x64.size (in_ps 1 0 1), partL n (qV I.q 1) (k 1) 0⟩,
     ⟨Rect.unit (s := S2x4x32x128) ![1, 0, 0, 0] S1x1x32x64.size (in_ps 1 0 0), partA n (qV I.q 1) (k 1) (v 1) 0⟩,
     ⟨Rect.unit (s := S2x4x32x128) ![0, 3, 0, 64] S1x1x32x64.size (in_ps 0 3 1), partL n (qV I.q 0) (k 0) 3⟩,
     ⟨Rect.unit (s := S2x4x32x128) ![0, 3, 0, 0] S1x1x32x64.size (in_ps 0 3 0), partA n (qV I.q 0) (k 0) (v 0) 3⟩,
     ⟨Rect.unit (s := S2x4x32x128) ![0, 2, 0, 64] S1x1x32x64.size (in_ps 0 2 1), partL n (qV I.q 0) (k 0) 2⟩,
     ⟨Rect.unit (s := S2x4x32x128) ![0, 2, 0, 0] S1x1x32x64.size (in_ps 0 2 0), partA n (qV I.q 0) (k 0) (v 0) 2⟩,
     ⟨Rect.unit (s := S2x4x32x128) ![0, 1, 0, 64] S1x1x32x64.size (in_ps 0 1 1), partL n (qV I.q 0) (k 0) 1⟩,
     ⟨Rect.unit (s := S2x4x32x128) ![0, 1, 0, 0] S1x1x32x64.size (in_ps 0 1 0), partA n (qV I.q 0) (k 0) (v 0) 1⟩,
     ⟨Rect.unit (s := S2x4x32x128) ![0, 0, 0, 64] S1x1x32x64.size (in_ps 0 0 1), partL n (qV I.q 0) (k 0) 0⟩,
     ⟨Rect.unit (s := S2x4x32x128) ![0, 0, 0, 0] S1x1x32x64.size (in_ps 0 0 0), partA n (qV I.q 0) (k 0) (v 0) 0⟩]

/-- which are rows 128 and on of device 1's, and all of devices 2's and 3's. -/
def p1Of : cc0_scratch3.ty.Contents (Elt F) :=
  pOf I 128 (kV (I.k 1) 128 128 (by decide)) (vV (I.v 1) 128 128 (by decide))
def p2Of : cc0_scratch3.ty.Contents (Elt F) :=
  pOf I 256 (kV (I.k 2) 0 256 (by decide)) (vV (I.v 2) 0 256 (by decide))
def p3Of : cc0_scratch3.ty.Contents (Elt F) :=
  pOf I 256 (kV (I.k 3) 0 256 (by decide)) (vV (I.v 3) 0 256 (by decide))

/-- The output from its two slabs. -/
def outOf (o : Fin 2 → FVec F S1x256x512 .bf16) : cc0_stg5_0.ty.Contents (Elt F) :=
  (Memref.whole cc0_stg5_0).view.writes (Elt F) (Memref.whole cc0_stg5_0).view.junk
    [⟨Rect.unit (s := S2x256x512) ![1, 0, 0] S1x256x512.size inb_S2x256x512_S1x256x512_1_0_0, o 1⟩,
     ⟨Rect.unit (s := S2x256x512) ![0, 0, 0] S1x256x512.size inb_S2x256x512_S1x256x512_0_0_0, o 0⟩]

def qs (b : Fin 2) : FVec F (sh 256 256) .f32 := proj 256 (xV x 256 (by decide) b) (wqV wq)
def own (c : BitVec 32) : FVec F (sh 256 256) .f32 := maskOf (shift c (rowNo 256 256)) (shift c (colNo 256 256))

/-- Device 0's blocks: its own and the first half of device 1's. -/
def l0 (b : Fin 2) (h : Fin 4) : FVec F S256x1 .f32 :=
  addf (sumL 256 (qs x wq b) (own 0#32) (kV (I.k 0) 0 256 (by decide) b) h)
    (sumL 128 (qs x wq b) (maskOf (shift 0#32 (rowNo 256 128)) (shift 256#32 (colNo 256 128))) (kgV (kgAll I) 1 0 128 (by decide) b) h)
def a0 (b : Fin 2) (h : Fin 4) : FVec F S256x64 .f32 :=
  addf (sumA 256 (qs x wq b) (own 0#32) (kV (I.k 0) 0 256 (by decide) b) (vV (I.v 0) 0 256 (by decide) b) h)
    (sumA 128 (qs x wq b) (maskOf (shift 0#32 (rowNo 256 128)) (shift 256#32 (colNo 256 128))) (kgV (kgAll I) 1 0 128 (by decide) b)
      (vgV (vgAll I) 1 0 128 (by decide) b) h)
def out0 : cc0_stg5_0.ty.Contents (Elt F) :=
  outOf fun b => slab (fun h => quot0 (l0 I x wq b h) (a0 I x wq b h) (ppV (ppAll I) b h)) (woV wo)

/-- Device 1's: its own; the first 32 and the second half of device 0's; the first half of device 2's. -/
def k1 (b : Fin 2) : FVec F S160x256 .bf16 :=
  concatenate S160x256 0 [⟨S32x256, kgV (kgAll I) 0 0 32 (by decide) b⟩, ⟨S128x256, kgV (kgAll I) 0 128 128 (by decide) b⟩]
    concatenates_S32x256_S128x256_S160x256_d0
def v1 (b : Fin 2) : FVec F S160x256 .bf16 :=
  concatenate S160x256 0 [⟨S32x256, vgV (vgAll I) 0 0 32 (by decide) b⟩, ⟨S128x256, vgV (vgAll I) 0 128 128 (by decide) b⟩]
    concatenates_S32x256_S128x256_S160x256_d0
def m1 : FVec F (sh 256 160) .f32 :=
  maskOf (shift 256#32 (rowNo 256 160))
    (select (cmpi .slt (colNo 256 160) (broadcast _ 32#32)) (colNo 256 160) (addi (colNo 256 160) (broadcast _ 96#32)))
def m1' : FVec F (sh 256 128) .f32 := maskOf (shift 256#32 (rowNo 256 128)) (shift 512#32 (colNo 256 128))
def l1 (b : Fin 2) (h : Fin 4) : FVec F S256x1 .f32 :=
  addf (addf (sumL 256 (qs x wq b) (own 256#32) (kV (I.k 1) 0 256 (by decide) b) h) (sumL 160 (qs x wq b) m1 (k1 I b) h))
    (sumL 128 (qs x wq b) m1' (kgV (kgAll I) 2 0 128 (by decide) b) h)
def a1 (b : Fin 2) (h : Fin 4) : FVec F S256x64 .f32 :=
  addf (addf (sumA 256 (qs x wq b) (own 256#32) (kV (I.k 1) 0 256 (by decide) b) (vV (I.v 1) 0 256 (by decide) b) h)
      (sumA 160 (qs x wq b) m1 (k1 I b) (v1 I b) h))
    (sumA 128 (qs x wq b) m1' (kgV (kgAll I) 2 0 128 (by decide) b) (vgV (vgAll I) 2 0 128 (by decide) b) h)
def out1 : cc0_stg5_0.ty.Contents (Elt F) :=
  outOf fun b => slab (fun h => quot 256 (l1 I x wq b h) (a1 I x wq b h)) (woV wo)

/-- Device 2's: its own; the second half of device 1's, the first half of device 3's, the first 32 of device 0's. -/
def k2 (b : Fin 2) : FVec F S288x256 .bf16 :=
  concatenate S288x256 0 [⟨S128x256, kgV (kgAll I) 1 128 128 (by decide) b⟩, ⟨S128x256, kgV (kgAll I) 3 0 128 (by decide) b⟩,
    ⟨S32x256, kgV (kgAll I) 0 0 32 (by decide) b⟩] concatenates_S128x256_S128x256_S32x256_S288x256_d0
def v2 (b : Fin 2) : FVec F S288x256 .bf16 :=
  concatenate S288x256 0 [⟨S128x256, vgV (vgAll I) 1 128 128 (by decide) b⟩, ⟨S128x256, vgV (vgAll I) 3 0 128 (by decide) b⟩,
    ⟨S32x256, vgV (vgAll I) 0 0 32 (by decide) b⟩] concatenates_S128x256_S128x256_S32x256_S288x256_d0
def m2 : FVec F (sh 256 288) .f32 :=
  maskOf (shift 512#32 (rowNo 256 288))
    (select (cmpi .slt (colNo 256 288) (broadcast _ 128#32)) (shift 384#32 (colNo 256 288))
      (select (cmpi .slt (colNo 256 288) (broadcast _ 256#32)) (shift 640#32 (colNo 256 288)) (subi (colNo 256 288) (broadcast _ 256#32))))
def l2 (b : Fin 2) (h : Fin 4) : FVec F S256x1 .f32 :=
  addf (sumL 256 (qs x wq b) (own 512#32) (kV (I.k 2) 0 256 (by decide) b) h) (sumL 288 (qs x wq b) m2 (k2 I b) h)
def a2 (b : Fin 2) (h : Fin 4) : FVec F S256x64 .f32 :=
  addf (sumA 256 (qs x wq b) (own 512#32) (kV (I.k 2) 0 256 (by decide) b) (vV (I.v 2) 0 256 (by decide) b) h)
    (sumA 288 (qs x wq b) m2 (k2 I b) (v2 I b) h)
def out2 : cc0_stg5_0.ty.Contents (Elt F) :=
  outOf fun b => slab (fun h => quot 256 (l2 I x wq b h) (a2 I x wq b h)) (woV wo)

/-- Device 3's: its own; the second half of device 2's, the first 32 of device 0's. -/
def k3 (b : Fin 2) : FVec F S160x256 .bf16 :=
  concatenate S160x256 0 [⟨S128x256, kgV (kgAll I) 2 128 128 (by decide) b⟩, ⟨S32x256, kgV (kgAll I) 0 0 32 (by decide) b⟩]
    concatenates_S128x256_S32x256_S160x256_d0
def v3 (b : Fin 2) : FVec F S160x256 .bf16 :=
  concatenate S160x256 0 [⟨S128x256, vgV (vgAll I) 2 128 128 (by decide) b⟩, ⟨S32x256, vgV (vgAll I) 0 0 32 (by decide) b⟩]
    concatenates_S128x256_S32x256_S160x256_d0
def m3 : FVec F (sh 256 160) .f32 :=
  maskOf (shift 768#32 (rowNo 256 160))
    (select (cmpi .slt (colNo 256 160) (broadcast _ 128#32)) (shift 640#32 (colNo 256 160)) (subi (colNo 256 160) (broadcast _ 128#32)))
def l3 (b : Fin 2) (h : Fin 4) : FVec F S256x1 .f32 :=
  addf (sumL 256 (qs x wq b) (own 768#32) (kV (I.k 3) 0 256 (by decide) b) h) (sumL 160 (qs x wq b) m3 (k3 I b) h)
def a3 (b : Fin 2) (h : Fin 4) : FVec F S256x64 .f32 :=
  addf (sumA 256 (qs x wq b) (own 768#32) (kV (I.k 3) 0 256 (by decide) b) (vV (I.v 3) 0 256 (by decide) b) h)
    (sumA 160 (qs x wq b) m3 (k3 I b) (v3 I b) h)
def out3 : cc0_stg5_0.ty.Contents (Elt F) :=
  outOf fun b => slab (fun h => quot 256 (l3 I x wq b h) (a3 I x wq b h)) (woV wo)

end Devices

end Cert.KernelIdeal.Att
-- ==== Proof.Run.lean ====
module

public import proofs.«01_k».proof.Proof.Lend
public import proofs.«01_k».proof.Proof.Heads

/-! What a device holds before its body and after it, with its input blocks and buffers. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-- What device `c` holds of the protocol at first: what it owes, a token for the barrier of each other device, a
token at both ends of each copy it makes, and what it may wait with. -/
def PB0 (c : Dev nD) : sProp 𝕄 :=
  iprop((∃ W, owes (c : Thread nD τ) (O₀ c) W) ∗ (bigSep (Finset.univ.erase c) fun e : Dev nD => dutyTok ER (barCell e) 0 (dn c))
    ∗ cred (tallyAt (barCell c) () 3) ∗ atPos ER (barCell c) 0 ∅ 0 ∗ bigSep (mine c) tok2 ∗ bigSep (inc c) credR ∗ posn c ∅)

/-- What it holds of the protocol in the end. -/
def Fin0 (c : Dev nD) : sProp 𝕄 :=
  iprop((∃ W, owes (c : Thread nD τ) 0 W) ∗ semVal (barCell c) 0 ∗ bigSep Finset.univ fun k : Fin 24 => semVal (dcell c k) 0)

def Pre (K : GSem nD τ sig → ℕ) (c : Dev nD) (x : cc0_stg0_0.ty.Contents (Elt F)) (wq : cc0_stg1_0.ty.Contents (Elt F))
    (wo : cc0_stg4_0.ty.Contents (Elt F)) : sProp 𝕄 :=
  iprop(Pers I K c ∗ PB0 c ∗ pt c cc0_stg0_0 fullShare x ∗ pt c cc0_stg1_0 fullShare wq ∗ pt c cc0_stg2_0 fullShare (I.k c)
    ∗ pt c cc0_stg3_0 fullShare (I.v c) ∗ pt c cc0_stg4_0 fullShare wo ∗ (∃ f, pt c cc0_stg5_0 fullShare f)
    ∗ (∃ f, pt c cc0_scratch0 fullShare f) ∗ (∃ f, pt c cc0_scratch1 fullShare f) ∗ (∃ f, pt c cc0_scratch2 fullShare f)
    ∗ (∃ f, pt c cc0_scratch3 fullShare f) ∗ (∃ f, pt c cc0_scratch4 fullShare f))

def Post (c : Dev nD) (x : cc0_stg0_0.ty.Contents (Elt F)) (wq : cc0_stg1_0.ty.Contents (Elt F))
    (wo : cc0_stg4_0.ty.Contents (Elt F)) (o : cc0_stg5_0.ty.Contents (Elt F)) : sProp 𝕄 :=
  iprop(Fin0 c ∗ pt c cc0_stg0_0 fullShare x ∗ pt c cc0_stg1_0 fullShare wq ∗ pt c cc0_stg2_0 fullShare (I.k c)
    ∗ pt c cc0_stg3_0 fullShare (I.v c) ∗ pt c cc0_stg4_0 fullShare wo ∗ pt c cc0_stg5_0 fullShare o
    ∗ (∃ f, pt c cc0_scratch0 fullShare f) ∗ (∃ f, pt c cc0_scratch1 fullShare f) ∗ (∃ f, pt c cc0_scratch2 fullShare f)
    ∗ (∃ f, pt c cc0_scratch3 fullShare f) ∗ (∃ f, pt c cc0_scratch4 fullShare f))

/-- A family over a set from its members one by one. -/
theorem gather (S : Finset (Fin 24)) (l : List (Fin 24)) (t : Fin 24) (hn : l.Nodup) (ht : t ∉ l) (hS : S = l.toFinset ∪ {t}) (Φ : Fin 24 → sProp 𝕄) :
    l.foldr (fun t R => iprop(Φ t ∗ R)) (Φ t) ⊢ bigSep S Φ := by
  subst hS
  induction l with
  | nil => rw [List.toFinset_nil, Finset.empty_union, bigSep_singleton]; exact .rfl
  | cons u l ih =>
    rw [List.mem_cons, not_or] at ht
    have hu : u ∉ l.toFinset ∪ {t} := by
      rw [Finset.mem_union, not_or, List.mem_toFinset, Finset.mem_singleton]; exact ⟨(List.nodup_cons.mp hn).1, fun h => ht.1 h.symm⟩
    rw [List.toFinset_cons, Finset.insert_union, put hu]
    exact sep_mono .rfl (ih (List.nodup_cons.mp hn).2 ht.2)

theorem pair_up {J : Type} (S : Finset J) (Φ Ψ : J → sProp 𝕄) : (iprop(bigSep S Φ ∗ bigSep S Ψ) : sProp 𝕄) ⊢ (bigSep S fun i => iprop(Φ i ∗ Ψ i) : sProp 𝕄) :=
  Entails.of_eq (bigSep_sep S Φ Ψ).symm

/-- The windows others copy into are handed over with the barrier's tokens. -/
theorem start (c : Dev nD) : iprop(PB0 c ∗ bigSep (inc c) fun t => LandAny I t) ⊢ PB I c (Finset.univ.erase c) := by
  have hg : (bigSep (inc c) fun t => LandAny I t : sProp 𝕄)
      = bigSep (Finset.univ.erase c) fun e : Dev nD => bigSep (grp e.val c.val) fun t => LandAny I t := by
    rw [bigSep_groups _ (fun e : Dev nD => grp e.val c.val) _ (fun i _ j _ hij => grp_disj fun h => hij (Fin.ext (congrArg Prod.fst h))), grps_dst c]
  unfold PB0 PB
  rw [hg]
  iintro ⟨⟨HO, Ht, Hcb, Hat, Htk, Hcr, Hpo⟩, HL⟩
  isplitl [HO]; · iexact HO
  isplitl [Ht HL]
  · iapply (pair_up (Finset.univ.erase c) (fun e : Dev nD => dutyTok ER (barCell e) 0 (dn c)) (fun e : Dev nD => bigSep (grp e.val c.val) fun t => LandAny I t))
    isplitl [Ht]; · iexact Ht
    iexact HL
  isplitl [Hcb]; · iexact Hcb
  isplitl [Hat]; · iexact Hat
  isplitl [Htk]; · iexact Htk
  isplitl [Hcr]; · iexact Hcr
  iexact Hpo

end Cert.KernelIdeal.Att
-- ==== Proof.Dev0.lean ====
module

public import proofs.«01_k».proof.Proof.Run
public import proofs.«01_k».proof.Proof.Gen.KernelIdeal.Skeleton

/-! Device 0's body: what it holds before it and after it. The copies' steps are those of the
protocol; between them the body is run as printed. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 0

variable (I : Ins F)

theorem dev0 (K : GSem nD τ sig → ℕ) (x : cc0_stg0_0.ty.Contents (Elt F)) (wq : cc0_stg1_0.ty.Contents (Elt F)) (wo : cc0_stg4_0.ty.Contents (Elt F))
    (Kt : PUnit.{1} → sProp 𝕄) (hq : I.q = qOf x wq) :
    iprop(Pre I K 0 x wq wo ∗ (Post I 0 x wq wo (out0 I x wq wo) -∗ Kt ⟨⟩))
      ⊢ wp frame (wpE (defs₀ (F := F)) 𝒱₀ ((0 : Dev nD) : Thread nD τ) none) Set.univ (bodyAt0 t0_0) Kt := by
  unfold bodyAt0 Pre
  simp only [cc0_body_eq_skeleton]; unfold cc0_body_skel
  iintro ⟨⟨#HP, HB, Hx, Hwq, Hk, Hv, Hwo, ⟨%o, Ho⟩, B0, B1, B2, B3, B4⟩, Hret⟩
  ihave Hk := (lendsK0 I) $$ Hk
  icases Hk with ⟨Hk, S0, S1, S2, S3, WK⟩
  ihave Hv := (lendsV0 I) $$ Hv
  icases Hv with ⟨Hv, S4, S5, S6, S7, WV⟩
  ihave B0 := (opensK0 I) $$ B0
  icases B0 with ⟨L11, W0⟩
  ihave B1 := (opensV0 I) $$ B1
  icases B1 with ⟨L13, W1⟩
  ihave B4 := (opensP I) $$ B4
  icases B4 with ⟨L15, L20, L23, W4⟩
  icases B2 with ⟨%f2, B2⟩
  ihave HL : bigSep (inc 0) (fun t => LandAny I t) $$ [L11 L13 L15 L20 L23]
  · iapply (show iprop(LandAny I 11 ∗ LandAny I 13 ∗ LandAny I 15 ∗ LandAny I 20 ∗ LandAny I 23) ⊢ bigSep (inc 0) (fun t => LandAny I t) from gather (inc 0) [11, 13, 15, 20] 23 (by decide) (by decide) (by decide) (fun t => LandAny I t))
    isplitl [L11]; · iexact L11
    isplitl [L13]; · iexact L13
    isplitl [L15]; · iexact L15
    isplitl [L20]; · iexact L20
    iexact L23
  ihave HB := (start I 0) $$ [HB HL]
  · isplitl [HB]; · iexact HB
    iexact HL
  sl_exec (disch := decide)
  iapply (signal_step I K 0 1 (Finset.univ.erase 0) (by decide) (by decide) (by decide) rfl rfl) $$ [HB]
  · isplitr; · iexact HP
    iexact HB
  iintro HB
  sl_exec (disch := decide)
  iapply (signal_step I K 0 2 ((Finset.univ.erase 0).erase 1) (by decide) (by decide) (by decide) rfl rfl) $$ [HB]
  · isplitr; · iexact HP
    iexact HB
  iintro HB
  sl_exec (disch := decide)
  iapply (signal_step I K 0 3 (((Finset.univ.erase 0).erase 1).erase 2) (by decide) (by decide) (by decide) rfl rfl) $$ [HB]
  · isplitr; · iexact HP
    iexact HB
  iintro HB
  sl_exec (disch := decide)
  iapply (barrierN I K 0 (S := (((Finset.univ.erase 0).erase 1).erase 2).erase 3) (by decide) rfl rfl) $$ [HB]
  · isplitr; · iexact HP
    iexact HB
  iintro HB
  sl_exec (disch := decide)
  iapply (sendK I K 0 0 rfl 0 0 32 inR32 inS32 sq32 sc32 rfl rfl rfl (by decide) rfl rfl) $$ [HB S0]
  · isplitr; · iexact HP
    isplitl [HB]; · iexact HB
    iexact S0
  iintro HB
  sl_exec (disch := decide)
  iapply (sendK I K 0 1 rfl 0 128 128 inR128 (inS128 0) sq128 sc128 rfl rfl rfl (by decide) rfl rfl) $$ [HB S1]
  · isplitr; · iexact HP
    isplitl [HB]; · iexact HB
    iexact S1
  iintro HB
  sl_exec (disch := decide)
  iapply (sendK I K 0 2 rfl 0 0 32 inR32 inS32 sq32 sc32 rfl rfl rfl (by decide) rfl rfl) $$ [HB S2]
  · isplitr; · iexact HP
    isplitl [HB]; · iexact HB
    iexact S2
  iintro HB
  sl_exec (disch := decide)
  iapply (sendK I K 0 3 rfl 0 0 32 inR32 inS32 sq32 sc32 rfl rfl rfl (by decide) rfl rfl) $$ [HB S3]
  · isplitr; · iexact HP
    isplitl [HB]; · iexact HB
    iexact S3
  iintro HB
  sl_exec (disch := decide)
  iapply (sendV I K 0 4 rfl 0 0 32 inR32 inS32 sq32 sc32 rfl rfl rfl (by decide) rfl rfl) $$ [HB S4]
  · isplitr; · iexact HP
    isplitl [HB]; · iexact HB
    iexact S4
  iintro HB
  sl_exec (disch := decide)
  iapply (sendV I K 0 5 rfl 0 128 128 inR128 (inS128 0) sq128 sc128 rfl rfl rfl (by decide) rfl rfl) $$ [HB S5]
  · isplitr; · iexact HP
    isplitl [HB]; · iexact HB
    iexact S5
  iintro HB
  sl_exec (disch := decide)
  iapply (sendV I K 0 6 rfl 0 0 32 inR32 inS32 sq32 sc32 rfl rfl rfl (by decide) rfl rfl) $$ [HB S6]
  · isplitr; · iexact HP
    isplitl [HB]; · iexact HB
    iexact S6
  iintro HB
  sl_exec (disch := decide)
  iapply (sendV I K 0 7 rfl 0 0 32 inR32 inS32 sq32 sc32 rfl rfl rfl (by decide) rfl rfl) $$ [HB S7]
  · isplitr; · iexact HP
    isplitl [HB]; · iexact HB
    iexact S7
  iintro HB
  sl_exec! (disch := decide)
  have eqs : ∀ f : cc0_scratch2.ty.Contents (Elt F), f = qOf x wq → (pt 0 cc0_scratch2 fullShare f : sProp 𝕄) ⊢ pt 0 cc0_scratch2 fullShare I.q := fun f h => by rw [h, hq]
  ihave B2 : pt 0 cc0_scratch2 fullShare I.q $$ [B2]
  · iapply (eqs _ ?_) $$ B2
    rfl
  ihave B2 := (lendsQ I) $$ B2
  icases B2 with ⟨B2, S8, S9, S10, W2⟩
  iapply (sendQ I K 0 8 rfl rfl rfl rfl (by decide) rfl rfl) $$ [HB S8]
  · isplitr; · iexact HP
    isplitl [HB]; · iexact HB
    iexact S8
  iintro HB
  sl_exec (disch := decide)
  iapply (sendQ I K 0 9 rfl rfl rfl rfl (by decide) rfl rfl) $$ [HB S9]
  · isplitr; · iexact HP
    isplitl [HB]; · iexact HB
    iexact S9
  iintro HB
  sl_exec (disch := decide)
  iapply (sendQ I K 0 10 rfl rfl rfl rfl (by decide) rfl rfl) $$ [HB S10]
  · isplitr; · iexact HP
    isplitl [HB]; · iexact HB
    iexact S10
  iintro HB
  sl_exec (disch := decide)
  iapply (recvN I K 0 11 rfl (by rfl) (by rfl)) $$ [HB]
  · isplitr; · iexact HP
    iexact HB
  iintro ⟨HB, G11⟩
  ihave G11 := (Entails.of_eq (kg_land I 11 0 rfl rfl)) $$ G11
  sl_exec (disch := decide)
  iapply (recvN I K 0 13 rfl (by rfl) (by rfl)) $$ [HB]
  · isplitr; · iexact HP
    iexact HB
  iintro ⟨HB, G13⟩
  ihave G13 := (Entails.of_eq (vg_land I 13 0 rfl rfl)) $$ G13
  sl_exec (disch := decide)
  iapply (recvN I K 0 15 rfl (by rfl) (by rfl)) $$ [HB]
  · isplitr; · iexact HP
    iexact HB
  iintro ⟨HB, G15⟩
  ihave G15 := (Entails.of_eq (pp_land I 15 0 rfl rfl)) $$ G15
  sl_exec (disch := decide)
  iapply (recvN I K 0 20 rfl (by rfl) (by rfl)) $$ [HB]
  · isplitr; · iexact HP
    iexact HB
  iintro ⟨HB, G20⟩
  ihave G20 := (Entails.of_eq (pp_land I 20 0 rfl rfl)) $$ G20
  sl_exec (disch := decide)
  iapply (recvN I K 0 23 rfl (by rfl) (by rfl)) $$ [HB]
  · isplitr; · iexact HP
    iexact HB
  iintro ⟨HB, G23⟩
  ihave G23 := (Entails.of_eq (pp_land I 23 0 rfl rfl)) $$ G23
  sl_exec! (disch := decide)
  iapply (sentN I K 0 0 rfl (by rfl) (by rfl)) $$ [HB]
  · isplitr; · iexact HP
    iexact HB
  iintro ⟨HB, S0⟩
  sl_exec (disch := decide)
  iapply (sentN I K 0 1 rfl (by rfl) (by rfl)) $$ [HB]
  · isplitr; · iexact HP
    iexact HB
  iintro ⟨HB, S1⟩
  sl_exec (disch := decide)
  iapply (sentN I K 0 2 rfl (by rfl) (by rfl)) $$ [HB]
  · isplitr; · iexact HP
    iexact HB
  iintro ⟨HB, S2⟩
  sl_exec (disch := decide)
  iapply (sentN I K 0 3 rfl (by rfl) (by rfl)) $$ [HB]
  · isplitr; · iexact HP
    iexact HB
  iintro ⟨HB, S3⟩
  sl_exec (disch := decide)
  iapply (sentN I K 0 4 rfl (by rfl) (by rfl)) $$ [HB]
  · isplitr; · iexact HP
    iexact HB
  iintro ⟨HB, S4⟩
  sl_exec (disch := decide)
  iapply (sentN I K 0 5 rfl (by rfl) (by rfl)) $$ [HB]
  · isplitr; · iexact HP
    iexact HB
  iintro ⟨HB, S5⟩
  sl_exec (disch := decide)
  iapply (sentN I K 0 6 rfl (by rfl) (by rfl)) $$ [HB]
  · isplitr; · iexact HP
    iexact HB
  iintro ⟨HB, S6⟩
  sl_exec (disch := decide)
  iapply (sentN I K 0 7 rfl (by rfl) (by rfl)) $$ [HB]
  · isplitr; · iexact HP
    iexact HB
  iintro ⟨HB, S7⟩
  sl_exec (disch := decide)
  iapply (sentN I K 0 8 rfl (by rfl) (by rfl)) $$ [HB]
  · isplitr; · iexact HP
    iexact HB
  iintro ⟨HB, S8⟩
  sl_exec (disch := decide)
  iapply (sentN I K 0 9 rfl (by rfl) (by rfl)) $$ [HB]
  · isplitr; · iexact HP
    iexact HB
  iintro ⟨HB, S9⟩
  sl_exec (disch := decide)
  iapply (sentN I K 0 10 rfl (by rfl) (by rfl)) $$ [HB]
  · isplitr; · iexact HP
    iexact HB
  iintro ⟨HB, S10⟩
  sl_exec (disch := decide)
  imod (finishN I K 0) $$ [HB] with Hfin
  · isplitr; · iexact HP
    iexact HB
  rw [wp_ret]
  imodintro
  iapply Hret
  unfold Post Fin0
  isplitl [Hfin]; · iexact Hfin
  isplitl [Hx]; · iexact Hx
  isplitl [Hwq]; · iexact Hwq
  isplitl [Hk S0 S1 S2 S3 WK]
  · iapply WK
    isplitl [Hk]; · iexact Hk
    isplitl [S0]; · iexact S0
    isplitl [S1]; · iexact S1
    isplitl [S2]; · iexact S2
    iexact S3
  isplitl [Hv S4 S5 S6 S7 WV]
  · iapply WV
    isplitl [Hv]; · iexact Hv
    isplitl [S4]; · iexact S4
    isplitl [S5]; · iexact S5
    isplitl [S6]; · iexact S6
    iexact S7
  isplitl [Hwo]; · iexact Hwo
  isplitl [Ho]
  · have eqo : ∀ f : cc0_stg5_0.ty.Contents (Elt F), f = out0 I x wq wo → (pt 0 cc0_stg5_0 fullShare f : sProp 𝕄) ⊢ pt 0 cc0_stg5_0 fullShare (out0 I x wq wo) :=
      fun f h => by rw [h]
    iapply (eqo _ ?_) $$ Ho
    rfl
  isplitl [G11 W0]
  · iapply W0
    iapply (land_any I 11); iapply (Entails.of_eq (kg_land I 11 0 rfl rfl).symm); iexact G11
  isplitl [G13 W1]
  · iapply W1
    iapply (land_any I 13); iapply (Entails.of_eq (vg_land I 13 0 rfl rfl).symm); iexact G13
  isplitl [B2 S8 S9 S10 W2]
  · iexists I.q
    iapply W2
    isplitl [B2]; · iexact B2
    isplitl [S8]; · iexact S8
    isplitl [S9]; · iexact S9
    iexact S10
  isplitl [B3]; · iexact B3
  iapply W4
  isplitl [G15]; · iapply (land_any I 15); iapply (Entails.of_eq (pp_land I 15 0 rfl rfl).symm); iexact G15
  isplitl [G20]; · iapply (land_any I 20); iapply (Entails.of_eq (pp_land I 20 0 rfl rfl).symm); iexact G20
  iapply (land_any I 23); iapply (Entails.of_eq (pp_land I 23 0 rfl rfl).symm); iexact G23

end Cert.KernelIdeal.Att
-- ==== Proof.Dev1.lean ====
module

public import proofs.«01_k».proof.Proof.Run
public import proofs.«01_k».proof.Proof.Gen.KernelIdeal.Skeleton

/-! Device 1's body: what it holds before it and after it. The copies' steps are those of the
protocol; between them the body is run as printed. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 0

variable (I : Ins F)

theorem dev1 (K : GSem nD τ sig → ℕ) (x : cc0_stg0_0.ty.Contents (Elt F)) (wq : cc0_stg1_0.ty.Contents (Elt F)) (wo : cc0_stg4_0.ty.Contents (Elt F))
    (Kt : PUnit.{1} → sProp 𝕄) (hp : I.p 1 = p1Of I) :
    iprop(Pre I K 1 x wq wo ∗ (Post I 1 x wq wo (out1 I x wq wo) -∗ Kt ⟨⟩))
      ⊢ wp frame (wpE (defs₀ (F := F)) 𝒱₀ ((1 : Dev nD) : Thread nD τ) none) Set.univ (bodyAt0 t0_0) Kt := by
  unfold bodyAt0 Pre
  simp only [cc0_body_eq_skeleton]; unfold cc0_body_skel
  iintro ⟨⟨#HP, HB, Hx, Hwq, Hk, Hv, Hwo, ⟨%o, Ho⟩, B0, B1, B2, B3, B4⟩, Hret⟩
  ihave Hk := (lendsK1 I) $$ Hk
  icases Hk with ⟨Hk, S11, S12, WK⟩
  ihave Hv := (lendsV1 I) $$ Hv
  icases Hv with ⟨Hv, S13, S14, WV⟩
  ihave B0 := (opensK1 I) $$ B0
  icases B0 with ⟨L0, L1, L16, W0⟩
  ihave B1 := (opensV1 I) $$ B1
  icases B1 with ⟨L4, L5, L18, W1⟩
  ihave B2 := (opensQ1 I) $$ B2
  icases B2 with ⟨L8, -⟩
  icases B3 with ⟨%f3, B3⟩
  ihave HL : bigSep (inc 1) (fun t => LandAny I t) $$ [L0 L1 L16 L4 L5 L18 L8]
  · iapply (show iprop(LandAny I 0 ∗ LandAny I 1 ∗ LandAny I 16 ∗ LandAny I 4 ∗ LandAny I 5 ∗ LandAny I 18 ∗ LandAny I 8) ⊢ bigSep (inc 1) (fun t => LandAny I t) from gather (inc 1) [0, 1, 16, 4, 5, 18] 8 (by decide) (by decide) (by decide) (fun t => LandAny I t))
    isplitl [L0]; · iexact L0
    isplitl [L1]; · iexact L1
    isplitl [L16]; · iexact L16
    isplitl [L4]; · iexact L4
    isplitl [L5]; · iexact L5
    isplitl [L18]; · iexact L18
    iexact L8
  ihave HB := (start I 1) $$ [HB HL]
  · isplitl [HB]; · iexact HB
    iexact HL
  sl_exec (disch := decide)
  iapply (signal_step I K 1 2 (Finset.univ.erase 1) (by decide) (by decide) (by decide) rfl rfl) $$ [HB]
  · isplitr; · iexact HP
    iexact HB
  iintro HB
  sl_exec (disch := decide)
  iapply (signal_step I K 1 3 ((Finset.univ.erase 1).erase 2) (by decide) (by decide) (by decide) rfl rfl) $$ [HB]
  · isplitr; · iexact HP
    iexact HB
  iintro HB
  sl_exec (disch := decide)
  iapply (signal_step I K 1 0 (((Finset.univ.erase 1).erase 2).erase 3) (by decide) (by decide) (by decide) rfl rfl) $$ [HB]
  · isplitr; · iexact HP
    iexact HB
  iintro HB
  sl_exec (disch := decide)
  iapply (barrierN I K 1 (S := (((Finset.univ.erase 1).erase 2).erase 3).erase 0) (by decide) rfl rfl) $$ [HB]
  · isplitr; · iexact HP
    iexact HB
  iintro HB
  sl_exec (disch := decide)
  iapply (sendK I K 1 11 rfl 1 0 128 inR0 (inS0 1) sq128 sc128 rfl rfl rfl (by decide) rfl rfl) $$ [HB S11]
  · isplitr; · iexact HP
    isplitl [HB]; · iexact HB
    iexact S11
  iintro HB
  sl_exec (disch := decide)
  iapply (sendK I K 1 12 rfl 1 128 128 inR128 (inS128 1) sq128 sc128 rfl rfl rfl (by decide) rfl rfl) $$ [HB S12]
  · isplitr; · iexact HP
    isplitl [HB]; · iexact HB
    iexact S12
  iintro HB
  sl_exec (disch := decide)
  iapply (sendV I K 1 13 rfl 1 0 128 inR0 (inS0 1) sq128 sc128 rfl rfl rfl (by decide) rfl rfl) $$ [HB S13]
  · isplitr; · iexact HP
    isplitl [HB]; · iexact HB
    iexact S13
  iintro HB
  sl_exec (disch := decide)
  iapply (sendV I K 1 14 rfl 1 128 128 inR128 (inS128 1) sq128 sc128 rfl rfl rfl (by decide) rfl rfl) $$ [HB S14]
  · isplitr; · iexact HP
    isplitl [HB]; · iexact HB
    iexact S14
  iintro HB
  sl_exec (disch := decide)
  iapply (recvN I K 1 8 rfl (by rfl) (by rfl)) $$ [HB]
  · isplitr; · iexact HP
    iexact HB
  iintro ⟨HB, B2⟩
  ihave B2 := (Entails.of_eq (q_land I 8 1 rfl rfl)) $$ B2
  sl_exec! (disch := decide)
  have eqs : ∀ f : cc0_scratch3.ty.Contents (Elt F), f = p1Of I → (pt 1 cc0_scratch3 fullShare f : sProp 𝕄) ⊢ Src I 15 := fun f h => by
    rw [h, ← hp]; exact Entails.of_eq (lendsP1 I)
  ihave S15 : Src I 15 $$ [B3]
  · iapply (eqs _ ?_) $$ B3
    rfl
  iapply (sendP I K 1 15 rfl 0 (inP 0) rfl rfl rfl (by decide) rfl rfl) $$ [HB S15]
  · isplitr; · iexact HP
    isplitl [HB]; · iexact HB
    iexact S15
  iintro HB
  sl_exec (disch := decide)
  iapply (recvN I K 1 0 rfl (by rfl) (by rfl)) $$ [HB]
  · isplitr; · iexact HP
    iexact HB
  iintro ⟨HB, G0⟩
  ihave G0 := (Entails.of_eq (kg_land I 0 1 rfl rfl)) $$ G0
  sl_exec (disch := decide)
  iapply (recvN I K 1 1 rfl (by rfl) (by rfl)) $$ [HB]
  · isplitr; · iexact HP
    iexact HB
  iintro ⟨HB, G1⟩
  ihave G1 := (Entails.of_eq (kg_land I 1 1 rfl rfl)) $$ G1
  sl_exec (disch := decide)
  iapply (recvN I K 1 4 rfl (by rfl) (by rfl)) $$ [HB]
  · isplitr; · iexact HP
    iexact HB
  iintro ⟨HB, G4⟩
  ihave G4 := (Entails.of_eq (vg_land I 4 1 rfl rfl)) $$ G4
  sl_exec (disch := decide)
  iapply (recvN I K 1 5 rfl (by rfl) (by rfl)) $$ [HB]
  · isplitr; · iexact HP
    iexact HB
  iintro ⟨HB, G5⟩
  ihave G5 := (Entails.of_eq (vg_land I 5 1 rfl rfl)) $$ G5
  sl_exec (disch := decide)
  iapply (recvN I K 1 16 rfl (by rfl) (by rfl)) $$ [HB]
  · isplitr; · iexact HP
    iexact HB
  iintro ⟨HB, G16⟩
  ihave G16 := (Entails.of_eq (kg_land I 16 1 rfl rfl)) $$ G16
  sl_exec (disch := decide)
  iapply (recvN I K 1 18 rfl (by rfl) (by rfl)) $$ [HB]
  · isplitr; · iexact HP
    iexact HB
  iintro ⟨HB, G18⟩
  ihave G18 := (Entails.of_eq (vg_land I 18 1 rfl rfl)) $$ G18
  sl_exec! (disch := decide)
  iapply (sentN I K 1 11 rfl (by rfl) (by rfl)) $$ [HB]
  · isplitr; · iexact HP
    iexact HB
  iintro ⟨HB, S11⟩
  sl_exec (disch := decide)
  iapply (sentN I K 1 12 rfl (by rfl) (by rfl)) $$ [HB]
  · isplitr; · iexact HP
    iexact HB
  iintro ⟨HB, S12⟩
  sl_exec (disch := decide)
  iapply (sentN I K 1 13 rfl (by rfl) (by rfl)) $$ [HB]
  · isplitr; · iexact HP
    iexact HB
  iintro ⟨HB, S13⟩
  sl_exec (disch := decide)
  iapply (sentN I K 1 14 rfl (by rfl) (by rfl)) $$ [HB]
  · isplitr; · iexact HP
    iexact HB
  iintro ⟨HB, S14⟩
  sl_exec (disch := decide)
  iapply (sentN I K 1 15 rfl (by rfl) (by rfl)) $$ [HB]
  · isplitr; · iexact HP
    iexact HB
  iintro ⟨HB, S15⟩
  sl_exec (disch := decide)
  imod (finishN I K 1) $$ [HB] with Hfin
  · isplitr; · iexact HP
    iexact HB
  rw [wp_ret]
  imodintro
  iapply Hret
  unfold Post Fin0
  isplitl [Hfin]; · iexact Hfin
  isplitl [Hx]; · iexact Hx
  isplitl [Hwq]; · iexact Hwq
  isplitl [Hk S11 S12 WK]
  · iapply WK
    isplitl [Hk]; · iexact Hk
    isplitl [S11]; · iexact S11
    iexact S12
  isplitl [Hv S13 S14 WV]
  · iapply WV
    isplitl [Hv]; · iexact Hv
    isplitl [S13]; · iexact S13
    iexact S14
  isplitl [Hwo]; · iexact Hwo
  isplitl [Ho]
  · have eqo : ∀ f : cc0_stg5_0.ty.Contents (Elt F), f = out1 I x wq wo → (pt 1 cc0_stg5_0 fullShare f : sProp 𝕄) ⊢ pt 1 cc0_stg5_0 fullShare (out1 I x wq wo) :=
      fun f h => by rw [h]
    iapply (eqo _ ?_) $$ Ho
    rfl
  isplitl [G0 G1 G16 W0]
  · iapply W0
    isplitl [G0]; · iapply (land_any I 0); iapply (Entails.of_eq (kg_land I 0 1 rfl rfl).symm); iexact G0
    isplitl [G1]; · iapply (land_any I 1); iapply (Entails.of_eq (kg_land I 1 1 rfl rfl).symm); iexact G1
    iapply (land_any I 16); iapply (Entails.of_eq (kg_land I 16 1 rfl rfl).symm); iexact G16
  isplitl [G4 G5 G18 W1]
  · iapply W1
    isplitl [G4]; · iapply (land_any I 4); iapply (Entails.of_eq (vg_land I 4 1 rfl rfl).symm); iexact G4
    isplitl [G5]; · iapply (land_any I 5); iapply (Entails.of_eq (vg_land I 5 1 rfl rfl).symm); iexact G5
    iapply (land_any I 18); iapply (Entails.of_eq (vg_land I 18 1 rfl rfl).symm); iexact G18
  isplitl [B2]; · iexists I.q; iexact B2
  isplitl [S15]; · iexists (I.p 1); iapply (Entails.of_eq (lendsP1 I).symm); iexact S15
  iexact B4

end Cert.KernelIdeal.Att
-- ==== Proof.Dev2.lean ====
module

public import proofs.«01_k».proof.Proof.Run
public import proofs.«01_k».proof.Proof.Gen.KernelIdeal.Skeleton

/-! Device 2's body: what it holds before it and after it. The copies' steps are those of the
protocol; between them the body is run as printed. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 0

variable (I : Ins F)

theorem dev2 (K : GSem nD τ sig → ℕ) (x : cc0_stg0_0.ty.Contents (Elt F)) (wq : cc0_stg1_0.ty.Contents (Elt F)) (wo : cc0_stg4_0.ty.Contents (Elt F))
    (Kt : PUnit.{1} → sProp 𝕄) (hp : I.p 2 = p2Of I) :
    iprop(Pre I K 2 x wq wo ∗ (Post I 2 x wq wo (out2 I x wq wo) -∗ Kt ⟨⟩))
      ⊢ wp frame (wpE (defs₀ (F := F)) 𝒱₀ ((2 : Dev nD) : Thread nD τ) none) Set.univ (bodyAt0 t0_0) Kt := by
  unfold bodyAt0 Pre
  simp only [cc0_body_eq_skeleton]; unfold cc0_body_skel
  iintro ⟨⟨#HP, HB, Hx, Hwq, Hk, Hv, Hwo, ⟨%o, Ho⟩, B0, B1, B2, B3, B4⟩, Hret⟩
  ihave Hk := (lendsK2 I) $$ Hk
  icases Hk with ⟨Hk, S16, S17, WK⟩
  ihave Hv := (lendsV2 I) $$ Hv
  icases Hv with ⟨Hv, S18, S19, WV⟩
  ihave B0 := (opensK2 I) $$ B0
  icases B0 with ⟨L3, L12, L21, W0⟩
  ihave B1 := (opensV2 I) $$ B1
  icases B1 with ⟨L7, L14, L22, W1⟩
  ihave B2 := (opensQ2 I) $$ B2
  icases B2 with ⟨L9, -⟩
  icases B3 with ⟨%f3, B3⟩
  ihave HL : bigSep (inc 2) (fun t => LandAny I t) $$ [L3 L12 L21 L7 L14 L22 L9]
  · iapply (show iprop(LandAny I 3 ∗ LandAny I 12 ∗ LandAny I 21 ∗ LandAny I 7 ∗ LandAny I 14 ∗ LandAny I 22 ∗ LandAny I 9) ⊢ bigSep (inc 2) (fun t => LandAny I t) from gather (inc 2) [3, 12, 21, 7, 14, 22] 9 (by decide) (by decide) (by decide) (fun t => LandAny I t))
    isplitl [L3]; · iexact L3
    isplitl [L12]; · iexact L12
    isplitl [L21]; · iexact L21
    isplitl [L7]; · iexact L7
    isplitl [L14]; · iexact L14
    isplitl [L22]; · iexact L22
    iexact L9
  ihave HB := (start I 2) $$ [HB HL]
  · isplitl [HB]; · iexact HB
    iexact HL
  sl_exec (disch := decide)
  iapply (signal_step I K 2 3 (Finset.univ.erase 2) (by decide) (by decide) (by decide) rfl rfl) $$ [HB]
  · isplitr; · iexact HP
    iexact HB
  iintro HB
  sl_exec (disch := decide)
  iapply (signal_step I K 2 0 ((Finset.univ.erase 2).erase 3) (by decide) (by decide) (by decide) rfl rfl) $$ [HB]
  · isplitr; · iexact HP
    iexact HB
  iintro HB
  sl_exec (disch := decide)
  iapply (signal_step I K 2 1 (((Finset.univ.erase 2).erase 3).erase 0) (by decide) (by decide) (by decide) rfl rfl) $$ [HB]
  · isplitr; · iexact HP
    iexact HB
  iintro HB
  sl_exec (disch := decide)
  iapply (barrierN I K 2 (S := (((Finset.univ.erase 2).erase 3).erase 0).erase 1) (by decide) rfl rfl) $$ [HB]
  · isplitr; · iexact HP
    iexact HB
  iintro HB
  sl_exec (disch := decide)
  iapply (sendK I K 2 16 rfl 2 0 128 inR0 (inS0 2) sq128 sc128 rfl rfl rfl (by decide) rfl rfl) $$ [HB S16]
  · isplitr; · iexact HP
    isplitl [HB]; · iexact HB
    iexact S16
  iintro HB
  sl_exec (disch := decide)
  iapply (sendK I K 2 17 rfl 2 128 128 inR128 (inS128 2) sq128 sc128 rfl rfl rfl (by decide) rfl rfl) $$ [HB S17]
  · isplitr; · iexact HP
    isplitl [HB]; · iexact HB
    iexact S17
  iintro HB
  sl_exec (disch := decide)
  iapply (sendV I K 2 18 rfl 2 0 128 inR0 (inS0 2) sq128 sc128 rfl rfl rfl (by decide) rfl rfl) $$ [HB S18]
  · isplitr; · iexact HP
    isplitl [HB]; · iexact HB
    iexact S18
  iintro HB
  sl_exec (disch := decide)
  iapply (sendV I K 2 19 rfl 2 128 128 inR128 (inS128 2) sq128 sc128 rfl rfl rfl (by decide) rfl rfl) $$ [HB S19]
  · isplitr; · iexact HP
    isplitl [HB]; · iexact HB
    iexact S19
  iintro HB
  sl_exec (disch := decide)
  iapply (recvN I K 2 9 rfl (by rfl) (by rfl)) $$ [HB]
  · isplitr; · iexact HP
    iexact HB
  iintro ⟨HB, B2⟩
  ihave B2 := (Entails.of_eq (q_land I 9 2 rfl rfl)) $$ B2
  sl_exec! (disch := decide)
  have eqs : ∀ f : cc0_scratch3.ty.Contents (Elt F), f = p2Of I → (pt 2 cc0_scratch3 fullShare f : sProp 𝕄) ⊢ Src I 20 := fun f h => by
    rw [h, ← hp]; exact Entails.of_eq (lendsP2 I)
  ihave S20 : Src I 20 $$ [B3]
  · iapply (eqs _ ?_) $$ B3
    rfl
  iapply (sendP I K 2 20 rfl 1 (inP 1) rfl rfl rfl (by decide) rfl rfl) $$ [HB S20]
  · isplitr; · iexact HP
    isplitl [HB]; · iexact HB
    iexact S20
  iintro HB
  sl_exec (disch := decide)
  iapply (recvN I K 2 3 rfl (by rfl) (by rfl)) $$ [HB]
  · isplitr; · iexact HP
    iexact HB
  iintro ⟨HB, G3⟩
  ihave G3 := (Entails.of_eq (kg_land I 3 2 rfl rfl)) $$ G3
  sl_exec (disch := decide)
  iapply (recvN I K 2 12 rfl (by rfl) (by rfl)) $$ [HB]
  · isplitr; · iexact HP
    iexact HB
  iintro ⟨HB, G12⟩
  ihave G12 := (Entails.of_eq (kg_land I 12 2 rfl rfl)) $$ G12
  sl_exec (disch := decide)
  iapply (recvN I K 2 21 rfl (by rfl) (by rfl)) $$ [HB]
  · isplitr; · iexact HP
    iexact HB
  iintro ⟨HB, G21⟩
  ihave G21 := (Entails.of_eq (kg_land I 21 2 rfl rfl)) $$ G21
  sl_exec (disch := decide)
  iapply (recvN I K 2 7 rfl (by rfl) (by rfl)) $$ [HB]
  · isplitr; · iexact HP
    iexact HB
  iintro ⟨HB, G7⟩
  ihave G7 := (Entails.of_eq (vg_land I 7 2 rfl rfl)) $$ G7
  sl_exec (disch := decide)
  iapply (recvN I K 2 14 rfl (by rfl) (by rfl)) $$ [HB]
  · isplitr; · iexact HP
    iexact HB
  iintro ⟨HB, G14⟩
  ihave G14 := (Entails.of_eq (vg_land I 14 2 rfl rfl)) $$ G14
  sl_exec (disch := decide)
  iapply (recvN I K 2 22 rfl (by rfl) (by rfl)) $$ [HB]
  · isplitr; · iexact HP
    iexact HB
  iintro ⟨HB, G22⟩
  ihave G22 := (Entails.of_eq (vg_land I 22 2 rfl rfl)) $$ G22
  sl_exec! (disch := decide)
  iapply (sentN I K 2 16 rfl (by rfl) (by rfl)) $$ [HB]
  · isplitr; · iexact HP
    iexact HB
  iintro ⟨HB, S16⟩
  sl_exec (disch := decide)
  iapply (sentN I K 2 17 rfl (by rfl) (by rfl)) $$ [HB]
  · isplitr; · iexact HP
    iexact HB
  iintro ⟨HB, S17⟩
  sl_exec (disch := decide)
  iapply (sentN I K 2 18 rfl (by rfl) (by rfl)) $$ [HB]
  · isplitr; · iexact HP
    iexact HB
  iintro ⟨HB, S18⟩
  sl_exec (disch := decide)
  iapply (sentN I K 2 19 rfl (by rfl) (by rfl)) $$ [HB]
  · isplitr; · iexact HP
    iexact HB
  iintro ⟨HB, S19⟩
  sl_exec (disch := decide)
  iapply (sentN I K 2 20 rfl (by rfl) (by rfl)) $$ [HB]
  · isplitr; · iexact HP
    iexact HB
  iintro ⟨HB, S20⟩
  sl_exec (disch := decide)
  imod (finishN I K 2) $$ [HB] with Hfin
  · isplitr; · iexact HP
    iexact HB
  rw [wp_ret]
  imodintro
  iapply Hret
  unfold Post Fin0
  isplitl [Hfin]; · iexact Hfin
  isplitl [Hx]; · iexact Hx
  isplitl [Hwq]; · iexact Hwq
  isplitl [Hk S16 S17 WK]
  · iapply WK
    isplitl [Hk]; · iexact Hk
    isplitl [S16]; · iexact S16
    iexact S17
  isplitl [Hv S18 S19 WV]
  · iapply WV
    isplitl [Hv]; · iexact Hv
    isplitl [S18]; · iexact S18
    iexact S19
  isplitl [Hwo]; · iexact Hwo
  isplitl [Ho]
  · have eqo : ∀ f : cc0_stg5_0.ty.Contents (Elt F), f = out2 I x wq wo → (pt 2 cc0_stg5_0 fullShare f : sProp 𝕄) ⊢ pt 2 cc0_stg5_0 fullShare (out2 I x wq wo) :=
      fun f h => by rw [h]
    iapply (eqo _ ?_) $$ Ho
    rfl
  isplitl [G3 G12 G21 W0]
  · iapply W0
    isplitl [G3]; · iapply (land_any I 3); iapply (Entails.of_eq (kg_land I 3 2 rfl rfl).symm); iexact G3
    isplitl [G12]; · iapply (land_any I 12); iapply (Entails.of_eq (kg_land I 12 2 rfl rfl).symm); iexact G12
    iapply (land_any I 21); iapply (Entails.of_eq (kg_land I 21 2 rfl rfl).symm); iexact G21
  isplitl [G7 G14 G22 W1]
  · iapply W1
    isplitl [G7]; · iapply (land_any I 7); iapply (Entails.of_eq (vg_land I 7 2 rfl rfl).symm); iexact G7
    isplitl [G14]; · iapply (land_any I 14); iapply (Entails.of_eq (vg_land I 14 2 rfl rfl).symm); iexact G14
    iapply (land_any I 22); iapply (Entails.of_eq (vg_land I 22 2 rfl rfl).symm); iexact G22
  isplitl [B2]; · iexists I.q; iexact B2
  isplitl [S20]; · iexists (I.p 2); iapply (Entails.of_eq (lendsP2 I).symm); iexact S20
  iexact B4

end Cert.KernelIdeal.Att
-- ==== Proof.Dev3.lean ====
module

public import proofs.«01_k».proof.Proof.Run
public import proofs.«01_k».proof.Proof.Gen.KernelIdeal.Skeleton

/-! Device 3's body: what it holds before it and after it. The copies' steps are those of the
protocol; between them the body is run as printed. -/

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

set_option maxHeartbeats 0

variable (I : Ins F)

theorem dev3 (K : GSem nD τ sig → ℕ) (x : cc0_stg0_0.ty.Contents (Elt F)) (wq : cc0_stg1_0.ty.Contents (Elt F)) (wo : cc0_stg4_0.ty.Contents (Elt F))
    (Kt : PUnit.{1} → sProp 𝕄) (hp : I.p 3 = p3Of I) :
    iprop(Pre I K 3 x wq wo ∗ (Post I 3 x wq wo (out3 I x wq wo) -∗ Kt ⟨⟩))
      ⊢ wp frame (wpE (defs₀ (F := F)) 𝒱₀ ((3 : Dev nD) : Thread nD τ) none) Set.univ (bodyAt0 t0_0) Kt := by
  unfold bodyAt0 Pre
  simp only [cc0_body_eq_skeleton]; unfold cc0_body_skel
  iintro ⟨⟨#HP, HB, Hx, Hwq, Hk, Hv, Hwo, ⟨%o, Ho⟩, B0, B1, B2, B3, B4⟩, Hret⟩
  ihave Hk := (lendsK3 I) $$ Hk
  icases Hk with ⟨Hk, S21, WK⟩
  ihave Hv := (lendsV3 I) $$ Hv
  icases Hv with ⟨Hv, S22, WV⟩
  ihave B0 := (opensK3 I) $$ B0
  icases B0 with ⟨L2, L17, W0⟩
  ihave B1 := (opensV3 I) $$ B1
  icases B1 with ⟨L6, L19, W1⟩
  ihave B2 := (opensQ3 I) $$ B2
  icases B2 with ⟨L10, -⟩
  icases B3 with ⟨%f3, B3⟩
  ihave HL : bigSep (inc 3) (fun t => LandAny I t) $$ [L2 L17 L6 L19 L10]
  · iapply (show iprop(LandAny I 2 ∗ LandAny I 17 ∗ LandAny I 6 ∗ LandAny I 19 ∗ LandAny I 10) ⊢ bigSep (inc 3) (fun t => LandAny I t) from gather (inc 3) [2, 17, 6, 19] 10 (by decide) (by decide) (by decide) (fun t => LandAny I t))
    isplitl [L2]; · iexact L2
    isplitl [L17]; · iexact L17
    isplitl [L6]; · iexact L6
    isplitl [L19]; · iexact L19
    iexact L10
  ihave HB := (start I 3) $$ [HB HL]
  · isplitl [HB]; · iexact HB
    iexact HL
  sl_exec (disch := decide)
  iapply (signal_step I K 3 0 (Finset.univ.erase 3) (by decide) (by decide) (by decide) rfl rfl) $$ [HB]
  · isplitr; · iexact HP
    iexact HB
  iintro HB
  sl_exec (disch := decide)
  iapply (signal_step I K 3 1 ((Finset.univ.erase 3).erase 0) (by decide) (by decide) (by decide) rfl rfl) $$ [HB]
  · isplitr; · iexact HP
    iexact HB
  iintro HB
  sl_exec (disch := decide)
  iapply (signal_step I K 3 2 (((Finset.univ.erase 3).erase 0).erase 1) (by decide) (by decide) (by decide) rfl rfl) $$ [HB]
  · isplitr; · iexact HP
    iexact HB
  iintro HB
  sl_exec (disch := decide)
  iapply (barrierN I K 3 (S := (((Finset.univ.erase 3).erase 0).erase 1).erase 2) (by decide) rfl rfl) $$ [HB]
  · isplitr; · iexact HP
    iexact HB
  iintro HB
  sl_exec (disch := decide)
  iapply (sendK I K 3 21 rfl 3 0 128 inR0 (inS0 3) sq128 sc128 rfl rfl rfl (by decide) rfl rfl) $$ [HB S21]
  · isplitr; · iexact HP
    isplitl [HB]; · iexact HB
    iexact S21
  iintro HB
  sl_exec (disch := decide)
  iapply (sendV I K 3 22 rfl 3 0 128 inR0 (inS0 3) sq128 sc128 rfl rfl rfl (by decide) rfl rfl) $$ [HB S22]
  · isplitr; · iexact HP
    isplitl [HB]; · iexact HB
    iexact S22
  iintro HB
  sl_exec (disch := decide)
  iapply (recvN I K 3 10 rfl (by rfl) (by rfl)) $$ [HB]
  · isplitr; · iexact HP
    iexact HB
  iintro ⟨HB, B2⟩
  ihave B2 := (Entails.of_eq (q_land I 10 3 rfl rfl)) $$ B2
  sl_exec! (disch := decide)
  have eqs : ∀ f : cc0_scratch3.ty.Contents (Elt F), f = p3Of I → (pt 3 cc0_scratch3 fullShare f : sProp 𝕄) ⊢ Src I 23 := fun f h => by
    rw [h, ← hp]; exact Entails.of_eq (lendsP3 I)
  ihave S23 : Src I 23 $$ [B3]
  · iapply (eqs _ ?_) $$ B3
    rfl
  iapply (sendP I K 3 23 rfl 2 (inP 2) rfl rfl rfl (by decide) rfl rfl) $$ [HB S23]
  · isplitr; · iexact HP
    isplitl [HB]; · iexact HB
    iexact S23
  iintro HB
  sl_exec (disch := decide)
  iapply (recvN I K 3 2 rfl (by rfl) (by rfl)) $$ [HB]
  · isplitr; · iexact HP
    iexact HB
  iintro ⟨HB, G2⟩
  ihave G2 := (Entails.of_eq (kg_land I 2 3 rfl rfl)) $$ G2
  sl_exec (disch := decide)
  iapply (recvN I K 3 17 rfl (by rfl) (by rfl)) $$ [HB]
  · isplitr; · iexact HP
    iexact HB
  iintro ⟨HB, G17⟩
  ihave G17 := (Entails.of_eq (kg_land I 17 3 rfl rfl)) $$ G17
  sl_exec (disch := decide)
  iapply (recvN I K 3 6 rfl (by rfl) (by rfl)) $$ [HB]
  · isplitr; · iexact HP
    iexact HB
  iintro ⟨HB, G6⟩
  ihave G6 := (Entails.of_eq (vg_land I 6 3 rfl rfl)) $$ G6
  sl_exec (disch := decide)
  iapply (recvN I K 3 19 rfl (by rfl) (by rfl)) $$ [HB]
  · isplitr; · iexact HP
    iexact HB
  iintro ⟨HB, G19⟩
  ihave G19 := (Entails.of_eq (vg_land I 19 3 rfl rfl)) $$ G19
  sl_exec! (disch := decide)
  iapply (sentN I K 3 21 rfl (by rfl) (by rfl)) $$ [HB]
  · isplitr; · iexact HP
    iexact HB
  iintro ⟨HB, S21⟩
  sl_exec (disch := decide)
  iapply (sentN I K 3 22 rfl (by rfl) (by rfl)) $$ [HB]
  · isplitr; · iexact HP
    iexact HB
  iintro ⟨HB, S22⟩
  sl_exec (disch := decide)
  iapply (sentN I K 3 23 rfl (by rfl) (by rfl)) $$ [HB]
  · isplitr; · iexact HP
    iexact HB
  iintro ⟨HB, S23⟩
  sl_exec (disch := decide)
  imod (finishN I K 3) $$ [HB] with Hfin
  · isplitr; · iexact HP
    iexact HB
  rw [wp_ret]
  imodintro
  iapply Hret
  unfold Post Fin0
  isplitl [Hfin]; · iexact Hfin
  isplitl [Hx]; · iexact Hx
  isplitl [Hwq]; · iexact Hwq
  isplitl [Hk S21 WK]
  · iapply WK
    isplitl [Hk]; · iexact Hk
    iexact S21
  isplitl [Hv S22 WV]
  · iapply WV
    isplitl [Hv]; · iexact Hv
    iexact S22
  isplitl [Hwo]; · iexact Hwo
  isplitl [Ho]
  · have eqo : ∀ f : cc0_stg5_0.ty.Contents (Elt F), f = out3 I x wq wo → (pt 3 cc0_stg5_0 fullShare f : sProp 𝕄) ⊢ pt 3 cc0_stg5_0 fullShare (out3 I x wq wo) :=
      fun f h => by rw [h]
    iapply (eqo _ ?_) $$ Ho
    rfl
  isplitl [G2 G17 W0]
  · iapply W0
    isplitl [G2]; · iapply (land_any I 2); iapply (Entails.of_eq (kg_land I 2 3 rfl rfl).symm); iexact G2
    iapply (land_any I 17); iapply (Entails.of_eq (kg_land I 17 3 rfl rfl).symm); iexact G17
  isplitl [G6 G19 W1]
  · iapply W1
    isplitl [G6]; · iapply (land_any I 6); iapply (Entails.of_eq (vg_land I 6 3 rfl rfl).symm); iexact G6
    iapply (land_any I 19); iapply (Entails.of_eq (vg_land I 19 3 rfl rfl).symm); iexact G19
  isplitl [B2]; · iexists I.q; iexact B2
  isplitl [S23]; · iexists (I.p 3); iapply (Entails.of_eq (lendsP3 I).symm); iexact S23
  iexact B4

end Cert.KernelIdeal.Att
-- ==== Proof.State.lean ====
/-
# The kernel as the pipeline's body

What each device's blocks are, in terms of the memory at launch, what the kernel leaves on each, and the obligation of the
pipeline's one point, from the four devices' runs.
-/
module

public import proofs.«01_k».proof.Proof.Dev0
public import proofs.«01_k».proof.Proof.Dev1
public import proofs.«01_k».proof.Proof.Dev2
public import proofs.«01_k».proof.Proof.Dev3
public import proofs.«01_k».proof.Proof.Gen.KernelIdeal.Frame

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Contents -/

/-- The arrays as launched, and after the two host reshapes. -/
def V₀ (c : Dev nD) : Valuation τ sig (Elt F) := fun b => m (c, b)
def V₁ (c : Dev nD) : Valuation τ sig (Elt F) := StableHlo.after hostOps0 (V₀ m c)

/-- What the pipeline stages on device `c`: the block of `x`, -/
def xAt (c : Dev nD) : cc0_stg0_0.ty.Contents (Elt F) := iblk m c 0 t0_0
/-- of `Wq`, -/
def wqAt (c : Dev nD) : cc0_stg1_0.ty.Contents (Elt F) := iblk m c 1 t0_0
/-- of the keys, -/
def kAt (c : Dev nD) : cc0_stg2_0.ty.Contents (Elt F) := iblk m c 2 t0_0
/-- of the values -/
def vAt (c : Dev nD) : cc0_stg3_0.ty.Contents (Elt F) := iblk m c 3 t0_0
/-- and of `Wo`. -/
def woAt (c : Dev nD) : cc0_stg4_0.ty.Contents (Elt F) := iblk m c 4 t0_0

/-- The blocks and the queries, the partial results left open: -/
def ins₀ (k : Dev nD → cc0_stg2_0.ty.Contents (Elt F)) (v : Dev nD → cc0_stg3_0.ty.Contents (Elt F))
    (x : cc0_stg0_0.ty.Contents (Elt F)) (wq : cc0_stg1_0.ty.Contents (Elt F)) : Ins F where
  k := k
  v := v
  q := qOf x wq
  p _ := fun _ => k 0 (ix3 0 0 0)
/-- the partial results are computed from these. -/
def closed (I : Ins F) : Ins F :=
  { I with p := fun c => if c = 1 then p1Of I else if c = 2 then p2Of I else p3Of I }
theorem closed_q (k : Dev nD → cc0_stg2_0.ty.Contents (Elt F)) (v : Dev nD → cc0_stg3_0.ty.Contents (Elt F))
    (x : cc0_stg0_0.ty.Contents (Elt F)) (wq : cc0_stg1_0.ty.Contents (Elt F)) : (closed (ins₀ k v x wq)).q = qOf x wq := by
  dsimp only [closed, ins₀]
theorem pOf_closed (I : Ins F) (n : ℕ) (k v : Fin 2 → FVec F (sh n 256) .bf16) : pOf (closed I) n k v = pOf I n k v := by
  unfold pOf; dsimp only [closed]
theorem closed_p1 (I : Ins F) : (closed I).p 1 = p1Of (closed I) := by
  rw [p1Of, pOf_closed]; dsimp only [closed]; rw [if_pos rfl]; unfold p1Of; with_reducible rfl
theorem closed_p2 (I : Ins F) : (closed I).p 2 = p2Of (closed I) := by
  rw [p2Of, pOf_closed]; dsimp only [closed]; rw [if_neg (by decide), if_pos rfl]; unfold p2Of; with_reducible rfl
theorem closed_p3 (I : Ins F) : (closed I).p 3 = p3Of (closed I) := by
  rw [p3Of, pOf_closed]; dsimp only [closed]; rw [if_neg (by decide), if_neg (by decide)]; unfold p3Of; with_reducible rfl

/-- All of them, from the memory at launch. -/
def ins : Ins F := closed (ins₀ (kAt m) (vAt m) (xAt m 0) (wqAt m 0))

/-- What the kernel leaves on each device. -/
def outAt (c : Dev nD) : cc0_stg5_0.ty.Contents (Elt F) :=
  match c with
  | 0 => out0 (ins m) (xAt m 0) (wqAt m 0) (woAt m 0)
  | 1 => out1 (ins m) (xAt m 1) (wqAt m 1) (woAt m 1)
  | 2 => out2 (ins m) (xAt m 2) (wqAt m 2) (woAt m 2)
  | 3 => out3 (ins m) (xAt m 3) (wqAt m 3) (woAt m 3)

/-- The body, on any device. -/
theorem devs (K : GSem nD τ sig → ℕ) : ∀ (c : Dev nD) (Kt : PUnit.{1} → sProp 𝕄),
    iprop(Pre (ins m) K c (xAt m c) (wqAt m c) (woAt m c) ∗ (Post (ins m) c (xAt m c) (wqAt m c) (woAt m c) (outAt m c) -∗ Kt ⟨⟩))
      ⊢ wp frame (wpE (defs₀ (F := F)) 𝒱₀ (c : Thread nD τ) none) Set.univ (bodyAt0 t0_0) Kt := by
  intro c Kt
  have h : c = 0 ∨ c = 1 ∨ c = 2 ∨ c = 3 := by revert c; decide
  rcases h with rfl | rfl | rfl | rfl
  · exact dev0 (ins m) K _ _ _ Kt (closed_q _ _ _ _)
  · exact dev1 (ins m) K _ _ _ Kt (closed_p1 _)
  · exact dev2 (ins m) K _ _ _ Kt (closed_p2 _)
  · exact dev3 (ins m) K _ _ _ Kt (closed_p3 _)

/-! ## The proof data of the pipeline -/

/-- The kernel's own semaphores. -/
abbrev osem0 : Fin 24 → SemLoc sig := fun k => .dma (dsem k)

/-- What a device holds of the protocol besides what it owes. -/
def PX (c : Dev nD) : sProp 𝕄 :=
  iprop((∃ K, Pers (ins m) K c) ∗ (bigSep (Finset.univ.erase c) fun e : Dev nD => dutyTok ER (barCell e) 0 (dn c))
    ∗ cred (tallyAt (barCell c) () 3) ∗ atPos ER (barCell c) 0 ∅ 0 ∗ bigSep (mine c) tok2 ∗ bigSep (inc c) credR ∗ posn c ∅)

/-- Its scratch buffers, at any contents. -/
def scr (c : Dev nD) : sProp 𝕄 :=
  iprop((∃ f : cc0_scratch0.ty.Contents (Elt F), pt c cc0_scratch0 fullShare f) ∗ (∃ f : cc0_scratch1.ty.Contents (Elt F), pt c cc0_scratch1 fullShare f)
    ∗ (∃ f : cc0_scratch2.ty.Contents (Elt F), pt c cc0_scratch2 fullShare f) ∗ (∃ f : cc0_scratch3.ty.Contents (Elt F), pt c cc0_scratch3 fullShare f)
    ∗ (∃ f : cc0_scratch4.ty.Contents (Elt F), pt c cc0_scratch4 fullShare f))

def Φ₀ (c : Dev nD) : sProp 𝕄 := iprop(PX m c ∗ scr c ∗ ∃ r, prngReg c r)
def Φ₁ (c : Dev nD) : sProp 𝕄 :=
  iprop((semVal (barCell c) 0 ∗ bigSep Finset.univ fun k : Fin 24 => semVal (dcell c k) 0) ∗ scr (F := F) c ∗ ∃ r, prngReg c r)

/-- The pipeline's one point: the inputs stay, the output is the device's, and what is owed is paid. -/
def dat0 (c : Dev nD) : Pipeline.Dat τ (Elt F) Unit ℕ UU ℕ cfg0 c where
  A w := V m c (Pipeline.arrRef spec0 w)
  after w t := match w with
    | 0 => xAt m c
    | 1 => wqAt m c
    | 2 => kAt m c
    | 3 => vAt m c
    | 4 => woAt m c
    | 5 => outAt m c
  Φ t := if t.val = 0 then Φ₀ m c else Φ₁ (F := F) c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owns_pt (c : Dev nD) (b : Ref sig .tc) (X : b.ty.Contents (Elt F)) :
    (owns (c : Thread nD τ) (Memref.whole b) fullShare X : sProp 𝕄) = pt c b fullShare X := by
  have e : (Memref.whole b).view.set = Finset.univ := View.set_whole _
  have h₁ : (owns (c : Thread nD τ) (Memref.whole b) fullShare X : sProp 𝕄) ⊢ pt c b fullShare X := by
    unfold owns
    rw [e]
    iintro ⟨%f, %h, H⟩
    have h' : f = X := h
    subst h'
    iexact H
  have h₂ : (pt c b fullShare X : sProp 𝕄) ⊢ owns (c : Thread nD τ) (Memref.whole b) fullShare X := by
    unfold owns
    rw [e]
    iintro H
    iexists X
    isplitr; · ipureintro; rfl
    iexact H
  exact BI.Entails.antisymm h₁ h₂

theorem owesAt_intro {cfg : Pipeline.Cfg sig Λ₀} {c : Dev nD} (dat : Pipeline.Dat τ (Elt F) Unit ℕ UU ℕ cfg c) (t : Fin (cfg.N + 1))
    (O : CellTallies nD τ sig Unit) (h : dat.owed t = O) (hr : dat.recorded t = Set.univ) (W : Waits sig Unit) :
    (owes (c : Thread nD τ) O W : sProp 𝕄) ⊢ dat.owesAt () t := by
  unfold Pipeline.Dat.owesAt Pipeline.owesWithin Pipeline.Dat.bound
  rw [h, hr]
  iintro H
  iexists W
  isplitr; · ipureintro; exact fun _ _ => Or.inl trivial
  iexact H

theorem owesAt_elim {cfg : Pipeline.Cfg sig Λ₀} {c : Dev nD} (dat : Pipeline.Dat τ (Elt F) Unit ℕ UU ℕ cfg c) (t : Fin (cfg.N + 1))
    (O : CellTallies nD τ sig Unit) (h : dat.owed t = O) : (dat.owesAt () t : sProp 𝕄) ⊢ iprop(∃ W, owes (c : Thread nD τ) O W) := by
  unfold Pipeline.Dat.owesAt Pipeline.owesWithin
  rw [h]
  iintro ⟨%W, -, H⟩
  iexists W
  iexact H

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed t0_0.succ = 0 := by
  show (if (t0_0.succ : Fin (cfg0.N + 1)).val = 0 then O₀ c else 0) = 0; exact if_neg (Nat.succ_ne_zero _)
theorem Φ_first (c : Dev nD) : (dat0 m c).Φ t0_0.castSucc = Φ₀ m c := by
  show (if (t0_0.castSucc : Fin (cfg0.N + 1)).val = 0 then Φ₀ m c else Φ₁ (F := F) c) = Φ₀ m c; exact if_pos rfl
theorem Φ_last (c : Dev nD) : (dat0 m c).Φ t0_0.succ = Φ₁ (F := F) c := by
  show (if (t0_0.succ : Fin (cfg0.N + 1)).val = 0 then Φ₀ m c else Φ₁ (F := F) c) = Φ₁ (F := F) c; exact if_neg (Nat.succ_ne_zero _)

theorem found0 (c : Dev nD) (d : (cfg0.win 0).block.Idx → Elt F (cfg0.win 0).elt) : (dat0 m c).before 0 t0_0 d = xAt m c := (dat0 m c).before_fetched 0 t0_0 (fetch0_0 _) d
theorem found1 (c : Dev nD) (d : (cfg0.win 1).block.Idx → Elt F (cfg0.win 1).elt) : (dat0 m c).before 1 t0_0 d = wqAt m c := (dat0 m c).before_fetched 1 t0_0 (fetch0_1 _) d
theorem found2 (c : Dev nD) (d : (cfg0.win 2).block.Idx → Elt F (cfg0.win 2).elt) : (dat0 m c).before 2 t0_0 d = kAt m c := (dat0 m c).before_fetched 2 t0_0 (fetch0_2 _) d
theorem found3 (c : Dev nD) (d : (cfg0.win 3).block.Idx → Elt F (cfg0.win 3).elt) : (dat0 m c).before 3 t0_0 d = vAt m c := (dat0 m c).before_fetched 3 t0_0 (fetch0_3 _) d
theorem found4 (c : Dev nD) (d : (cfg0.win 4).block.Idx → Elt F (cfg0.win 4).elt) : (dat0 m c).before 4 t0_0 d = woAt m c := (dat0 m c).before_fetched 4 t0_0 (fetch0_4 _) d

/-- The pipeline's obligation at its one point. -/
theorem body0 (c : Dev nD) : Pipeline.BodyObligation (dat0 m c) defs₀ 𝒱₀ () Set.univ := fun t => by
  obtain rfl := fin_N0 t
  rw [bigSep_W0, bigSep_W0]
  show iprop((dat0 m c).Φ t0_0.castSucc ∗ (dat0 m c).owesAt () t0_0.castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ wp frame (wpE (defs₀ (F := F)) 𝒱₀ (c : Thread nD τ) none) Set.univ (bodyAt0 t0_0) fun _ =>
      iprop((dat0 m c).Φ t0_0.succ ∗ (dat0 m c).owesAt () t0_0.succ
        ∗ owns (c : Thread nD τ) (Memref.whole cc0_stg0_0) fullShare (xAt m c) ∗ owns (c : Thread nD τ) (Memref.whole cc0_stg1_0) fullShare (wqAt m c)
        ∗ owns (c : Thread nD τ) (Memref.whole cc0_stg2_0) fullShare (kAt m c) ∗ owns (c : Thread nD τ) (Memref.whole cc0_stg3_0) fullShare (vAt m c)
        ∗ owns (c : Thread nD τ) (Memref.whole cc0_stg4_0) fullShare (woAt m c) ∗ owns (c : Thread nD τ) (Memref.whole cc0_stg5_0) fullShare (outAt m c))
  rw [Φ_first, Φ_last]
  simp only [found0, found1, found2, found3, found4, owns_pt]
  unfold Φ₀ Φ₁ PX scr
  iintro ⟨⟨⟨⟨%K, HP⟩, Ht, Hcb, Hat, Htk, Hcr, Hpo⟩, ⟨B0, B1, B2, B3, B4⟩, Hreg⟩, HO, ⟨%d0, H0⟩, ⟨%d1, H1⟩, ⟨%d2, H2⟩, ⟨%d3, H3⟩, ⟨%d4, H4⟩, ⟨%d5, H5⟩⟩
  ihave HO' := (owesAt_elim (dat0 m c) _ (O₀ c) (owed_first m c)) $$ HO
  iapply (devs m K c _)
  isplitr [Hreg]
  · unfold Pre PB0
    isplitl [HP]; · iexact HP
    isplitl [HO' Ht Hcb Hat Htk Hcr Hpo]
    · isplitl [HO']; · iexact HO'
      isplitl [Ht]; · iexact Ht
      isplitl [Hcb]; · iexact Hcb
      isplitl [Hat]; · iexact Hat
      isplitl [Htk]; · iexact Htk
      isplitl [Hcr]; · iexact Hcr
      iexact Hpo
    isplitl [H0]; · iexact H0
    isplitl [H1]; · iexact H1
    isplitl [H2]; · iexact H2
    isplitl [H3]; · iexact H3
    isplitl [H4]; · iexact H4
    isplitl [H5]; · iexists _; iexact H5
    isplitl [B0]; · iexact B0
    isplitl [B1]; · iexact B1
    isplitl [B2]; · iexact B2
    isplitl [B3]; · iexact B3
    iexact B4
  unfold Post Fin0
  iintro ⟨⟨⟨%W, HO⟩, Hb, Hs⟩, H0, H1, H2, H3, H4, H5, B0, B1, B2, B3, B4⟩
  isplitl [Hb Hs Hreg B0 B1 B2 B3 B4]
  · isplitl [Hb Hs]
    · isplitl [Hb]; · iexact Hb
      iexact Hs
    isplitl [B0 B1 B2 B3 B4]
    · isplitl [B0]; · iexact B0
      isplitl [B1]; · iexact B1
      isplitl [B2]; · iexact B2
      isplitl [B3]; · iexact B3
      iexact B4
    iexact Hreg
  isplitl [HO]; · iapply (owesAt_intro (dat0 m c) t0_0.succ 0 (owed_last m c) rfl W); iexact HO
  isplitl [H0]; · iexact H0
  isplitl [H1]; · iexact H1
  isplitl [H2]; · iexact H2
  isplitl [H3]; · iexact H3
  isplitl [H4]; · iexact H4
  iexact H5

end Cert.KernelIdeal.Att
-- ==== Proof.Region.lean ====
/-
# The region and the host segment

The kernel's region: its own semaphores' cells are opened on entry, and the arrays come back with the output in place. Before
it the host's two reshapes.
-/
module

public import proofs.«01_k».proof.Proof.State
public import Idealize.ShloMosaic.Lib.Pipeline.RegionTalk
public import Idealize.ShloMosaic.Lib.Pipeline.RegionArraysS
public import Idealize.ShloMosaic.Lib.Pipeline.FrameTail

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What is kept from launch for the region -/

/-- The invariants, and that every barrier is at its first round. -/
def Recs (K : GSem nD τ sig → ℕ) : sProp 𝕄 := iprop(invs (ins m) K ∗ bigSep Finset.univ fun e : Dev nD => reached ER (barCell e) 0)
instance Recs_persistent (K : GSem nD τ sig → ℕ) : BI.Persistent (Recs m K) := by unfold Recs; infer_instance

/-- What is device `c`'s alone. -/
def Lin (c : Dev nD) : sProp 𝕄 :=
  iprop((bigSep Finset.univ fun k : Fin 24 => openTok ER (dcell c k))
    ∗ (bigSep (Finset.univ.erase c) fun e : Dev nD => dutyTok ER (barCell e) 0 (dn c))
    ∗ cred (tallyAt (barCell c) () 3) ∗ atPos ER (barCell c) 0 ∅ 0 ∗ bigSep (mine c) tok2 ∗ bigSep (inc c) credR)

def Tk (c : Dev nD) : sProp 𝕄 := iprop((∃ K, Recs m K) ∗ Lin (F := F) c)

theorem opened (K : GSem nD τ sig → ℕ) (c : Dev nD) :
    iprop(invs (ins m) K ∗ (bigSep Finset.univ fun k : Fin 24 => openTok ER (dcell c k)) ∗ bigSep Finset.univ fun k : Fin 24 => semVal (dcell c k) 0)
      ⊢ (|={Set.univ}=> iprop(posn c ∅ ∗ bigSep Finset.univ fun k : Fin 24 => reached ER (dcell c k) 0) : sProp 𝕄) := by
  have h : iprop(invs (ins m) K ∗ bigSep Finset.univ fun k : Fin 24 => iprop(openTok ER (dcell c k) ∗ semVal (dcell c k) 0))
      ⊢ bigSep Finset.univ fun k : Fin 24 => iprop(|={Set.univ}=> (iprop(atPos ER (dcell c k) (if k ∈ (∅ : Finset (Fin 24)) then 1 else 0) ∅ 0 ∗ reached ER (dcell c k) 0) : sProp 𝕄)) :=
    each _ _ fun k _ => by
      rw [if_neg (Finset.notMem_empty k)]
      iintro ⟨#HI, Ho, Hs⟩
      imod (Rounds.cell_open ER (Rd (ins m)) (g := dcell c k) (Set.mem_univ (K (dcell c k)))) $$ [Ho Hs] with ⟨Hat, #Hr⟩
      · isplitr; · iapply (invs_dma (ins m) K c k); iexact HI
        isplitl [Ho] <;> iassumption
      imodintro
      isplitl [Hat]; · iexact Hat
      iexact Hr
  unfold posn
  iintro ⟨#HI, Ho, Hs⟩
  ihave Hp := (pair_up Finset.univ (fun k : Fin 24 => (openTok ER (dcell c k) : sProp 𝕄)) fun k : Fin 24 => semVal (dcell c k) 0) $$ [Ho Hs]
  · isplitl [Ho] <;> iassumption
  ihave H := h $$ [Hp]
  · isplitr; · iexact HI
    iexact Hp
  imod (bigSep_fupd Finset.univ fun k : Fin 24 => (iprop(atPos ER (dcell c k) (if k ∈ (∅ : Finset (Fin 24)) then 1 else 0) ∅ 0 ∗ reached ER (dcell c k) 0) : sProp 𝕄)) $$ [H] with Hv
  · iexact H
  imodintro
  iapply (Entails.of_eq (bigSep_sep' Finset.univ (fun k : Fin 24 => (atPos ER (dcell c k) (if k ∈ (∅ : Finset (Fin 24)) then 1 else 0) ∅ 0 : sProp 𝕄)) fun k : Fin 24 => reached ER (dcell c k) 0))
  iexact Hv

theorem hopen0 (c : Dev nD) : iprop(Tk m c ∗ Pipeline.ownSems0 osem0 c ∗ levAts L lv) ⊢ (|={Set.univ}=> PX m c : sProp 𝕄) := by
  unfold Tk Lin Recs PX
  rw [show (Pipeline.ownSems0 osem0 c : sProp 𝕄) = bigSep Finset.univ fun k : Fin 24 => semVal (dcell c k) 0 from rfl]
  iintro ⟨⟨⟨%K, #HI, #HR⟩, Ho, Ht, Hcb, Hat, Htk, Hcr⟩, Hs, #Hlev⟩
  imod (opened m K c) $$ [Ho Hs] with ⟨Hpo, #Hr⟩
  · isplitr; · iexact HI
    isplitl [Ho] <;> iassumption
  imodintro
  isplitr
  · iexists K
    unfold Pers
    isplitr; · iexact HI
    isplitr; · iexact Hlev
    isplitr; · iexact HR
    iexact Hr
  isplitl [Ht]; · iexact Ht
  isplitl [Hcb]; · iexact Hcb
  isplitl [Hat]; · iexact Hat
  isplitl [Htk]; · iexact Htk
  isplitl [Hcr]; · iexact Hcr
  iexact Hpo

/-! ## The region -/

/-- The arrays after the region. -/
def V₂ (c : Dev nD) : Valuation τ sig (Elt F) := Pipeline.afterRegion (dat0 m c) (V₁ m c)

/-- The buffers the region leaves alone. -/
abbrev Sr : Finset (DevRef τ sig) := Pipeline.ucRefs τ sig \ Pipeline.arrRefs spec0

theorem arr_sub : Pipeline.arrRefs (τ := τ) spec0 ⊆ Pipeline.ucRefs τ sig := Pipeline.arrRefs_sub_ucRefs spec0 (by decide)

theorem hin0 (c : Dev nD) : iprop(Pipeline.scopedRest (Pipeline.pin (pcfgs (F := F)) adm 0).spec c ∗ (∃ r, prngReg c r) ∗ StableHlo.held (c.tc : Thread nD τ) ∅ (V₁ m c) ∗ PX m c)
    ⊢ (pdats m 0 c).Φ 0 := by
  have e : (pdats m 0 c).Φ 0 = Φ₀ m c := by
    show (if (0 : Fin (cfg0.N + 1)).val = 0 then Φ₀ m c else Φ₁ (F := F) c) = Φ₀ m c; exact if_pos rfl
  rw [e]
  unfold Φ₀ scr
  show iprop(Pipeline.scopedRest spec0 c ∗ _) ⊢ _
  rw [scopedRest0_eq]
  iintro ⟨Hs, Hp, -, HX⟩
  isplitl [HX]; · iexact HX
  isplitl [Hs]; · iexact Hs
  iexact Hp

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem0 c ∗ semVal (barCell c) 0) := by
  have e : (pdats m 0 c).Φ (Fin.last (Pipeline.pin (pcfgs (F := F)) adm 0).N) = Φ₁ (F := F) c := by
    show (if (Fin.last cfg0.N).val = 0 then Φ₀ m c else Φ₁ (F := F) c) = Φ₁ (F := F) c
    rw [Fin.val_last, if_neg (by rw [show cfg0.N = 1 from N_0]; decide)]
  rw [e]
  unfold Φ₁ scr
  rw [show (Pipeline.ownSems0 osem0 c : sProp 𝕄) = bigSep Finset.univ fun k : Fin 24 => semVal (dcell c k) 0 from rfl]
  show _ ⊢ iprop(Pipeline.scopedRest spec0 c ∗ _)
  rw [scopedRest0_eq]
  iintro ⟨⟨Hb, Hss⟩, Hs, Hp⟩
  isplitl [Hs]; · iexact Hs
  isplitl [Hp]; · iexact Hp
  isplitr
  · unfold StableHlo.held
    rw [bigSep_empty]
    iempintro
  isplitl [Hss]; · iexact Hss
  iexact Hb

theorem owed_zero (c : Dev nD) : (pdats (F := F) m 0 c).owed 0 = 0 + O₀ c := by
  rw [zero_add]
  show (if (0 : Fin (cfg0.N + 1)).val = 0 then O₀ c else 0) = O₀ c; exact if_pos rfl
theorem owed_end (c : Dev nD) : (pdats (F := F) m 0 c).owed (Fin.last _) = 0 := by
  show (if (Fin.last cfg0.N).val = 0 then O₀ c else 0) = 0
  rw [Fin.val_last, if_neg (by rw [show cfg0.N = 1 from N_0]; decide)]

/-- What is owed lies above the staging copies' level. -/
theorem cut0 : Pipeline.LevelCutOwed (pcfgs (F := F)) adm (pdats m) () L lv 0 (fun _ => 0) where
  hι c w s := by rw [L_tc]; exact Finset.mem_singleton_self _
  hιb c w s := by
    have h : ∀ (w : Fin cfg0.W) (s : Fin (cfg0.win w).nbuf), klev (sidx ((cfg0.win w).sem s)) ≤ 0 := by decide
    exact h w s
  hD c t g i h := by
    have e : (pdats (F := F) m 0 c).owed t = if t.val = 0 then O₀ c else 0 := rfl
    rw [e] at h
    split at h
    · rcases ow_pos h with ⟨t, -, rfl⟩ | ⟨e, -, rfl⟩
      · exact ⟨by rw [L_tc]; exact Finset.mem_singleton_self _, by rw [lv_dma]; exact (show ∀ t : Fin 24, 0 < klev (xr t) from by decide) t⟩
      · exact ⟨by rw [L_tc]; exact Finset.mem_singleton_self _, by rw [lv_bar]; decide⟩
    · exact absurd h (Nat.lt_irrefl 0)

/-- Every array is held whole. -/
theorem shares (c : Dev nD) (w : Fin (Pipeline.pin (pcfgs (F := F)) adm 0).W) : (pdats (F := F) m 0 c).share w = fullShare := by
  unfold Pipeline.Dat.share; exact ite_self _

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem0 (by decide : Pipeline.OwnSemFacts spec0 osem0)
    ∅ Sr (Finset.empty_subset _) launch0.toP rfl (fun c => (body0 m c).loose)
    (fun _ => 0) O₀ (owed_zero m) (owed_end m) (fun _ => rfl) (shares m)
    (V₁ m) (V₂ m)
    (fun c b hb => Pipeline.afterRegion_off (dat0 m c) (V₁ m c) (Pipeline.ucRefs τ sig) b (by rw [Finset.sdiff_empty] at hb; exact hb))
    (Tk m) (fun c => semVal (barCell c) 0) (PX m) (fun c => semVal (barCell c) 0) (hopen0 m) (hin0 m) (hout0 m)
    (fun c => by iintro H; imodintro; iexact H)
    (fun _ => 0) (cut0 m)
    (fun _ => iprop(emp))
    (fun c w => rfl)
    (fun c w => (Pipeline.afterRegion_arr (dat0 m c) (V₁ m c) winFacts0.arr_inj w).symm)

/-! ## The host's reshapes -/

/-- What waits while the host works. -/
def R (c : Dev nD) : sProp 𝕄 := iprop(Tk m c ∗ (∃ r, prngReg c r) ∗ ∃ W, owes (c : Thread nD τ) (O₀ c) W)

def seg0 : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (V₀ m) (R m)

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

theorem reg_pre (c : Dev nD) : iprop(StableHlo.held (c.tc : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [zero_add, StableHlo.held_sub_split (c.tc : Thread nD τ) arr_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg0 m).post c
    ⊢ (iprop((StableHlo.held (c.tc : Thread nD τ) (Pipeline.ucRefs τ sig) (V₂ m c) ∗ semVal (barCell c) 0) ∗ ∃ W, owes (c : Thread nD τ) (0 : CellTallies nD τ sig Unit) W) : sProp 𝕄) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ semVal (barCell c) 0 ∗ ∃ Wd, owes (c : Thread nD τ) (0 : CellTallies nD τ sig Unit) Wd) ⊢ _
  rw [StableHlo.held_sub_split (c.tc : Thread nD τ) arr_sub (V₂ m c)]
  iintro ⟨Ha, -, ⟨Hr, -⟩, Hb, HO⟩
  isplitr [HO]
  · isplitl [Ha Hr]
    · isplitl [Ha] <;> iassumption
    iexact Hb
  iexact HO

end Cert.KernelIdeal.Att
-- ==== Proof.Tokens.lean ====
/-
# What is dealt at launch

The tokens of every duty, and what every device is promised, dealt out to the devices.
-/
module

public import proofs.«01_k».proof.Proof.State

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The cells -/

def barEmb : Dev nD ↪ GSem nD τ sig := ⟨fun c => barCell c, fun _ _ h => congrArg (fun g : GSem nD τ sig => g.1.1) h⟩
def scEmb : Dev nD × Fin 24 ↪ GSem nD τ sig :=
  ⟨fun x => dcell x.1 x.2, fun _ _ h => Prod.ext (dcell_inj h).1 (dcell_inj h).2⟩
abbrev barCells : Finset (GSem nD τ sig) := Finset.univ.map barEmb
abbrev scCells : Finset (GSem nD τ sig) := Finset.univ.map scEmb

theorem bar_ne_dcell (c e : Dev nD) (k : Fin 24) : barCell c ≠ dcell e k := fun h => by
  have h' : (SemLoc.reg barS : SemLoc sig) = SemLoc.dma (dsem k) := congrArg Prod.snd h
  injection h'

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact bar_ne_dcell c x.1 x.2 h.symm

/-! ## The duties' tokens -/

abbrev Tok : Type := GSem nD τ sig × ℕ × Fin 24

/-- Every device signals every other one's barrier. -/
def tokB : Finset Tok :=
  (Finset.univ.sigma fun c : Dev nD => Finset.univ.erase c).map ⟨fun x => (barCell x.2, 0, dn x.1), fun x y h => by
    have h1 : x.2 = y.2 := congrArg (fun t : Tok => t.1.1.1) h
    have h2 : x.1 = y.1 := Fin.ext (congrArg (fun t : Tok => t.2.2.val) h)
    exact Sigma.ext h2 (heq_of_eq h1)⟩
/-- A copy's two ends. -/
def tokS : Finset Tok := Finset.univ.map ⟨fun t : Fin 24 => (scell t, 0, t), fun x y h => congrArg (fun t : Tok => t.2.2) h⟩
def tokR : Finset Tok := Finset.univ.map ⟨fun t : Fin 24 => (rcell t, 0, t), fun x y h => congrArg (fun t : Tok => t.2.2) h⟩

theorem disj_SR : Disjoint tokS tokR := by
  rw [Finset.disjoint_left]
  rintro g h₁ h₂
  obtain ⟨t, -, rfl⟩ := Finset.mem_map.mp h₁
  obtain ⟨u, -, h⟩ := Finset.mem_map.mp h₂
  have e : u = t := congrArg (fun t : Tok => t.2.2) h
  subst e
  have h' : rcell u = scell u := congrArg (fun t : Tok => t.1) h
  have e := dcell_inj h'
  revert e; revert u; decide

theorem disj_B : Disjoint tokB (tokS ∪ tokR) := by
  rw [Finset.disjoint_left]
  rintro g h₁ h₂
  obtain ⟨x, -, rfl⟩ := Finset.mem_map.mp h₁
  rcases Finset.mem_union.mp h₂ with h₂ | h₂
  · obtain ⟨u, -, h⟩ := Finset.mem_map.mp h₂
    exact bar_ne_dcell _ _ _ (congrArg (fun t : Tok => t.1) h).symm
  · obtain ⟨u, -, h⟩ := Finset.mem_map.mp h₂
    exact bar_ne_dcell _ _ _ (congrArg (fun t : Tok => t.1) h).symm

def toks : Finset Tok := tokB ∪ (tokS ∪ tokR)

theorem mine_all : Finset.univ.biUnion mine = (Finset.univ : Finset (Fin 24)) := by decide
theorem mine_disj : ∀ c ∈ (Finset.univ : Finset (Dev nD)), ∀ e ∈ (Finset.univ : Finset (Dev nD)), c ≠ e → Disjoint (mine c) (mine e) := by decide
theorem inc_all : Finset.univ.biUnion inc = (Finset.univ : Finset (Fin 24)) := by decide
theorem inc_disj : ∀ c ∈ (Finset.univ : Finset (Dev nD)), ∀ e ∈ (Finset.univ : Finset (Dev nD)), c ≠ e → Disjoint (inc c) (inc e) := by decide

theorem toks_eq : (bigSep toks fun x => (dutyTok ER x.1 x.2.1 x.2.2 : sProp 𝕄))
    ⊢ iprop((bigSep Finset.univ fun c : Dev nD => bigSep (Finset.univ.erase c) fun e : Dev nD => dutyTok ER (barCell e) 0 (dn c))
        ∗ bigSep Finset.univ fun c : Dev nD => bigSep (mine c) tok2) := by
  have hB : (bigSep tokB fun x => (dutyTok ER x.1 x.2.1 x.2.2 : sProp 𝕄))
      = bigSep Finset.univ fun c : Dev nD => bigSep (Finset.univ.erase c) fun e : Dev nD => dutyTok ER (barCell e) 0 (dn c) := by
    unfold tokB; rw [bigSep_map, Pipeline.bigSep_sigma]; rfl
  have hS : (bigSep tokS fun x => (dutyTok ER x.1 x.2.1 x.2.2 : sProp 𝕄)) = bigSep Finset.univ fun t : Fin 24 => dutyTok ER (scell t) 0 t := by
    unfold tokS; rw [bigSep_map]; rfl
  have hR : (bigSep tokR fun x => (dutyTok ER x.1 x.2.1 x.2.2 : sProp 𝕄)) = bigSep Finset.univ fun t : Fin 24 => dutyTok ER (rcell t) 0 t := by
    unfold tokR; rw [bigSep_map]; rfl
  unfold toks
  rw [bigSep_union disj_B, bigSep_union disj_SR, hB, hS, hR, bigSep_groups Finset.univ mine tok2 mine_disj, mine_all]
  exact sep_mono_right (pair_up Finset.univ (fun t : Fin 24 => (dutyTok ER (scell t) 0 t : sProp 𝕄)) fun t : Fin 24 => dutyTok ER (rcell t) 0 t)

/-! ## What each device is promised -/

/-- Three signals at its barrier, and the copies that come in. -/
def promised (c : Dev nD) : CellTallies nD τ sig Unit := tallyAt (barCell c) () 3 + ∑ t ∈ inc c, tallyAt (rcell t) () (xamt t)

theorem sum_groups (f : Dev nD → Finset (Fin 24)) (h : ∀ c ∈ (Finset.univ : Finset (Dev nD)), ∀ e ∈ (Finset.univ : Finset (Dev nD)), c ≠ e → Disjoint (f c) (f e))
    (hf : Finset.univ.biUnion f = (Finset.univ : Finset (Fin 24))) (Φ : Fin 24 → CellTallies nD τ sig Unit) :
    (∑ c, ∑ t ∈ f c, Φ t) = ∑ t, Φ t := by
  rw [← hf, Finset.sum_biUnion fun c hc e he hne => h c (Finset.mem_coe.mp hc) e (Finset.mem_coe.mp he) hne]

theorem three (c : Dev nD) : (∑ d ∈ Finset.univ.erase c, tallyAt (barCell c) () 1 : CellTallies nD τ sig Unit) = tallyAt (barCell c) () 3 := by
  rw [Finset.sum_const, show (Finset.univ.erase c : Finset (Dev nD)).card = 3 from by revert c; decide]
  rw [show (3 : ℕ) = 1 + 1 + 1 from rfl, ← tallyAt_add, ← tallyAt_add, succ_nsmul, succ_nsmul, one_nsmul]

theorem sum_erase_comm (Φ : Dev nD → CellTallies nD τ sig Unit) :
    (∑ c : Dev nD, ∑ e ∈ Finset.univ.erase c, Φ e) = ∑ c : Dev nD, ∑ e ∈ Finset.univ.erase c, Φ c :=
  Finset.sum_comm' fun c e => by
    simp only [Finset.mem_univ, Finset.mem_erase, true_and, and_true]; exact ne_comm

theorem sum_owed : (∑ c, O₀ c) = ∑ c, promised c := by
  unfold O₀ ow promised
  rw [Finset.sum_add_distrib, Finset.sum_add_distrib, sum_groups mine mine_disj mine_all, sum_groups inc inc_disj inc_all,
    sum_erase_comm, Finset.sum_congr rfl fun c _ => three c, add_comm]

theorem promised_own (c : Dev nD) (g : GSem nD τ sig) (h : promised c g ≠ 0) : g.1 = (c.tc : Thread nD τ) := by
  have h' : 0 < promised c g () := Nat.pos_of_ne_zero fun hz => h (Finsupp.ext fun u => by cases u; exact hz)
  unfold promised at h'
  rw [Pi.add_apply, Finsupp.add_apply] at h'
  rcases Nat.add_pos_iff_pos_or_pos.mp h' with h' | h'
  · rw [tally_pos h']
  · obtain ⟨t, ht, h'⟩ := sum_pos _ _ h'
    rw [tally_pos h']
    have e : xdst t = c := (show ∀ (c : Dev nD) (t : Fin 24), t ∈ inc c → xdst t = c from by decide) c t ht
    rw [← e]

theorem cred_group (s : Finset (Fin 24)) : (cred (∑ t ∈ s, tallyAt (rcell t) () (xamt t)) : sProp 𝕄) ⊢ bigSep s credR := by
  induction s using Finset.induction_on with
  | empty => rw [Finset.sum_empty, cred_zero, bigSep_empty]; exact .rfl
  | insert t s ht ih =>
    rw [Finset.sum_insert ht, bigSep_insert ht]
    exact (cred_add _ _).1.trans (sep_mono_right ih)

theorem creds (c : Dev nD) : (Pipeline.launchCred O₀ c : sProp 𝕄) ⊢ iprop(cred (tallyAt (barCell c) () 3) ∗ bigSep (inc c) credR) := by
  rw [Pipeline.launchCred_of_sum O₀ promised sum_owed promised_own]
  unfold promised
  exact (cred_add _ _).1.trans (sep_mono_right (cred_group (inc c)))

end Cert.KernelIdeal.Att
-- ==== Proof.Launch.lean ====
/-
# The launch and the run

All of it dealt out to the devices, and the run of the whole program:
-/
module

public import proofs.«01_k».proof.Proof.Region
public import proofs.«01_k».proof.Proof.Tokens

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch -/

def u₀ : UU :=
  (Rounds.initOf (Pipeline.cells (Pipeline.pin (pcfgs (F := F)) adm) cellOf_inj) (Pipeline.launchToks (Pipeline.pin (pcfgs (F := F)) adm) cellOf_inj),
    launchOf barCells scCells toks)

/-- All of a resource on device 0, nothing on the others. -/
def onZero (X : sProp 𝕄) (c : Dev nD) : sProp 𝕄 := if c = 0 then X else iprop(emp)
theorem onZero_all (X : sProp 𝕄) : bigSep Finset.univ (onZero X) = X := by
  rw [pick (Finset.mem_univ (0 : Dev nD)), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells scCells toks)))

abbrev T₀ (c : Dev nD) : sProp 𝕄 := iprop(StableHlo.held (c.tc : Thread nD τ) (Pipeline.ucRefs τ sig) (V₀ m c) ∗ R m c)
abbrev Tₙ (c : Dev nD) : sProp 𝕄 := iprop(StableHlo.held (c.tc : Thread nD τ) (Pipeline.ucRefs τ sig) (V₂ m c) ∗ semVal (barCell c) 0)

/-- What a device has at launch apart from the invariants and the tokens. -/
def bundle (c : Dev nD) : sProp 𝕄 :=
  iprop(StableHlo.held (c.tc : Thread nD τ) (Pipeline.ucRefs τ sig) (V₀ m c) ∗ (cred (tallyAt (barCell c) () 3) ∗ bigSep (inc c) credR)
    ∗ owes (c : Thread nD τ) (O₀ c) ∅ ∗ ∃ r, prngReg c r)

/-- The rest of what it gets. -/
def dealt (c : Dev nD) : sProp 𝕄 :=
  iprop(atPos ER (barCell c) 0 ∅ 0 ∗ (bigSep Finset.univ fun k : Fin 24 => openTok ER (dcell c k))
    ∗ (bigSep (Finset.univ.erase c) fun e : Dev nD => dutyTok ER (barCell e) 0 (dn c)) ∗ bigSep (mine c) tok2)

theorem unscopedSems0_eq (c : Dev nD) : (unscopedSems0 c : sProp 𝕄) = semVal (barCell c) 0 := by
  unfold unscopedSems0
  rw [show (Finset.univ.filter fun sm : SemLoc sig => ¬sm.isScoped .tc = true) = {SemLoc.reg barS} from by decide, bigSep_singleton]

theorem T₀_intro (K : GSem nD τ sig → ℕ) (c : Dev nD) : iprop(Recs m K ∗ (dealt (F := F) c ∗ bundle m c)) ⊢ T₀ m c := by
  unfold bundle dealt T₀ R Tk Lin
  iintro ⟨#HR, ⟨Hat, Ho, Ht, Htk⟩, Hh, ⟨Hcb, Hcr⟩, HO, Hp⟩
  isplitl [Hh]; · iexact Hh
  isplitl [Hat Ho Ht Htk Hcb Hcr]
  · isplitr; · iexists K; iexact HR
    isplitl [Ho]; · iexact Ho
    isplitl [Ht]; · iexact Ht
    isplitl [Hcb]; · iexact Hcb
    isplitl [Hat]; · iexact Hat
    isplitl [Htk]; · iexact Htk
    iexact Hcr
  isplitl [Hp]; · iexact Hp
  iexists ∅
  iexact HO

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G c)) : sProp 𝕄) := by
  rw [show (unscopedBufs c (fun b => m ((c : Thread nD τ).loc b)) : sProp 𝕄) = StableHlo.held (c.tc : Thread nD τ) (Pipeline.ucRefs τ sig) (V₀ m c)
      from Pipeline.unscopedBufs_held c (V₀ m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem records (K : GSem nD τ sig → ℕ) :
    iprop((bigSep (barCells ∪ scCells) fun g => cellInv ER (Rd (ins m)) (K g) g) ∗ bigSep barCells fun g => reached ER g 0) ⊢ (Recs m K : sProp 𝕄) := by
  unfold Recs invs
  rw [bigSep_union disjoint_cells, bigSep_map, bigSep_map, bigSep_map]
  exact .rfl

theorem deal :
    iprop((bigSep barCells fun g => (atPos ER g 0 ∅ 0 : sProp 𝕄)) ∗ (bigSep scCells fun g => openTok ER g)
      ∗ bigSep toks fun x => dutyTok ER x.1 x.2.1 x.2.2) ⊢ bigSep Finset.univ fun c : Dev nD => dealt (F := F) c := by
  unfold dealt
  rw [bigSep_map, bigSep_map, bigSep_univ_prod]
  iintro ⟨Ha, Ho, Ht⟩
  ihave H := (toks_eq (F := F)) $$ Ht
  iapply (pair_up Finset.univ (fun c : Dev nD => (atPos ER (barCell c) 0 ∅ 0 : sProp 𝕄)) _)
  isplitl [Ha]; · iexact Ha
  iapply (pair_up Finset.univ (fun c : Dev nD => (bigSep Finset.univ fun k : Fin 24 => (openTok ER (dcell c k) : sProp 𝕄))) _)
  isplitl [Ho]; · iexact Ho
  iapply (pair_up Finset.univ (fun c : Dev nD => (bigSep (Finset.univ.erase c) fun e : Dev nD => (dutyTok ER (barCell e) 0 (dn c) : sProp 𝕄))) _)
  iexact H

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop((bigSep Finset.univ fun c : Dev nD => bundle m c) ∗ (bigSep barCells fun g => semVal g 0) ∗ BI.own (ER (launchOf barCells scCells toks))) : sProp 𝕄) from by
        refine (bigSep_mono fun c _ => core_init m ρ c).trans ?_
        rw [bigSep_sep', bigSep_sep', bigSep_map]
        unfold G
        rw [onZero_all]
        exact BI.Entails.refl _) $$ H
  icases H' with ⟨HB, Hv, Hu⟩
  imod (Rounds.fund_launch ER (Rd (ins m)) disjoint_cells (fun g _ h => h) toks) $$ [Hv Hu] with ⟨%K, -, #Hinv, #Hr, Hat, Hopen, Htok⟩
  · isplitl [Hv] <;> iassumption
  imodintro
  iapply (each Finset.univ (Recs m K) fun c _ => T₀_intro m K c)
  isplitr
  · iapply (records m K)
    isplitr; · iexact Hinv
    iexact Hr
  iapply (pair_up Finset.univ (fun c : Dev nD => dealt (F := F) c) _)
  isplitr [HB]
  · iapply (deal (F := F))
    isplitl [Hat]; · iexact Hat
    isplitl [Hopen] <;> iassumption
  iexact HB

/-! ## The run -/

theorem unscoped_eq : ∀ sm : SemLoc sig, sm.isScoped .tc = false → sm = .reg barS := by decide

set_option backward.isDefEq.respectTransparency.types false in
/-- From any memory with the counters at zero every execution ends, with every array as the region leaves it and the counters
    at zero. -/
theorem run_main : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [onZero_all]; iexact HX)
    (T₀ := T₀ m) (Tₙ := Tₙ m)
    (hch := ⟨fun c => .rfl, fun c => reg_pre m c, fun c => reg_post m c⟩)
    (hinit := init m ρ)
    (QY := fun c s => (∀ b ∈ Pipeline.ucRefs τ sig, s.mem (c, b) = V₂ m c b) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b : DevRef τ sig => ((c, b) : Loc nD τ sig)) (V₂ m c) s') $$ [Hh HSI]
      · isplitl [Hh] <;> iassumption
      icases Hr with ⟨%hh, HSI⟩
      imodintro
      isplitr
      · ipureintro
        exact ⟨hh, by simpa using hb⟩
      iexact HSI)
    (hQ := fun s h hs => ⟨fun c => (h c).1,
      sem_eq_zero hs fun c sm hsm => by
        obtain rfl := unscoped_eq sm hsm
        exact (h c).2⟩)

end Cert.KernelIdeal.Att
-- ==== Proof.Arrays.lean ====
/-
# The arrays after the run

Every argument ends as it began, and the result array holds what the device's body left in its block.
-/
module

public import proofs.«01_k».proof.Proof.Launch
public import Idealize.ShloMosaic.Lib.Pipeline.RegionArraysS

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-- Of the staged arrays only the result is written. -/
theorem V₂_in (c : Dev nD) (w : Fin 6) (h : w ≠ 5) : V₂ m c (Pipeline.arrRef spec0 w) = V₁ m c (Pipeline.arrRef spec0 w) :=
  Pipeline.afterRegion_keeps (dat0 m c) (V₁ m c) winFacts0.arr_inj (fun _ => rfl) _
    (fun w' e => by
      have e' : w' = w := winFacts0.arr_inj e
      subst e'
      revert w' h
      decide)

/-- An array that is not staged is not written. -/
theorem V₂_off (c : Dev nD) (b : Ref sig .tc) (h : ∀ w, b ≠ Pipeline.arrRef spec0 w) : V₂ m c b = V₁ m c b :=
  Pipeline.afterRegion_of_not_arr (dat0 m c) (V₁ m c) h

/-- The result array is the body's last block. -/
theorem V₂_out (c : Dev nD) : V₂ m c main_v3 = (dat0 m c).arrAt 5 1 :=
  Pipeline.afterRegion_arr (dat0 m c) (V₁ m c) winFacts0.arr_inj 5

/-- Every execution ends with the arguments as they were, the result array as the region leaves it, and the counters at zero. -/
theorem run_args : θ_run defs (onTc (τ := τ) (main (F := F))) ⟨m, fun _ => 0, ρ⟩ (fun r => (∀ c : Dev nD,
      r.2.mem ((c.tc : Thread nD τ).loc main_v3) = V₂ m c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨h.1 c main_v3 (by decide),
     (h.1 c main_arg0 (by decide)).trans ((V₂_in m c 0 (by decide)).trans (V_main_arg0 m c)),
     (h.1 c main_arg1 (by decide)).trans ((V₂_in m c 1 (by decide)).trans (V_main_arg1 m c)),
     (h.1 c main_arg2 (by decide)).trans ((V₂_off m c main_arg2 (by decide)).trans (V_main_arg2 m c)),
     (h.1 c main_arg3 (by decide)).trans ((V₂_off m c main_arg3 (by decide)).trans (V_main_arg3 m c)),
     (h.1 c main_arg4 (by decide)).trans ((V₂_in m c 4 (by decide)).trans (V_main_arg4 m c))⟩, h.2⟩)
    (run_main m ρ)

/-- The same of the arguments alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_args m ρ)

end Cert.KernelIdeal.Att
-- ==== Proof.Plain.lean ====
/-
# The kernel as printed, and the kernel with its mask named

The two programs have the same text but for the mask's constant. Where the name stands for that constant's own bits they are one
program, so the run of the one is the run of the other.
-/
module

public import proofs.«01_k».proof.Defs
public import proofs.«01_k».proof.Proof.Gen.Kernel
public import proofs.«01_k».proof.Proof.Arrays

@[expose] public section

noncomputable section

namespace Cert.Proof

open Idealize.ShloMosaic Idealize.SL.Sem

/-- A name read as the constant it stands beside. -/
@[instance_reducible] def plainNamed : Named Bits where
  named _ _ {φ} b := Scalar.ofBits φ b

attribute [local instance] Cert.Kernel.Gen.facts Cert.KernelIdeal.Gen.facts plainNamed

set_option maxRecDepth 100000
set_option maxHeartbeats 0

theorem body_eq : @Cert.Kernel.cc0_body Bits _ _ = @Cert.KernelIdeal.cc0_body Bits _ plainNamed _ := rfl

theorem bodies_eq : Cert.Kernel.defs₀ (F := Bits) = @Cert.KernelIdeal.defs₀ Bits _ plainNamed _ := by
  unfold Cert.Kernel.defs₀ Cert.KernelIdeal.defs₀
  congr 1
  funext l x
  match l, x with
  | 0, (t, s) => exact congrArg (fun b : type_of% (@Cert.Kernel.cc0_body Bits _ _) => b _ _ _ _ _ _ _ _ _ _ _ _ _ _ _ _ _ _ _ _ _ _ _ _ _ _ _ _ _ _) body_eq

theorem main_eq : Cert.Kernel.main (F := Bits) = Cert.KernelIdeal.main (F := Bits) := rfl

theorem defs_eq : Cert.Kernel.defs (F := Bits) = @Cert.KernelIdeal.defs Bits _ plainNamed _ :=
  congrArg (Pipeline.defs (Cert.KernelIdeal.pcfgs (F := Bits))) bodies_eq

/-- The kernel as printed leaves its arguments as they were and its counters at zero. -/
theorem frame_kernel : Cert.quiescent_Kernel := fun m ρ _ => by
  rw [defs_eq, main_eq]
  exact Cert.KernelIdeal.Att.run_frame (F := Bits) m ρ

end Cert.Proof
-- ==== Proof.Frames.lean ====
/-
# What the programs leave unchanged

The kernel with its mask named, and the reference: their arguments end as they began and their counters end at zero. And what the
naming of the mask states.
-/
module

public import proofs.«01_k».proof.Defs
public import proofs.«01_k».proof.Proof.Gen.ReferenceIdeal
public import proofs.«01_k».proof.Proof.Gen.ReferenceIdeal.Run
public import proofs.«01_k».proof.Proof.Arrays
public import Idealize.ShloMosaic.Lib.Quiescent

@[expose] public section

noncomputable section

namespace Cert.Proof

open Idealize.ShloMosaic Idealize.SL.Sem

attribute [local instance] Cert.KernelIdeal.Gen.facts Cert.ReferenceIdeal.Gen.facts

/-- The kernel with its mask named. -/
theorem frame_ideal : Cert.quiescent_KernelIdeal := fun m ρ _ => Cert.KernelIdeal.Att.run_frame m ρ

/-- The reference: it declares no counter. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The mask is `-∞` over the extended reals. -/
theorem preserves : Cert.preserves_Kernel_KernelIdeal :=
  IdealRules.named_const.statement Cert.KernelIdeal.κ "mask" .f32 0xCE6E6B28#32 ⊥ rfl

end Cert.Proof
-- ==== Proof.Loads.lean ====
/-
# What the loads read

Element by element, of the staged blocks, the gathered blocks and the parts.
-/
module

public import proofs.«01_k».proof.Proof.Heads
public import Idealize.ShloMosaic.Lib.Pointwise

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Leading axes of extent one dropped. -/
theorem drop3_apply {α : Type} (m n : ℕ) (v : (⟨3, ![1, m, n]⟩ : Shape).Idx → α) (h : (⟨3, ![1, m, n]⟩ : Shape).ShapeCasts (sh m n)) (r : Fin m) (j : Fin n) :
    shapeCast (sh m n) v h (ix2 r j) = v (ix3 0 r j) := by
  unfold shapeCast
  congr 1
  apply Shape.reshapeEquiv_eq_of_rowMajor
  rw [Shape.rowMajor_val_three, Shape.rowMajor_val_two]
  show (0 * m + r.val) * n + j.val = r.val * n + j.val
  rw [Nat.zero_mul, Nat.zero_add]
theorem drop4_apply {α : Type} (m n : ℕ) (v : (⟨4, ![1, 1, m, n]⟩ : Shape).Idx → α) (h : (⟨4, ![1, 1, m, n]⟩ : Shape).ShapeCasts (sh m n)) (r : Fin m) (j : Fin n) :
    shapeCast (sh m n) v h (ix2 r j) = v (ix4 0 0 r j) := by
  unfold shapeCast
  congr 1
  apply Shape.reshapeEquiv_eq_of_rowMajor
  rw [Shape.rowMajor_val_four, Shape.rowMajor_val_two]
  show ((0 * 1 + 0) * m + r.val) * n + j.val = r.val * n + j.val
  simp only [Nat.zero_mul, Nat.zero_add]
theorem drop5_apply {α : Type} (m n : ℕ) (v : (⟨5, ![1, 1, 1, m, n]⟩ : Shape).Idx → α) (h : (⟨5, ![1, 1, 1, m, n]⟩ : Shape).ShapeCasts (sh m n)) (r : Fin m) (j : Fin n) :
    shapeCast (sh m n) v h (ix2 r j) = v (ix5 0 0 0 r j) := by
  unfold shapeCast
  congr 1
  apply Shape.reshapeEquiv_eq_of_rowMajor
  rw [Shape.rowMajor_val_five, Shape.rowMajor_val_two]
  show (((0 * 1 + 0) * 1 + 0) * m + r.val) * n + j.val = r.val * n + j.val
  simp only [Nat.zero_mul, Nat.zero_add]

theorem wqV_apply (wq : cc0_stg1_0.ty.Contents (Elt F)) (t : Fin 512) (j : Fin 256) : wqV wq (ix2 t j) = wq (ix2 t j) := by
  refine (congrFun (shapeCast_self _ _) _).trans (congrArg wq (funext fun a => Fin.ext ?_))
  match a with
  | ⟨0, _⟩ => show 0 + 1 * t.val = t.val; omega
  | ⟨1, _⟩ => show 0 + 1 * j.val = j.val; omega
theorem woV_apply (wo : cc0_stg4_0.ty.Contents (Elt F)) (j : Fin 256) (e : Fin 512) : woV wo (ix2 j e) = wo (ix2 j e) := by
  refine (congrFun (shapeCast_self _ _) _).trans (congrArg wo (funext fun a => Fin.ext ?_))
  match a with
  | ⟨0, _⟩ => show 0 + 1 * j.val = j.val; omega
  | ⟨1, _⟩ => show 0 + 1 * e.val = e.val; omega
theorem qV_apply (q : cc0_scratch2.ty.Contents (Elt F)) (b : Fin 2) (r : Fin 32) (j : Fin 256) : qV q b (ix2 r j) = q (ix3 b r j) := by
  refine (drop3_apply 32 256 _ _ r j).trans (congrArg q (funext fun a => Fin.ext ?_))
  match a with
  | ⟨0, _⟩ => show b.val + 1 * 0 = b.val; omega
  | ⟨1, _⟩ => show 0 + 1 * r.val = r.val; omega
  | ⟨2, _⟩ => show 0 + 1 * j.val = j.val; omega
theorem ppV_apply (p : cc0_scratch4.ty.Contents (Elt F)) (b : Fin 2) (h : Fin 4) (i : Fin 3) (r : Fin 32) (e : Fin 128) :
    ppV p b h i (ix2 r e) = p (ix5 i b h r e) := by
  refine (drop5_apply 32 128 _ _ r e).trans (congrArg p (funext fun a => Fin.ext ?_))
  match a with
  | ⟨0, _⟩ => show i.val + 1 * 0 = i.val; omega
  | ⟨1, _⟩ => show b.val + 1 * 0 = b.val; omega
  | ⟨2, _⟩ => show h.val + 1 * 0 = h.val; omega
  | ⟨3, _⟩ => show 0 + 1 * r.val = r.val; omega
  | ⟨4, _⟩ => show 0 + 1 * e.val = e.val; omega
theorem xV_apply (x : cc0_stg0_0.ty.Contents (Elt F)) (m : ℕ) (hm : m ≤ 256) (b : Fin 2) (r : Fin m) (t : Fin 512) :
    xV x m hm b (ix2 r t) = x (ix3 b ⟨r.val, by omega⟩ t) := by
  refine (drop3_apply m 512 _ _ r t).trans (congrArg x (funext fun a => Fin.ext ?_))
  match a with
  | ⟨0, _⟩ => show b.val + 1 * 0 = b.val; omega
  | ⟨1, _⟩ => show 0 + 1 * r.val = r.val; omega
  | ⟨2, _⟩ => show 0 + 1 * t.val = t.val; omega
theorem kV_apply (k : cc0_stg2_0.ty.Contents (Elt F)) (lo m : ℕ) (hm : lo + m ≤ 256) (b : Fin 2) (r : Fin m) (j : Fin 256) :
    kV k lo m hm b (ix2 r j) = k (ix3 b ⟨lo + r.val, by omega⟩ j) := by
  refine (drop3_apply m 256 _ _ r j).trans (congrArg k (funext fun a => Fin.ext ?_))
  match a with
  | ⟨0, _⟩ => show b.val + 1 * 0 = b.val; omega
  | ⟨1, _⟩ => show lo + 1 * r.val = lo + r.val; omega
  | ⟨2, _⟩ => show 0 + 1 * j.val = j.val; omega
theorem vV_apply (v : cc0_stg3_0.ty.Contents (Elt F)) (lo m : ℕ) (hm : lo + m ≤ 256) (b : Fin 2) (r : Fin m) (j : Fin 256) :
    vV v lo m hm b (ix2 r j) = v (ix3 b ⟨lo + r.val, by omega⟩ j) := kV_apply v lo m hm b r j
theorem kgV_apply (k : cc0_scratch0.ty.Contents (Elt F)) (s : Fin 4) (lo m : ℕ) (hm : lo + m ≤ 256) (b : Fin 2) (r : Fin m) (j : Fin 256) :
    kgV k s lo m hm b (ix2 r j) = k (ix4 s b ⟨lo + r.val, by omega⟩ j) := by
  refine (drop4_apply m 256 _ _ r j).trans (congrArg k (funext fun a => Fin.ext ?_))
  match a with
  | ⟨0, _⟩ => show s.val + 1 * 0 = s.val; omega
  | ⟨1, _⟩ => show b.val + 1 * 0 = b.val; omega
  | ⟨2, _⟩ => show lo + 1 * r.val = lo + r.val; omega
  | ⟨3, _⟩ => show 0 + 1 * j.val = j.val; omega
theorem vgV_apply (v : cc0_scratch1.ty.Contents (Elt F)) (s : Fin 4) (lo m : ℕ) (hm : lo + m ≤ 256) (b : Fin 2) (r : Fin m) (j : Fin 256) :
    vgV v s lo m hm b (ix2 r j) = v (ix4 s b ⟨lo + r.val, by omega⟩ j) := kgV_apply v s lo m hm b r j

/-- Of the gathered blocks these are the devices' own, -/
theorem kgAll_apply (I : Ins F) (s : Fin 4) (lo m : ℕ) (hm : lo + m ≤ 256) (b : Fin 2) (r : Fin m) (j : Fin 256) :
    kgV (kgAll I) s lo m hm b (ix2 r j) = I.k s (ix3 b ⟨lo + r.val, by omega⟩ j) := kgV_apply (kgAll I) s lo m hm b r j
theorem vgAll_apply (I : Ins F) (s : Fin 4) (lo m : ℕ) (hm : lo + m ≤ 256) (b : Fin 2) (r : Fin m) (j : Fin 256) :
    vgV (vgAll I) s lo m hm b (ix2 r j) = I.v s (ix3 b ⟨lo + r.val, by omega⟩ j) := vgV_apply (vgAll I) s lo m hm b r j
/-- and of the parts those of the device. -/
theorem ppAll_apply (I : Ins F) (b : Fin 2) (h : Fin 4) (i : Fin 3) (r : Fin 32) (e : Fin 128) :
    ppV (ppAll I) b h i (ix2 r e) = I.p (⟨i.val + 1, by omega⟩ : Fin 4) (ix4 b h r e) := ppV_apply (ppAll I) b h i r e

end Cert.KernelIdeal.Att
-- ==== Proof.Staged.lean ====
/-
# The staged arrays at an index

What the buffers a device fills in pieces hold at an index: the global queries, the parts for device 0, and the output.
-/
module

public import proofs.«01_k».proof.Proof.Loads
public import Idealize.ShloMosaic.Lib.Pointwise
public import Idealize.ShloMosaic.Lib.WritesUnit
@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- A slab with a leading axis of extent one added. -/
theorem add3_apply {α : Type} (m n : ℕ) (v : (sh m n).Idx → α) (h : (sh m n).ShapeCasts (⟨3, ![1, m, n]⟩ : Shape)) (z : Fin 1) (r : Fin m) (j : Fin n) :
    shapeCast (⟨3, ![1, m, n]⟩ : Shape) v h (ix3 z r j) = v (ix2 r j) := by
  unfold shapeCast
  congr 1
  apply Shape.reshapeEquiv_eq_of_rowMajor
  rw [Shape.rowMajor_val_three, Shape.rowMajor_val_two]
  show r.val * n + j.val = (z.val * m + r.val) * n + j.val
  have hz : z.val = 0 := by omega
  rw [hz, Nat.zero_mul, Nat.zero_add]

/-- A buffer written in pieces that agree with one array and cover an index holds the array there. -/
theorem whole_writes (b : Ref sig .tc) (f : b.ty.Contents (Elt F)) (L : List (View.Piece (Elt F) b.ty.shape b.ty.elt))
    (G : b.ty.shape.Idx → Elt F b.ty.elt) (hG : ∀ p ∈ L, ∀ x : p.1.shape.Idx, p.2 x = G (p.1.emb x)) (y : b.ty.shape.Idx)
    (hy : ∃ p ∈ L, y ∈ p.1.set) : (View.whole b).writes (Elt F) f L y = G y :=
  View.read_writes_apply_of_pieces (Val := Elt F) (View.whole b) f G L hG y hy

/-- Where a slab of a batch lies. -/
theorem emb_slab (m n : ℕ) (b : Fin 2) (inb : ∀ a, ![b.val, 0, 0] a + ![1, m, n] a ≤ (⟨3, ![2, m, n]⟩ : Shape).size a) (z : Fin 1) (r : Fin m) (j : Fin n) :
    (Rect.unit (s := ⟨3, ![2, m, n]⟩) ![b.val, 0, 0] ![1, m, n] inb).emb (ix3 z r j) = ix3 b r j := Rect.emb_eq_of_coords _ _ _ fun a => by
  match a with
  | ⟨0, _⟩ => show b.val = b.val + 1 * z.val; omega
  | ⟨1, _⟩ => show r.val = 0 + 1 * r.val; omega
  | ⟨2, _⟩ => show j.val = 0 + 1 * j.val; omega
theorem mem_slab (m n : ℕ) (b : Fin 2) (inb : ∀ a, ![b.val, 0, 0] a + ![1, m, n] a ≤ (⟨3, ![2, m, n]⟩ : Shape).size a) (r : Fin m) (j : Fin n) :
    (ix3 b r j : (⟨3, ![2, m, n]⟩ : Shape).Idx) ∈ (Rect.unit (s := ⟨3, ![2, m, n]⟩) ![b.val, 0, 0] ![1, m, n] inb).set := Rect.mem_set_unit.mpr fun a => by
  match a with
  | ⟨0, _⟩ => exact ⟨le_refl _, Nat.lt_succ_self _⟩
  | ⟨1, _⟩ => exact ⟨Nat.zero_le _, by show r.val < 0 + m; omega⟩
  | ⟨2, _⟩ => exact ⟨Nat.zero_le _, by show j.val < 0 + n; omega⟩

/-- The output holds its two slabs, -/
theorem outOf_apply (o : Fin 2 → FVec F S1x256x512 .bf16) (b : Fin 2) (r : Fin 256) (e : Fin 512) :
    outOf o (ix3 b r e) = o b (ix3 0 r e) := by
  have one (b : Fin 2) (inb : ∀ a, ![b.val, 0, 0] a + ![1, 256, 512] a ≤ S2x256x512.size a) (x : S1x256x512.Idx) :
      o b x = (fun y : S2x256x512.Idx => o (y 0) (ix3 0 (y 1) (y 2))) ((Rect.unit (s := S2x256x512) ![b.val, 0, 0] ![1, 256, 512] inb).emb x) := by
    obtain ⟨z, r, e, rfl⟩ : ∃ (z : Fin 1) (r : Fin 256) (e : Fin 512), x = ix3 z r e := ⟨x 0, x 1, x 2, by
      funext a; match a with | ⟨0, _⟩ => rfl | ⟨1, _⟩ => rfl | ⟨2, _⟩ => rfl⟩
    obtain rfl : z = 0 := by omega
    exact (congrArg (fun y : S2x256x512.Idx => o (y 0) (ix3 0 (y 1) (y 2))) (emb_slab 256 512 b inb 0 r e)).symm
  unfold outOf
  refine whole_writes cc0_stg5_0 _ _ (fun y => o (y 0) (ix3 0 (y 1) (y 2))) ?_ (ix3 b r e) ?_
  · intro p hp
    simp only [List.mem_cons, List.not_mem_nil, or_false] at hp
    rcases hp with rfl | rfl
    exacts [one 1 inb_S2x256x512_S1x256x512_1_0_0, one 0 inb_S2x256x512_S1x256x512_0_0_0]
  · match b with
    | 1 => exact ⟨_, List.Mem.head _, mem_slab 256 512 1 inb_S2x256x512_S1x256x512_1_0_0 r e⟩
    | 0 => exact ⟨_, List.Mem.tail _ (List.Mem.head _), mem_slab 256 512 0 inb_S2x256x512_S1x256x512_0_0_0 r e⟩

/-- and the staged global queries their projections. -/
theorem qOf_apply (x : cc0_stg0_0.ty.Contents (Elt F)) (wq : cc0_stg1_0.ty.Contents (Elt F)) (b : Fin 2) (r : Fin 32) (j : Fin 256) :
    qOf x wq (ix3 b r j) = truncf (F := F) .bf16 (proj 32 (xV x 32 (by decide) b) (wqV wq)) bitsLt_bf16_f32 (ix2 r j) := by
  have one (b : Fin 2) (inb : ∀ a, ![b.val, 0, 0] a + ![1, 32, 256] a ≤ S2x32x256.size a) (x' : S1x32x256.Idx) :
      shapeCast S1x32x256 (truncf (F := F) .bf16 (proj 32 (xV x 32 (by decide) b) (wqV wq)) bitsLt_bf16_f32) shapeCasts_S32x256_S1x32x256 x'
        = (fun y : S2x32x256.Idx => truncf (F := F) .bf16 (proj 32 (xV x 32 (by decide) (y 0)) (wqV wq)) bitsLt_bf16_f32 (ix2 (y 1) (y 2)))
            ((Rect.unit (s := S2x32x256) ![b.val, 0, 0] ![1, 32, 256] inb).emb x') := by
    obtain ⟨z, r, e, rfl⟩ : ∃ (z : Fin 1) (r : Fin 32) (e : Fin 256), x' = ix3 z r e := ⟨x' 0, x' 1, x' 2, by
      funext a; match a with | ⟨0, _⟩ => rfl | ⟨1, _⟩ => rfl | ⟨2, _⟩ => rfl⟩
    rw [emb_slab 32 256 b inb]
    exact add3_apply 32 256 _ _ z r e
  unfold qOf
  refine whole_writes cc0_scratch2 _ _ (fun y => truncf (F := F) .bf16 (proj 32 (xV x 32 (by decide) (y 0)) (wqV wq)) bitsLt_bf16_f32 (ix2 (y 1) (y 2))) ?_ (ix3 b r j) ?_
  · intro p hp
    simp only [List.mem_cons, List.not_mem_nil, or_false] at hp
    rcases hp with rfl | rfl
    exacts [one 1 inb_S2x32x256_S1x32x256_1_0_0, one 0 inb_S2x32x256_S1x32x256_0_0_0]
  · match b with
    | 1 => exact ⟨_, List.Mem.head _, mem_slab 32 256 1 inb_S2x32x256_S1x32x256_1_0_0 r j⟩
    | 0 => exact ⟨_, List.Mem.tail _ (List.Mem.head _), mem_slab 32 256 0 inb_S2x32x256_S1x32x256_0_0_0 r j⟩

section Parts

variable (I : Ins F) (n : ℕ) (k v : Fin 2 → FVec F (sh n 256) .bf16)

/-- What a part's buffer holds: weighted sums in columns 0 to 63, sums of weights in the others. -/
def pAt' (b : Fin 2) (h : Fin 4) (r : Fin 32) (e : Fin 128) : F .bf16 :=
  if he : e.val < 64 then partA n (qV I.q b) (k b) (v b) h (ix4 0 0 r ⟨e.val, he⟩)
  else partL n (qV I.q b) (k b) h (ix4 0 0 r ⟨e.val - 64, by omega⟩)
def pAt : FVec F S2x4x32x128 .bf16 := fun y => pAt' I n k v (y 0) (y 1) (y 2) (y 3)
theorem pAt'_lo (b : Fin 2) (h : Fin 4) (r : Fin 32) (d : Fin 64) :
    pAt' I n k v b h r ⟨d.val, by omega⟩ = partA n (qV I.q b) (k b) (v b) h (ix4 0 0 r d) := by
  unfold pAt'
  rw [dif_pos d.isLt]
theorem pAt'_hi (b : Fin 2) (h : Fin 4) (r : Fin 32) (d : Fin 64) :
    pAt' I n k v b h r ⟨64 + d.val, by omega⟩ = partL n (qV I.q b) (k b) h (ix4 0 0 r d) := by
  unfold pAt'
  rw [dif_neg (by simp)]
  refine congrArg _ (congrArg (ix4 0 0 r) (Fin.ext ?_))
  show 64 + d.val - 64 = d.val
  omega

theorem pieceA (b : Fin 2) (h : Fin 4) (x : S1x1x32x64.Idx) :
    partA n (qV I.q b) (k b) (v b) h x = pAt I n k v ((Rect.unit (s := S2x4x32x128) ![b.val, h.val, 0, 0] S1x1x32x64.size (in_ps b h 0)).emb x) := by
  obtain ⟨x0, x1, r, d, rfl⟩ : ∃ (x0 : Fin 1) (x1 : Fin 1) (r : Fin 32) (d : Fin 64), x = ix4 x0 x1 r d := ⟨x 0, x 1, x 2, x 3, by
    funext a; match a with | ⟨0, _⟩ => rfl | ⟨1, _⟩ => rfl | ⟨2, _⟩ => rfl | ⟨3, _⟩ => rfl⟩
  obtain rfl : x0 = 0 := by omega
  obtain rfl : x1 = 0 := by omega
  have e : (Rect.unit (s := S2x4x32x128) ![b.val, h.val, 0, 0] S1x1x32x64.size (in_ps b h 0)).emb (ix4 0 0 r d)
      = (ix4 b h r ⟨d.val, by omega⟩ : S2x4x32x128.Idx) := Rect.emb_eq_of_coords _ _ _ fun a => by
    match a with
    | ⟨0, _⟩ => rfl
    | ⟨1, _⟩ => rfl
    | ⟨2, _⟩ => show r.val = 0 + 1 * r.val; omega
    | ⟨3, _⟩ => show d.val = 0 + 1 * d.val; omega
  exact ((congrArg (pAt I n k v) e).trans (pAt'_lo I n k v b h r d)).symm
theorem pieceL (b : Fin 2) (h : Fin 4) (x : S1x1x32x64.Idx) :
    partL n (qV I.q b) (k b) h x = pAt I n k v ((Rect.unit (s := S2x4x32x128) ![b.val, h.val, 0, 64] S1x1x32x64.size (in_ps b h 1)).emb x) := by
  obtain ⟨x0, x1, r, d, rfl⟩ : ∃ (x0 : Fin 1) (x1 : Fin 1) (r : Fin 32) (d : Fin 64), x = ix4 x0 x1 r d := ⟨x 0, x 1, x 2, x 3, by
    funext a; match a with | ⟨0, _⟩ => rfl | ⟨1, _⟩ => rfl | ⟨2, _⟩ => rfl | ⟨3, _⟩ => rfl⟩
  obtain rfl : x0 = 0 := by omega
  obtain rfl : x1 = 0 := by omega
  have e : (Rect.unit (s := S2x4x32x128) ![b.val, h.val, 0, 64] S1x1x32x64.size (in_ps b h 1)).emb (ix4 0 0 r d)
      = (ix4 b h r ⟨64 + d.val, by omega⟩ : S2x4x32x128.Idx) := Rect.emb_eq_of_coords _ _ _ fun a => by
    match a with
    | ⟨0, _⟩ => rfl
    | ⟨1, _⟩ => rfl
    | ⟨2, _⟩ => show r.val = 0 + 1 * r.val; omega
    | ⟨3, _⟩ => show 64 + d.val = 64 + 1 * d.val; omega
  exact ((congrArg (pAt I n k v) e).trans (pAt'_hi I n k v b h r d)).symm

theorem pOf_eq (y : S2x4x32x128.Idx) : pOf I n k v y = pAt I n k v y := by
  obtain ⟨b, h, r, e, rfl⟩ : ∃ (b : Fin 2) (h : Fin 4) (r : Fin 32) (e : Fin 128), y = ix4 b h r e := ⟨y 0, y 1, y 2, y 3, by
    funext a; match a with | ⟨0, _⟩ => rfl | ⟨1, _⟩ => rfl | ⟨2, _⟩ => rfl | ⟨3, _⟩ => rfl⟩
  unfold pOf
  refine whole_writes cc0_scratch3 _ _ (pAt I n k v) ?_ _ ?_
  · intro p hp
    simp only [List.mem_cons, List.not_mem_nil, or_false] at hp
    rcases hp with rfl | rfl | rfl | rfl | rfl | rfl | rfl | rfl | rfl | rfl | rfl | rfl | rfl | rfl | rfl | rfl
    exacts [pieceL I n k v 1 3, pieceA I n k v 1 3, pieceL I n k v 1 2, pieceA I n k v 1 2, pieceL I n k v 1 1, pieceA I n k v 1 1,
      pieceL I n k v 1 0, pieceA I n k v 1 0, pieceL I n k v 0 3, pieceA I n k v 0 3, pieceL I n k v 0 2, pieceA I n k v 0 2,
      pieceL I n k v 0 1, pieceA I n k v 0 1, pieceL I n k v 0 0, pieceA I n k v 0 0]
  · have hit (b : Fin 2) (h : Fin 4) (j : Fin 2) (e : Fin 128) (he : 64 * j.val ≤ e.val ∧ e.val < 64 * j.val + 64) :
        (ix4 b h r e : S2x4x32x128.Idx) ∈ (Rect.unit (s := S2x4x32x128) ![b.val, h.val, 0, 64 * j.val] S1x1x32x64.size (in_ps b h j)).set :=
      Rect.mem_set_unit.mpr fun a => by
        match a with
        | ⟨0, _⟩ => exact ⟨le_refl _, Nat.lt_succ_self _⟩
        | ⟨1, _⟩ => exact ⟨le_refl _, Nat.lt_succ_self _⟩
        | ⟨2, _⟩ => exact ⟨Nat.zero_le _, by show r.val < 0 + 32; omega⟩
        | ⟨3, _⟩ => exact he
    by_cases he : e.val < 64
    · have hA (b : Fin 2) (h : Fin 4) := hit b h 0 e ⟨Nat.zero_le _, he⟩
      match b, h with
      | 1, 3 => exact ⟨_, List.Mem.tail _ (List.Mem.head _), hA 1 3⟩
      | 1, 2 => exact ⟨_, List.Mem.tail _ (List.Mem.tail _ (List.Mem.tail _ (List.Mem.head _))), hA 1 2⟩
      | 1, 1 => exact ⟨_, List.Mem.tail _ (List.Mem.tail _ (List.Mem.tail _ (List.Mem.tail _ (List.Mem.tail _ (List.Mem.head _))))), hA 1 1⟩
      | 1, 0 => exact ⟨_, List.Mem.tail _ (List.Mem.tail _ (List.Mem.tail _ (List.Mem.tail _ (List.Mem.tail _ (List.Mem.tail _ (List.Mem.tail _ (List.Mem.head _))))))), hA 1 0⟩
      | 0, 3 => exact ⟨_, List.Mem.tail _ (List.Mem.tail _ (List.Mem.tail _ (List.Mem.tail _ (List.Mem.tail _ (List.Mem.tail _ (List.Mem.tail _ (List.Mem.tail _ (List.Mem.tail _ (List.Mem.head _))))))))), hA 0 3⟩
      | 0, 2 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), hA 0 2⟩
      | 0, 1 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), hA 0 1⟩
      | 0, 0 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), hA 0 0⟩
    · have hL (b : Fin 2) (h : Fin 4) := hit b h 1 e ⟨by show 64 ≤ e.val; omega, by show e.val < 128; omega⟩
      match b, h with
      | 1, 3 => exact ⟨_, List.Mem.head _, hL 1 3⟩
      | 1, 2 => exact ⟨_, List.Mem.tail _ (List.Mem.tail _ (List.Mem.head _)), hL 1 2⟩
      | 1, 1 => exact ⟨_, List.Mem.tail _ (List.Mem.tail _ (List.Mem.tail _ (List.Mem.tail _ (List.Mem.head _)))), hL 1 1⟩
      | 1, 0 => exact ⟨_, List.Mem.tail _ (List.Mem.tail _ (List.Mem.tail _ (List.Mem.tail _ (List.Mem.tail _ (List.Mem.tail _ (List.Mem.head _)))))), hL 1 0⟩
      | 0, 3 => exact ⟨_, List.Mem.tail _ (List.Mem.tail _ (List.Mem.tail _ (List.Mem.tail _ (List.Mem.tail _ (List.Mem.tail _ (List.Mem.tail _ (List.Mem.tail _ (List.Mem.head _)))))))), hL 0 3⟩
      | 0, 2 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), hL 0 2⟩
      | 0, 1 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), hL 0 1⟩
      | 0, 0 => exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), hL 0 0⟩

/-- At a column of the weighted sums, -/
theorem pOf_lo (b : Fin 2) (h : Fin 4) (r : Fin 32) (d : Fin 64) :
    pOf I n k v (ix4 b h r ⟨d.val, by omega⟩) = partA n (qV I.q b) (k b) (v b) h (ix4 0 0 r d) :=
  (pOf_eq I n k v _).trans (pAt'_lo I n k v b h r d)
/-- and at the first of the sums of weights. -/
theorem pOf_hi (b : Fin 2) (h : Fin 4) (r : Fin 32) :
    pOf I n k v (ix4 b h r ⟨64, by decide⟩) = partL n (qV I.q b) (k b) h (ix4 0 0 r 0) :=
  (pOf_eq I n k v _).trans (pAt'_hi I n k v b h r 0)

end Parts

end Cert.KernelIdeal.Att
-- ==== Proof.Entry.lean ====
/-
# The kernel's vector functions, element by element

Over the extended reals: what each function of a block holds at a row and a column.
-/
module

public import proofs.«01_k».proof.Proof.Heads
public import Idealize.ShloMosaic.Lib.Pointwise
public import Idealize.ShloMosaic.Lib.MatmulPlain

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A head's column among all. -/
def hcol (h : Fin 4) (d : Fin 64) : Fin 256 := ⟨64 * h.val + d.val, by omega⟩

theorem eighth_eq : (Ideal.ofBits .f32 0x3E000000#32 : EReal) = ((1 / 8 : ℝ) : EReal) := by
  simp [Ideal.ofBits, Ideal.ieee, -EReal.coe_mul]; norm_num

/-- A product from zero. -/
theorem dot_apply (m k n : ℕ) {φ₁ φ₂ : FTy} (a : FVec Ideal (sh m k) φ₁) (b : FVec Ideal (sh k n) φ₂) (r : Fin m) (c : Fin n) :
    matmul (.plain m k n) none a b (constant (sh m n) .f32 0x00000000#32) (ix2 r c) = ∑ t : Fin k, a (ix2 r t) * b (ix2 t c) :=
  (Ideal.matmul_plain_apply none a b _ r c).trans (by rw [show constant (F := Ideal) (sh m n) .f32 0x00000000#32 _ = 0 from Ideal.ofBits_zero .f32, zero_add]; rfl)
theorem dotT_apply (m k n : ℕ) {φ₁ φ₂ : FTy} (a : FVec Ideal (sh m k) φ₁) (b : FVec Ideal (sh n k) φ₂) (r : Fin m) (c : Fin n) :
    matmul (.transposedRhs m k n) none a b (constant (sh m n) .f32 0x00000000#32) (ix2 r c) = ∑ t : Fin k, a (ix2 r t) * b (ix2 c t) :=
  (Ideal.matmul_transposedRhs_apply none a b _ r c).trans (by rw [show constant (F := Ideal) (sh m n) .f32 0x00000000#32 _ = 0 from Ideal.ofBits_zero .f32, zero_add]; rfl)

theorem proj_apply (m : ℕ) (x : FVec Ideal (sh m 512) .bf16) (w : FVec Ideal (sh 512 256) .bf16) (r : Fin m) (j : Fin 256) :
    proj m x w (ix2 r j) = (∑ t : Fin 512, x (ix2 r t) * w (ix2 t j)) * Ideal.ofBits .f32 0x3E000000#32 := by
  exact congrArg (· * Ideal.ofBits .f32 0x3E000000#32) (dot_apply m 512 256 x w r j)

theorem hd_apply {α : Type} (m : ℕ) (h : Fin 4) (v : (sh m 256).Idx → α) (r : Fin m) (d : Fin 64) :
    hd m h v (ix2 r d) = v (ix2 r (hcol h d)) := by
  pointwise [hd]
  refine congrArg v ?_
  funext a
  match a with
  | ⟨0, _⟩ => exact Fin.ext (Nat.zero_add _)
  | ⟨1, _⟩ => rfl

theorem score_apply (m n : ℕ) (q : FVec Ideal (sh m 64) .bf16) (k : FVec Ideal (sh n 64) .bf16) (r : Fin m) (c : Fin n) :
    score m n q k (ix2 r c) = ∑ d : Fin 64, q (ix2 r d) * k (ix2 c d) := by
  exact dotT_apply m 64 n q k r c

theorem wgt_apply (n : ℕ) (q : FVec Ideal (sh 256 256) .f32) (msk : FVec Ideal (sh 256 n) .f32) (k : FVec Ideal (sh n 256) .bf16) (h : Fin 4)
    (r : Fin 256) (c : Fin n) :
    wgt n q msk k h (ix2 r c) = Ideal.exp ((∑ d : Fin 64, q (ix2 r (hcol h d)) * k (ix2 c (hcol h d))) + msk (ix2 r c)) := by
  pointwise [wgt, score_apply, hd_apply]

theorem gwgt_apply (n : ℕ) (q : FVec Ideal (sh 32 256) .bf16) (k : FVec Ideal (sh n 256) .bf16) (h : Fin 4) (r : Fin 32) (c : Fin n) :
    gwgt n q k h (ix2 r c) = Ideal.exp (∑ d : Fin 64, q (ix2 r (hcol h d)) * k (ix2 c (hcol h d))) := by
  pointwise [gwgt, score_apply, hd_apply]

theorem rsum_apply (m n : ℕ) (hm : m = 256 ∨ m = 32) (e : FVec Ideal (sh m n) .f32) (r : Fin m) (z : Fin 1) : rsum m n e (ix2 r z) = ∑ c : Fin n, e (ix2 r c) := by
  rcases hm with rfl | rfl <;> pointwise [rsum]

theorem wsum_apply (m n : ℕ) (e : FVec Ideal (sh m n) .f32) (v : FVec Ideal (sh n 256) .bf16) (h : Fin 4) (r : Fin m) (d : Fin 64) :
    wsum m n e v h (ix2 r d) = ∑ c : Fin n, e (ix2 r c) * v (ix2 c (hcol h d)) := by
  exact (dot_apply m n 64 _ _ r d).trans (Finset.sum_congr rfl fun c _ => congrArg (e (ix2 r c) * ·) (hd_apply n h v c d))

theorem quot_apply (m : ℕ) (hm : m = 256 ∨ m = 32 ∨ m = 224) (l : FVec Ideal (sh m 1) .f32) (a : FVec Ideal (sh m 64) .f32) (r : Fin m) (d : Fin 64) :
    quot m l a (ix2 r d) = Ideal.div (a (ix2 r d)) (l (ix2 r 0)) := by
  rcases hm with rfl | rfl | rfl <;> pointwise [quot]

theorem plusA_apply (a : FVec Ideal S32x64 .f32) (p : FVec Ideal S32x128 .bf16) (r : Fin 32) (d : Fin 64) :
    plusA a p (ix2 r d) = a (ix2 r d) + p (ix2 r ⟨d.val, by omega⟩) := by
  pointwise [plusA]

theorem plusL_apply (l : FVec Ideal S32x1 .f32) (p : FVec Ideal S32x128 .bf16) (r : Fin 32) (z : Fin 1) :
    plusL l p (ix2 r z) = l (ix2 r z) + p (ix2 r 64) := by
  pointwise [plusL]

theorem partA_apply (n : ℕ) (q : FVec Ideal (sh 32 256) .bf16) (k v : FVec Ideal (sh n 256) .bf16) (h : Fin 4) (a b : Fin 1) (r : Fin 32) (d : Fin 64) :
    partA n q k v h (ix4 a b r d) = wsum 32 n (gwgt n q k h) v h (ix2 r d) := by
  pointwise [partA]

theorem partL_apply (n : ℕ) (q : FVec Ideal (sh 32 256) .bf16) (k : FVec Ideal (sh n 256) .bf16) (h : Fin 4) (a b : Fin 1) (r : Fin 32) (d : Fin 64) :
    partL n q k h (ix4 a b r d) = rsum 32 n (gwgt n q k h) (ix2 r 0) := by
  pointwise [partL]

theorem slab_apply (c : Fin 4 → FVec Ideal S256x64 .f32) (wo : FVec Ideal S256x512 .bf16) (z : Fin 1) (r : Fin 256) (e : Fin 512) :
    slab c wo (ix3 z r e) = ∑ j : Fin 256, c ⟨j.val / 64, by omega⟩ (ix2 r ⟨j.val % 64, by omega⟩) * wo (ix2 j e) := by
  pointwise [slab]
  refine Finset.sum_congr rfl fun j _ => congrArg (· * wo (ix2 j e)) ?_
  have hj := j.isLt
  have key : ∀ (n : Fin 4) (a : Fin 64), j.val = 64 * n.val + a.val →
      c n (ix2 r a) = c ⟨j.val / 64, by omega⟩ (ix2 r ⟨j.val % 64, by omega⟩) := fun n a e => by
    rw [show (⟨j.val / 64, by omega⟩ : Fin 4) = n from Fin.ext (by show j.val / 64 = n.val; omega)]
    exact congrArg (fun a => c n (ix2 r a)) (Fin.ext (by show a.val = j.val % 64; omega))
  by_cases h0 : j.val < 64
  · rw [dif_pos h0]; exact key 0 ⟨j.val, h0⟩ (by show j.val = 64 * 0 + j.val; omega)
  · rw [dif_neg h0]
    by_cases h1 : j.val - 64 < 64
    · rw [dif_pos h1]; exact key 1 ⟨j.val - 64, h1⟩ (by show j.val = 64 * 1 + (j.val - 64); omega)
    · rw [dif_neg h1]
      by_cases h2 : j.val - 64 - 64 < 64
      · rw [dif_pos h2]; exact key 2 ⟨j.val - 64 - 64, h2⟩ (by show j.val = 64 * 2 + (j.val - 64 - 64); omega)
      · rw [dif_neg h2]; exact key 3 ⟨j.val - 64 - 64 - 64, by omega⟩ (by show j.val = 64 * 3 + (j.val - 64 - 64 - 64); omega)

theorem quot0_lo (l : FVec Ideal S256x1 .f32) (a : FVec Ideal S256x64 .f32) (p : Fin 3 → FVec Ideal S32x128 .bf16) (r : Fin 256) (hr : r.val < 32)
    (d : Fin 64) :
    quot0 l a p (ix2 r d) = Ideal.div (a (ix2 r d) + p 0 (ix2 ⟨r.val, hr⟩ ⟨d.val, by omega⟩) + p 1 (ix2 ⟨r.val, hr⟩ ⟨d.val, by omega⟩)
      + p 2 (ix2 ⟨r.val, hr⟩ ⟨d.val, by omega⟩))
      (l (ix2 r 0) + p 0 (ix2 ⟨r.val, hr⟩ 64) + p 1 (ix2 ⟨r.val, hr⟩ 64) + p 2 (ix2 ⟨r.val, hr⟩ 64)) := by
  pointwise [quot0]
  rw [dif_pos hr, quot_apply 32 (by decide)]
  simp only [plusA_apply, plusL_apply]
  pointwise

theorem quot0_hi (l : FVec Ideal S256x1 .f32) (a : FVec Ideal S256x64 .f32) (p : Fin 3 → FVec Ideal S32x128 .bf16) (r : Fin 256) (hr : ¬ r.val < 32)
    (d : Fin 64) : quot0 l a p (ix2 r d) = Ideal.div (a (ix2 r d)) (l (ix2 r 0)) := by
  pointwise [quot0]
  rw [dif_neg hr, quot_apply 224 (by decide)]
  pointwise
  rw [show (⟨32 + (r.val - 32), by omega⟩ : Fin 256) = r from Fin.ext (by show 32 + (r.val - 32) = r.val; omega)]

end Cert.KernelIdeal.Att
-- ==== Proof.Mask.lean ====
/-
# Which keys a query sees

A query sees the keys at most 128 places away, the first 32 keys, and every key if it is one of the first 32 queries. The comparisons
of 32-bit words that decide it, for numbers below 1024.
-/
module

public import proofs.«01_k».proof.Proof.Entry
public import Idealize.ShloMosaic.PureOps.IdealRules

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Query `i` sees key `k`. -/
def Sees (i k : ℕ) : Prop := (i ≤ k + 128 ∧ k ≤ i + 128) ∨ k < 32 ∨ i < 32
instance (i k : ℕ) : Decidable (Sees i k) := inferInstanceAs (Decidable (_ ∨ _))

theorem slt_word (a b : ℕ) (ha : a < 2 ^ 31) (hb : b < 2 ^ 31) :
    IntOp.cmpi .slt (BitVec.ofNat 32 a) (BitVec.ofNat 32 b) = BitVec.ofBool (decide (a < b)) := by
  unfold IntOp.cmpi
  refine congrArg BitVec.ofBool ?_
  show (BitVec.ofNat 32 a).slt (BitVec.ofNat 32 b) = _
  rw [BitVec.slt, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr Int.ofNat_lt

theorem sle_word (a b : ℕ) (ha : a < 2 ^ 31) (hb : b < 2 ^ 31) :
    IntOp.cmpi .sle (BitVec.ofNat 32 a) (BitVec.ofNat 32 b) = BitVec.ofBool (decide (a ≤ b)) := by
  unfold IntOp.cmpi
  refine congrArg BitVec.ofBool ?_
  show (BitVec.ofNat 32 a).sle (BitVec.ofNat 32 b) = _
  rw [BitVec.sle, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr Int.ofNat_le

/-- The distance of two numbers. -/
theorem dist_word (i k : ℕ) (hi : i < 1024) (hk : k < 1024) :
    IntOp.absi (IntOp.subi (BitVec.ofNat 32 i) (BitVec.ofNat 32 k)) = BitVec.ofNat 32 (max i k - min i k) := by
  show (if (BitVec.ofNat 32 i - BitVec.ofNat 32 k).msb then -(BitVec.ofNat 32 i - BitVec.ofNat 32 k) else (BitVec.ofNat 32 i - BitVec.ofNat 32 k)) = _
  rw [BitVec.msb_eq_decide]
  simp only [BitVec.toNat_sub, BitVec.toNat_ofNat]
  by_cases h : k ≤ i
  · rw [if_neg (by rw [decide_eq_true_iff]; omega)]
    apply BitVec.eq_of_toNat_eq
    simp only [BitVec.toNat_sub, BitVec.toNat_ofNat]
    omega
  · rw [if_pos (by rw [decide_eq_true_iff]; omega)]
    apply BitVec.eq_of_toNat_eq
    simp only [BitVec.toNat_neg, BitVec.toNat_sub, BitVec.toNat_ofNat]
    omega

theorem near_word (i k : ℕ) (hi : i < 1024) (hk : k < 1024) :
    IntOp.cmpi .sle (IntOp.absi (IntOp.subi (BitVec.ofNat 32 i) (BitVec.ofNat 32 k))) 128#32
      = BitVec.ofBool (decide (i ≤ k + 128 ∧ k ≤ i + 128)) := by
  rw [dist_word i k hi hk, sle_word _ 128 (by omega) (by omega)]
  exact congrArg BitVec.ofBool (decide_eq_decide.mpr (by omega))

theorem ori_bool (a b : Bool) : IntOp.ori (BitVec.ofBool a) (BitVec.ofBool b) = BitVec.ofBool (a || b) := by
  cases a <;> cases b <;> rfl

/-- The kernel's word. -/
theorem sees_word (i k : ℕ) (hi : i < 1024) (hk : k < 1024) :
    IntOp.ori (IntOp.ori (IntOp.cmpi .sle (IntOp.absi (IntOp.subi (BitVec.ofNat 32 i) (BitVec.ofNat 32 k))) 128#32)
      (IntOp.cmpi .slt (BitVec.ofNat 32 k) 32#32)) (IntOp.cmpi .slt (BitVec.ofNat 32 i) 32#32) = BitVec.ofBool (decide (Sees i k)) := by
  rw [near_word i k hi hk, slt_word k 32 (by omega) (by omega), slt_word i 32 (by omega) (by omega), ori_bool, ori_bool]
  refine congrArg BitVec.ofBool ?_
  rw [← Bool.decide_or, ← Bool.decide_or]
  exact decide_eq_decide.mpr or_assoc

/-- The reference's. -/
theorem sees_word' (i k : ℕ) (hi : i < 1024) (hk : k < 1024) :
    IntOp.ori (IntOp.cmpi .sle (IntOp.absi (IntOp.subi (BitVec.ofNat 32 i) (BitVec.ofNat 32 k))) 128#32)
      (IntOp.ori (IntOp.cmpi .slt (BitVec.ofNat 32 k) 32#32) (IntOp.cmpi .slt (BitVec.ofNat 32 i) 32#32)) = BitVec.ofBool (decide (Sees i k)) := by
  rw [near_word i k hi hk, slt_word k 32 (by omega) (by omega), slt_word i 32 (by omega) (by omega), ori_bool, ori_bool]
  refine congrArg BitVec.ofBool ?_
  rw [← Bool.decide_or, ← Bool.decide_or]
  exact decide_eq_decide.mpr Iff.rfl

/-- The additive mask: `0` where the query sees the key, `-∞` elsewhere. -/
theorem maskOf_apply {s : Shape} (qi ki : IVec s 32) (j : s.Idx) (i k : ℕ) (hi : i < 1024) (hk : k < 1024) (eq : qi j = BitVec.ofNat 32 i)
    (ek : ki j = BitVec.ofNat 32 k) : maskOf (F := Ideal) qi ki j = if Sees i k then 0 else ⊥ := by
  pointwise [maskOf]
  rw [eq, ek]
  rw [sees_word i k hi hk, show Named.named (F := Ideal) κ "mask" (φ := .f32) 3463342888#32 = (⊥ : EReal) from
    IdealRules.named_const.ideal_named_scalar κ "mask" _ ⊥ rfl]
  by_cases h : Sees i k
  · rw [if_pos h, decide_eq_true h]; rfl
  · rw [if_neg h, decide_eq_false h]; rfl

end Cert.KernelIdeal.Att
-- ==== Proof.Keys.lean ====
/-
# The gathered blocks and their masks

Which keys of the whole sequence the rows of each block a device attends to are, and what its mask says of them.
-/
module

public import proofs.«01_k».proof.Proof.Staged
public import proofs.«01_k».proof.Proof.Mask

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The keys a block's rows are, of the whole sequence: the 256 of device `c`, the first 128 of it, -/
def cOwn (c : Fin 4) (r : Fin 256) : Fin 1024 := ⟨256 * c.val + r.val, by omega⟩
def cHalf (c : Fin 4) (r : Fin 128) : Fin 1024 := ⟨256 * c.val + r.val, by omega⟩
/-- and those of the blocks put together on devices 1, 2 and 3. -/
def c1 (r : Fin 160) : Fin 1024 := if r.val < 32 then ⟨r.val, by omega⟩ else ⟨r.val + 96, by omega⟩
def c2 (r : Fin 288) : Fin 1024 :=
  if r.val < 128 then ⟨384 + r.val, by omega⟩ else if r.val < 256 then ⟨640 + r.val, by omega⟩ else ⟨r.val - 256, by omega⟩
def c3 (r : Fin 160) : Fin 1024 := if r.val < 128 then ⟨640 + r.val, by omega⟩ else ⟨r.val - 128, by omega⟩

section Blocks

variable (I : Ins Ideal) (K : Fin 2 → Fin 1024 → Fin 256 → EReal) (b : Fin 2)

theorem k1_apply (hK : ∀ c b r j, I.k c (ix3 b r j) = K b (cOwn c r) j) (c : Fin 160) (j : Fin 256) : k1 I b (ix2 c j) = K b (c1 c) j := by
  have hc := c.isLt
  pointwise [k1]
  unfold c1
  by_cases h : c.val < 32
  · rw [dif_pos h, if_pos h, kgAll_apply, hK]
    refine congrArg (K b · j) (Fin.ext ?_)
    show 256 * 0 + (0 + c.val) = c.val
    omega
  · rw [dif_neg h, if_neg h, kgAll_apply, hK]
    refine congrArg (K b · j) (Fin.ext ?_)
    show 256 * 0 + (128 + (c.val - 32)) = c.val + 96
    omega
theorem k2_apply (hK : ∀ c b r j, I.k c (ix3 b r j) = K b (cOwn c r) j) (c : Fin 288) (j : Fin 256) : k2 I b (ix2 c j) = K b (c2 c) j := by
  have hc := c.isLt
  pointwise [k2]
  unfold c2
  by_cases h : c.val < 128
  · rw [dif_pos h, if_pos h, kgAll_apply, hK]
    refine congrArg (K b · j) (Fin.ext ?_)
    show 256 * 1 + (128 + c.val) = 384 + c.val
    omega
  · rw [dif_neg h, if_neg h]
    by_cases h' : c.val < 256
    · rw [dif_pos (by omega), if_pos h', kgAll_apply, hK]
      refine congrArg (K b · j) (Fin.ext ?_)
      show 256 * 3 + (0 + (c.val - 128)) = 640 + c.val
      omega
    · rw [dif_neg (by omega), if_neg h', kgAll_apply, hK]
      refine congrArg (K b · j) (Fin.ext ?_)
      show 256 * 0 + (0 + (c.val - 128 - 128)) = c.val - 256
      omega
theorem k3_apply (hK : ∀ c b r j, I.k c (ix3 b r j) = K b (cOwn c r) j) (c : Fin 160) (j : Fin 256) : k3 I b (ix2 c j) = K b (c3 c) j := by
  have hc := c.isLt
  pointwise [k3]
  unfold c3
  by_cases h : c.val < 128
  · rw [dif_pos h, if_pos h, kgAll_apply, hK]
    refine congrArg (K b · j) (Fin.ext ?_)
    show 256 * 2 + (128 + c.val) = 640 + c.val
    omega
  · rw [dif_neg h, if_neg h, kgAll_apply, hK]
    refine congrArg (K b · j) (Fin.ext ?_)
    show 256 * 0 + (0 + (c.val - 128)) = c.val - 128
    omega

/-- The values are put together as the keys are. -/
def flip (I : Ins Ideal) : Ins Ideal := { I with k := I.v }
theorem v1_apply (hV : ∀ c b r j, I.v c (ix3 b r j) = K b (cOwn c r) j) (c : Fin 160) (j : Fin 256) : v1 I b (ix2 c j) = K b (c1 c) j :=
  k1_apply (flip I) K b hV c j
theorem v2_apply (hV : ∀ c b r j, I.v c (ix3 b r j) = K b (cOwn c r) j) (c : Fin 288) (j : Fin 256) : v2 I b (ix2 c j) = K b (c2 c) j :=
  k2_apply (flip I) K b hV c j
theorem v3_apply (hV : ∀ c b r j, I.v c (ix3 b r j) = K b (cOwn c r) j) (c : Fin 160) (j : Fin 256) : v3 I b (ix2 c j) = K b (c3 c) j :=
  k3_apply (flip I) K b hV c j

end Blocks

section Masks

theorem row_word (m n : ℕ) (r : Fin m) (c : Fin n) : rowNo m n (ix2 r c) = BitVec.ofNat 32 r.val := by pointwise [rowNo]
theorem col_word (m n : ℕ) (r : Fin m) (c : Fin n) : colNo m n (ix2 r c) = BitVec.ofNat 32 c.val := by pointwise [colNo]
theorem shift_word {s : Shape} (a : ℕ) (v : IVec s 32) (j : s.Idx) (i : ℕ) (h : v j = BitVec.ofNat 32 i) :
    shift (BitVec.ofNat 32 a) v j = BitVec.ofNat 32 (a + i) := by
  show BitVec.ofNat 32 a + v j = _
  rw [h, ← BitVec.ofNat_add]
theorem less_word {s : Shape} (a : ℕ) (v : IVec s 32) (j : s.Idx) (i : ℕ) (h : v j = BitVec.ofNat 32 i) (ha : a < 2 ^ 31) (hi : i < 2 ^ 31) :
    cmpi .slt v (broadcast s (BitVec.ofNat 32 a)) j = BitVec.ofBool (decide (i < a)) := by
  show IntOp.cmpi .slt (v j) (BitVec.ofNat 32 a) = _
  rw [h]
  exact slt_word i a hi ha

theorem sub_word (a b : ℕ) (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega

theorem own_apply (c : Fin 4) (r k : Fin 256) : own (F := Ideal) (BitVec.ofNat 32 (256 * c.val)) (ix2 r k) = if Sees (cOwn c r).val (cOwn c k).val then 0 else ⊥ :=
  maskOf_apply _ _ _ _ _ (cOwn c r).isLt (cOwn c k).isLt (shift_word _ _ _ _ (row_word 256 256 r k)) (shift_word _ _ _ _ (col_word 256 256 r k))
theorem half_apply (c e : Fin 4) (r : Fin 256) (k : Fin 128) :
    maskOf (F := Ideal) (shift (BitVec.ofNat 32 (256 * c.val)) (rowNo 256 128)) (shift (BitVec.ofNat 32 (256 * e.val)) (colNo 256 128)) (ix2 r k)
      = if Sees (cOwn c r).val (cHalf e k).val then 0 else ⊥ :=
  maskOf_apply _ _ _ _ _ (cOwn c r).isLt (cHalf e k).isLt (shift_word _ _ _ _ (row_word 256 128 r k)) (shift_word _ _ _ _ (col_word 256 128 r k))
theorem m1_apply (r : Fin 256) (k : Fin 160) : m1 (F := Ideal) (ix2 r k) = if Sees (cOwn 1 r).val (c1 k).val then 0 else ⊥ := by
  refine maskOf_apply _ _ _ _ _ (cOwn 1 r).isLt (c1 k).isLt (shift_word _ _ _ _ (row_word 256 160 r k)) ?_
  show (if cmpi .slt (colNo 256 160) (broadcast _ 32#32) (ix2 r k) = 1#1 then colNo 256 160 (ix2 r k) else colNo 256 160 (ix2 r k) + 96#32) = _
  rw [less_word 32 _ _ k.val (col_word 256 160 r k) (by omega) (by omega), col_word]
  unfold c1
  by_cases h : k.val < 32
  · rw [decide_eq_true h, if_pos (by decide), if_pos h]
  · rw [decide_eq_false h, if_neg (by decide), if_neg h, ← BitVec.ofNat_add]
theorem m2_apply (r : Fin 256) (k : Fin 288) : m2 (F := Ideal) (ix2 r k) = if Sees (cOwn 2 r).val (c2 k).val then 0 else ⊥ := by
  refine maskOf_apply _ _ _ _ _ (cOwn 2 r).isLt (c2 k).isLt (shift_word _ _ _ _ (row_word 256 288 r k)) ?_
  show (if cmpi .slt (colNo 256 288) (broadcast _ 128#32) (ix2 r k) = 1#1 then shift 384#32 (colNo 256 288) (ix2 r k)
    else if cmpi .slt (colNo 256 288) (broadcast _ 256#32) (ix2 r k) = 1#1 then shift 640#32 (colNo 256 288) (ix2 r k)
    else colNo 256 288 (ix2 r k) - 256#32) = _
  rw [less_word 128 _ _ k.val (col_word 256 288 r k) (by omega) (by omega), less_word 256 _ _ k.val (col_word 256 288 r k) (by omega) (by omega),
    shift_word 384 _ _ _ (col_word 256 288 r k), shift_word 640 _ _ _ (col_word 256 288 r k), col_word]
  unfold c2
  by_cases h : k.val < 128
  · rw [decide_eq_true h, if_pos (by decide), if_pos h]
  · rw [decide_eq_false h, if_neg (by decide), if_neg h]
    by_cases h' : k.val < 256
    · rw [decide_eq_true h', if_pos (by decide), if_pos h']
    · rw [decide_eq_false h', if_neg (by decide), if_neg h']
      exact sub_word _ _ (by omega) (by omega)
theorem m3_apply (r : Fin 256) (k : Fin 160) : m3 (F := Ideal) (ix2 r k) = if Sees (cOwn 3 r).val (c3 k).val then 0 else ⊥ := by
  refine maskOf_apply _ _ _ _ _ (cOwn 3 r).isLt (c3 k).isLt (shift_word _ _ _ _ (row_word 256 160 r k)) ?_
  show (if cmpi .slt (colNo 256 160) (broadcast _ 128#32) (ix2 r k) = 1#1 then shift 640#32 (colNo 256 160) (ix2 r k)
    else colNo 256 160 (ix2 r k) - 128#32) = _
  rw [less_word 128 _ _ k.val (col_word 256 160 r k) (by omega) (by omega), shift_word 640 _ _ _ (col_word 256 160 r k), col_word]
  unfold c3
  by_cases h : k.val < 128
  · rw [decide_eq_true h, if_pos (by decide), if_pos h]
  · rw [decide_eq_false h, if_neg (by decide), if_neg h]
    exact sub_word _ _ (by omega) (by omega)

end Masks

end Cert.KernelIdeal.Att
-- ==== Proof.Cover.lean ====
/-
# Sums over the keys a device gathers

A query of each device sees no key outside the blocks its device gathers, so a sum over those blocks is the sum over every key.
-/
module

public import proofs.«01_k».proof.Proof.Keys

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The second half of a device's rows. -/
def cTop (c : Fin 4) (r : Fin 128) : Fin 1024 := ⟨256 * c.val + (128 + r.val), by omega⟩

theorem c1_val (r : Fin 160) : (r.val < 32 ∧ (c1 r).val = r.val) ∨ (32 ≤ r.val ∧ (c1 r).val = r.val + 96) := by
  by_cases h : r.val < 32
  · exact Or.inl ⟨h, by unfold c1; rw [if_pos h]⟩
  · exact Or.inr ⟨by omega, by unfold c1; rw [if_neg h]⟩
theorem c2_val (r : Fin 288) : (r.val < 128 ∧ (c2 r).val = 384 + r.val) ∨ (128 ≤ r.val ∧ r.val < 256 ∧ (c2 r).val = 640 + r.val)
    ∨ (256 ≤ r.val ∧ (c2 r).val = r.val - 256) := by
  by_cases h : r.val < 128
  · exact Or.inl ⟨h, by unfold c2; rw [if_pos h]⟩
  · by_cases h' : r.val < 256
    · exact Or.inr (Or.inl ⟨by omega, h', by unfold c2; rw [if_neg h, if_pos h']⟩)
    · exact Or.inr (Or.inr ⟨by omega, by unfold c2; rw [if_neg h, if_neg h']⟩)
theorem c3_val (r : Fin 160) : (r.val < 128 ∧ (c3 r).val = 640 + r.val) ∨ (128 ≤ r.val ∧ (c3 r).val = r.val - 128) := by
  by_cases h : r.val < 128
  · exact Or.inl ⟨h, by unfold c3; rw [if_pos h]⟩
  · exact Or.inr ⟨by omega, by unfold c3; rw [if_neg h]⟩

section Sums

variable (g : Fin 1024 → EReal)

theorem sum_elim {α β : Type} [Fintype α] [Fintype β] (p : α → Fin 1024) (q : β → Fin 1024) :
    (∑ a, g (p a)) + (∑ b, g (q b)) = ∑ s, g (Sum.elim p q s) := (Fintype.sum_sum_type fun s => g (Sum.elim p q s)).symm

/-- Device 0's rows from 32 on see its keys and the first half of device 1's; -/
theorem sum0_hi (r : Fin 256) (hr : 32 ≤ r.val) (hg : ∀ k, ¬ Sees (cOwn 0 r).val k.val → g k = 0) :
    (∑ c : Fin 256, g (cOwn 0 c)) + (∑ c : Fin 128, g (cHalf 1 c)) = ∑ k, g k := by
  rw [sum_elim g (cOwn 0) (cHalf 1)]
  refine Fintype.sum_of_injective (Sum.elim (cOwn 0) (cHalf 1)) ?_ _ _ (fun k hk => hg k fun hs => hk ?_) fun _ => rfl
  · rintro (a | a) (b | b) e <;> replace e : _ = _ := congrArg Fin.val e <;> simp [cOwn, cHalf] at e
    · exact congrArg Sum.inl (Fin.ext e)
    · omega
    · omega
    · exact congrArg Sum.inr (Fin.ext e)
  · simp [Sees, cOwn] at hs
    by_cases h : k.val < 256
    · exact ⟨Sum.inl ⟨k.val, h⟩, Fin.ext (by simp [cOwn])⟩
    · exact ⟨Sum.inr ⟨k.val - 256, by omega⟩, Fin.ext (by simp [cHalf]; omega)⟩
/-- the first 32 see every key; -/
theorem sum0_lo :
    (∑ c : Fin 256, g (cOwn 0 c)) + (∑ c : Fin 128, g (cHalf 1 c)) + (∑ c : Fin 128, g (cTop 1 c)) + (∑ c : Fin 256, g (cOwn 2 c))
      + (∑ c : Fin 256, g (cOwn 3 c)) = ∑ k, g k := by
  rw [sum_elim g (cOwn 0) (cHalf 1),
    sum_elim g (Sum.elim (cOwn 0) (cHalf 1)) (cTop 1),
    sum_elim g (Sum.elim (Sum.elim (cOwn 0) (cHalf 1)) (cTop 1)) (cOwn 2),
    sum_elim g (Sum.elim (Sum.elim (Sum.elim (cOwn 0) (cHalf 1)) (cTop 1)) (cOwn 2)) (cOwn 3)]
  refine Fintype.sum_of_injective (Sum.elim (Sum.elim (Sum.elim (Sum.elim (cOwn 0) (cHalf 1)) (cTop 1)) (cOwn 2)) (cOwn 3)) ?_ _ _
    (fun k hk => absurd ?_ hk) fun _ => rfl
  · rintro ((((a | a) | a) | a) | a) ((((b | b) | b) | b) | b) e <;> replace e : _ = _ := congrArg Fin.val e <;> simp [cOwn, cHalf, cTop] at e <;>
      first
      | omega
      | (have e' : a = b := Fin.ext (by omega)
         rw [e'])
  · by_cases h0 : k.val < 256
    · exact ⟨Sum.inl (Sum.inl (Sum.inl (Sum.inl ⟨k.val, h0⟩))), Fin.ext (by simp [cOwn])⟩
    by_cases h1 : k.val < 384
    · exact ⟨Sum.inl (Sum.inl (Sum.inl (Sum.inr ⟨k.val - 256, by omega⟩))), Fin.ext (by simp [cHalf]; omega)⟩
    by_cases h2 : k.val < 512
    · exact ⟨Sum.inl (Sum.inl (Sum.inr ⟨k.val - 384, by omega⟩)), Fin.ext (by simp [cTop]; omega)⟩
    by_cases h3 : k.val < 768
    · exact ⟨Sum.inl (Sum.inr ⟨k.val - 512, by omega⟩), Fin.ext (by simp [cOwn]; omega)⟩
    · exact ⟨Sum.inr ⟨k.val - 768, by omega⟩, Fin.ext (by simp [cOwn]; omega)⟩
/-- device 1's rows, -/
theorem sum1 (r : Fin 256) (hg : ∀ k, ¬ Sees (cOwn 1 r).val k.val → g k = 0) :
    (∑ c : Fin 256, g (cOwn 1 c)) + (∑ c : Fin 160, g (c1 c)) + (∑ c : Fin 128, g (cHalf 2 c)) = ∑ k, g k := by
  rw [sum_elim g (cOwn 1) c1,
    sum_elim g (Sum.elim (cOwn 1) c1) (cHalf 2)]
  refine Fintype.sum_of_injective (Sum.elim (Sum.elim (cOwn 1) c1) (cHalf 2)) ?_ _ _ (fun k hk => hg k fun hs => hk ?_) fun _ => rfl
  · rintro ((a | a) | a) ((b | b) | b) e <;> replace e : _ = _ := congrArg Fin.val e <;> simp [cOwn, cHalf] at e <;>
      first
      | omega
      | (have e' : a = b := Fin.ext (by have := c1_val a; have := c1_val b; omega)
         rw [e'])
      | (have e' : a = b := Fin.ext (by omega)
         rw [e'])
      | (have := c1_val a; omega)
      | (have := c1_val b; omega)
  · simp [Sees, cOwn] at hs
    by_cases h0 : k.val < 32
    · exact ⟨Sum.inl (Sum.inr ⟨k.val, by omega⟩), Fin.ext (by have := c1_val ⟨k.val, by omega⟩; simp at this ⊢; omega)⟩
    by_cases h1 : k.val < 256
    · exact ⟨Sum.inl (Sum.inr ⟨k.val - 96, by omega⟩), Fin.ext (by have := c1_val ⟨k.val - 96, by omega⟩; simp at this ⊢; omega)⟩
    by_cases h2 : k.val < 512
    · exact ⟨Sum.inl (Sum.inl ⟨k.val - 256, by omega⟩), Fin.ext (by simp [cOwn]; omega)⟩
    · exact ⟨Sum.inr ⟨k.val - 512, by omega⟩, Fin.ext (by simp [cHalf]; omega)⟩
/-- device 2's -/
theorem sum2 (r : Fin 256) (hg : ∀ k, ¬ Sees (cOwn 2 r).val k.val → g k = 0) :
    (∑ c : Fin 256, g (cOwn 2 c)) + (∑ c : Fin 288, g (c2 c)) = ∑ k, g k := by
  rw [sum_elim g (cOwn 2) c2]
  refine Fintype.sum_of_injective (Sum.elim (cOwn 2) c2) ?_ _ _ (fun k hk => hg k fun hs => hk ?_) fun _ => rfl
  · rintro (a | a) (b | b) e <;> replace e : _ = _ := congrArg Fin.val e <;> simp [cOwn] at e
    · exact congrArg Sum.inl (Fin.ext e)
    · have := c2_val b; omega
    · have := c2_val a; omega
    · exact congrArg Sum.inr (Fin.ext (by have := c2_val a; have := c2_val b; omega))
  · simp [Sees, cOwn] at hs
    by_cases h0 : k.val < 32
    · exact ⟨Sum.inr ⟨k.val + 256, by omega⟩, Fin.ext (by have := c2_val ⟨k.val + 256, by omega⟩; simp at this ⊢; omega)⟩
    by_cases h1 : k.val < 512
    · exact ⟨Sum.inr ⟨k.val - 384, by omega⟩, Fin.ext (by have := c2_val ⟨k.val - 384, by omega⟩; simp at this ⊢; omega)⟩
    by_cases h2 : k.val < 768
    · exact ⟨Sum.inl ⟨k.val - 512, by omega⟩, Fin.ext (by simp [cOwn]; omega)⟩
    · exact ⟨Sum.inr ⟨k.val - 640, by omega⟩, Fin.ext (by have := c2_val ⟨k.val - 640, by omega⟩; simp at this ⊢; omega)⟩
/-- and device 3's. -/
theorem sum3 (r : Fin 256) (hg : ∀ k, ¬ Sees (cOwn 3 r).val k.val → g k = 0) :
    (∑ c : Fin 256, g (cOwn 3 c)) + (∑ c : Fin 160, g (c3 c)) = ∑ k, g k := by
  rw [sum_elim g (cOwn 3) c3]
  refine Fintype.sum_of_injective (Sum.elim (cOwn 3) c3) ?_ _ _ (fun k hk => hg k fun hs => hk ?_) fun _ => rfl
  · rintro (a | a) (b | b) e <;> replace e : _ = _ := congrArg Fin.val e <;> simp [cOwn] at e
    · exact congrArg Sum.inl (Fin.ext e)
    · have := c3_val b; omega
    · have := c3_val a; omega
    · exact congrArg Sum.inr (Fin.ext (by have := c3_val a; have := c3_val b; omega))
  · simp [Sees, cOwn] at hs
    by_cases h0 : k.val < 32
    · exact ⟨Sum.inr ⟨k.val + 128, by omega⟩, Fin.ext (by have := c3_val ⟨k.val + 128, by omega⟩; simp at this ⊢; omega)⟩
    by_cases h1 : k.val < 768
    · exact ⟨Sum.inr ⟨k.val - 640, by omega⟩, Fin.ext (by have := c3_val ⟨k.val - 640, by omega⟩; simp at this ⊢; omega)⟩
    · exact ⟨Sum.inl ⟨k.val - 768, by omega⟩, Fin.ext (by simp [cOwn]; omega)⟩

end Sums

end Cert.KernelIdeal.Att
-- ==== Proof.Attend.lean ====
/-
# The attention, and a block's part of it

The attention of one problem over the reals, and what a block of keys contributes to a query's two sums.
-/
module

public import proofs.«01_k».proof.Proof.Mask

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A problem: finite inputs, queries' weights and keys; any values and output weights. -/
structure Prob where
  x : Fin 2 → Fin 1024 → Fin 512 → ℝ
  wq : Fin 512 → Fin 256 → ℝ
  k : Fin 2 → Fin 1024 → Fin 4 → Fin 64 → ℝ
  v : Fin 2 → Fin 1024 → Fin 4 → Fin 64 → EReal
  wo : Fin 256 → Fin 512 → EReal

namespace Prob

variable (D : Prob)

/-- A query's projection, -/
def qry (b : Fin 2) (i : Fin 1024) (j : Fin 256) : ℝ := ∑ t : Fin 512, D.x b i t * D.wq t j
/-- its score against a key, -/
def scr (b : Fin 2) (h : Fin 4) (i k : Fin 1024) : ℝ := (∑ d : Fin 64, D.qry b i (hcol h d) * D.k b k h d) * (1 / 8)
/-- the key's weight, -/
def wt (b : Fin 2) (h : Fin 4) (i k : Fin 1024) : ℝ := if Sees i.val k.val then Real.exp (D.scr b h i k) else 0
/-- the sum of the weights -/
def den (b : Fin 2) (h : Fin 4) (i : Fin 1024) : ℝ := ∑ k : Fin 1024, D.wt b h i k
/-- and of the weighted values, -/
def num (b : Fin 2) (h : Fin 4) (i : Fin 1024) (d : Fin 64) : EReal := ∑ k : Fin 1024, (D.wt b h i k : EReal) * D.v b k h d
/-- the head's result, -/
def ctx (b : Fin 2) (i : Fin 1024) (h : Fin 4) (d : Fin 64) : EReal := Ideal.div (D.num b h i d) (D.den b h i)
/-- and the output. -/
def out (b : Fin 2) (i : Fin 1024) (e : Fin 512) : EReal :=
  ∑ j : Fin 256, D.ctx b i ⟨j.val / 64, by omega⟩ ⟨j.val % 64, by omega⟩ * D.wo j e

theorem wt_off {b : Fin 2} {h : Fin 4} {i k : Fin 1024} (e : ¬ Sees i.val k.val) : D.wt b h i k = 0 := if_neg e
theorem wt_on {b : Fin 2} {h : Fin 4} {i k : Fin 1024} (e : Sees i.val k.val) : D.wt b h i k = Real.exp (D.scr b h i k) := if_pos e

theorem sees_self (i : ℕ) : Sees i i := Or.inl ⟨by omega, by omega⟩

/-- A query sees itself, so its weights have a positive sum. -/
theorem den_pos (b : Fin 2) (h : Fin 4) (i : Fin 1024) : 0 < D.den b h i := by
  refine Finset.sum_pos' (fun k _ => ?_) ⟨i, Finset.mem_univ _, ?_⟩
  · unfold wt; split_ifs
    · exact (Real.exp_pos _).le
    · exact le_refl _
  · rw [D.wt_on (sees_self _)]; exact Real.exp_pos _

end Prob

theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

theorem exp_coe (r : ℝ) : Ideal.exp (r : EReal) = (Real.exp r : EReal) := rfl
theorem exp_bot : Ideal.exp ⊥ = 0 := rfl

variable (D : Prob) (b : Fin 2)

/-- A score from scaled queries. -/
theorem dot_scr (i k : Fin 1024) (h : Fin 4) :
    (∑ d : Fin 64, ((D.qry b i (hcol h d) * (1 / 8) : ℝ) : EReal) * (D.k b k h d : EReal)) = (D.scr b h i k : EReal) := by
  unfold Prob.scr
  rw [Finset.sum_mul, coe_sum]
  refine Finset.sum_congr rfl fun d _ => ?_
  rw [← EReal.coe_mul]
  exact congrArg _ (by ring)

section Block

variable {n : ℕ} (q : FVec Ideal (sh 256 256) .f32) (msk : FVec Ideal (sh 256 n) .f32) (k v : FVec Ideal (sh n 256) .bf16)
  (row : Fin 256 → Fin 1024) (col : Fin n → Fin 1024)
  (hq : ∀ r j, q (ix2 r j) = ((D.qry b (row r) j * (1 / 8) : ℝ) : EReal))
  (hk : ∀ c h d, k (ix2 c (hcol h d)) = (D.k b (col c) h d : EReal))
  (hv : ∀ c h d, v (ix2 c (hcol h d)) = D.v b (col c) h d)
  (hm : ∀ r c, msk (ix2 r c) = if Sees (row r).val (col c).val then 0 else ⊥)
include hq hk hm

/-- The block's weights are the keys', -/
theorem wgt_eq (h : Fin 4) (r : Fin 256) (c : Fin n) : wgt n q msk k h (ix2 r c) = (D.wt b h (row r) (col c) : EReal) := by
  rw [wgt_apply, hm]
  simp only [hq, hk]
  rw [dot_scr]
  by_cases e : Sees (row r).val (col c).val
  · rw [if_pos e, add_zero, D.wt_on e]; exact exp_coe _
  · rw [if_neg e, EReal.add_bot, D.wt_off e]; exact exp_bot

/-- and its sums theirs. -/
theorem sumL_eq (h : Fin 4) (r : Fin 256) (z : Fin 1) : sumL n q msk k h (ix2 r z) = ∑ c : Fin n, (D.wt b h (row r) (col c) : EReal) := by
  unfold sumL
  rw [rsum_apply 256 n (by decide)]
  exact Finset.sum_congr rfl fun c _ => wgt_eq D b q msk k row col hq hk hm h r c
include hv
theorem sumA_eq (h : Fin 4) (r : Fin 256) (d : Fin 64) :
    sumA n q msk k v h (ix2 r d) = ∑ c : Fin n, (D.wt b h (row r) (col c) : EReal) * D.v b (col c) h d := by
  unfold sumA
  rw [wsum_apply]
  exact Finset.sum_congr rfl fun c _ => by rw [wgt_eq D b q msk k row col hq hk hm h r c, hv]

end Block

section Part

variable {n : ℕ} (q : FVec Ideal (sh 32 256) .bf16) (k v : FVec Ideal (sh n 256) .bf16)
  (row : Fin 32 → Fin 1024) (col : Fin n → Fin 1024) (hr : ∀ r, (row r).val < 32)
  (hq : ∀ r j, q (ix2 r j) = ((D.qry b (row r) j * (1 / 8) : ℝ) : EReal))
  (hk : ∀ c h d, k (ix2 c (hcol h d)) = (D.k b (col c) h d : EReal))
  (hv : ∀ c h d, v (ix2 c (hcol h d)) = D.v b (col c) h d)
include hr hq hk

/-- The same of the first 32 queries, which see every key. -/
theorem gwgt_eq (h : Fin 4) (r : Fin 32) (c : Fin n) : gwgt n q k h (ix2 r c) = (D.wt b h (row r) (col c) : EReal) := by
  rw [gwgt_apply]
  simp only [hq, hk]
  rw [dot_scr, D.wt_on (Or.inr (Or.inr (hr r)))]
  exact exp_coe _
theorem partL_eq (h : Fin 4) (z z' : Fin 1) (r : Fin 32) (d : Fin 64) :
    partL n q k h (ix4 z z' r d) = ∑ c : Fin n, (D.wt b h (row r) (col c) : EReal) := by
  rw [partL_apply, rsum_apply 32 n (by decide)]
  exact Finset.sum_congr rfl fun c _ => gwgt_eq D b q k row col hr hq hk h r c
include hv
theorem partA_eq (h : Fin 4) (z z' : Fin 1) (r : Fin 32) (d : Fin 64) :
    partA n q k v h (ix4 z z' r d) = ∑ c : Fin n, (D.wt b h (row r) (col c) : EReal) * D.v b (col c) h d := by
  rw [partA_apply, wsum_apply]
  exact Finset.sum_congr rfl fun c _ => by rw [gwgt_eq D b q k row col hr hq hk h r c, hv]

end Part

end Cert.KernelIdeal.Att
-- ==== Proof.Answer.lean ====
/-
# What each device computes

On finite inputs, weights and keys, each device's output is its rows of the attention over the whole sequence.
-/
module

public import proofs.«01_k».proof.Proof.Cover
public import proofs.«01_k».proof.Proof.Attend

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem hcol_div (h : Fin 4) (d : Fin 64) : (⟨(hcol h d).val / 64, by omega⟩ : Fin 4) = h := Fin.ext (by show (64 * h.val + d.val) / 64 = h.val; omega)
theorem hcol_mod (h : Fin 4) (d : Fin 64) : (⟨(hcol h d).val % 64, by omega⟩ : Fin 64) = d := Fin.ext (by show (64 * h.val + d.val) % 64 = d.val; omega)

/-- Keys and values with a row's heads side by side. -/
def Prob.kRow (D : Prob) (b : Fin 2) (i : Fin 1024) (j : Fin 256) : EReal := (D.k b i ⟨j.val / 64, by omega⟩ ⟨j.val % 64, by omega⟩ : EReal)
def Prob.vRow (D : Prob) (b : Fin 2) (i : Fin 1024) (j : Fin 256) : EReal := D.v b i ⟨j.val / 64, by omega⟩ ⟨j.val % 64, by omega⟩
theorem Prob.kRow_hcol (D : Prob) (b : Fin 2) (i : Fin 1024) (h : Fin 4) (d : Fin 64) : D.kRow b i (hcol h d) = (D.k b i h d : EReal) := by
  unfold Prob.kRow; rw [hcol_div, hcol_mod]
theorem Prob.vRow_hcol (D : Prob) (b : Fin 2) (i : Fin 1024) (h : Fin 4) (d : Fin 64) : D.vRow b i (hcol h d) = D.v b i h d := by
  unfold Prob.vRow; rw [hcol_div, hcol_mod]

/-- The devices' keys, values, global queries and parts are those of a problem. -/
structure Fits (D : Prob) (I : Ins Ideal) : Prop where
  k : ∀ c b r j, I.k c (ix3 b r j) = D.kRow b (cOwn c r) j
  v : ∀ c b r j, I.v c (ix3 b r j) = D.vRow b (cOwn c r) j
  q : ∀ b r j, I.q (ix3 b r j) = ((D.qry b ⟨r.val, by omega⟩ j * (1 / 8) : ℝ) : EReal)
  p1 : I.p 1 = p1Of I
  p2 : I.p 2 = p2Of I
  p3 : I.p 3 = p3Of I

/-- Scaled projections of finite rows. -/
theorem proj_eq (D : Prob) (m : ℕ) (x : FVec Ideal (sh m 512) .bf16) (w : FVec Ideal (sh 512 256) .bf16) (b : Fin 2) (i : Fin 1024) (r : Fin m)
    (hx : ∀ t, x (ix2 r t) = (D.x b i t : EReal)) (hw : ∀ t j, w (ix2 t j) = (D.wq t j : EReal)) (j : Fin 256) :
    proj m x w (ix2 r j) = ((D.qry b i j * (1 / 8) : ℝ) : EReal) := by
  rw [proj_apply, eighth_eq, EReal.coe_mul, Prob.qry, coe_sum]
  refine congrArg (· * _) (Finset.sum_congr rfl fun t _ => ?_)
  rw [hx, hw, EReal.coe_mul]

section Device

variable {D : Prob} {I : Ins Ideal} (hI : Fits D I) (c : Fin 4) (x : cc0_stg0_0.ty.Contents (Elt Ideal)) (wq : cc0_stg1_0.ty.Contents (Elt Ideal))
  (wo : cc0_stg4_0.ty.Contents (Elt Ideal)) (hx : ∀ b r t, x (ix3 b r t) = (D.x b (cOwn c r) t : EReal))
  (hwq : ∀ t j, wq (ix2 t j) = (D.wq t j : EReal)) (hwo : ∀ j e, wo (ix2 j e) = D.wo j e) (b : Fin 2) (h : Fin 4)

include hx hwq in
theorem qs_eq (r : Fin 256) (j : Fin 256) : qs x wq b (ix2 r j) = ((D.qry b (cOwn c r) j * (1 / 8) : ℝ) : EReal) :=
  proj_eq D 256 _ _ b (cOwn c r) r (fun t => (xV_apply x 256 _ b r t).trans (hx b r t)) (fun t j => (wqV_apply wq t j).trans (hwq t j)) j

include hI

/-- A block's keys and values are the problem's. -/
theorem kOwn_eq (e : Fin 4) (r : Fin 256) (h : Fin 4) (d : Fin 64) : kV (I.k e) 0 256 (by decide) b (ix2 r (hcol h d)) = (D.k b (cOwn e r) h d : EReal) := by
  rw [kV_apply, hI.k, D.kRow_hcol]
  refine congrArg (fun i => (D.k b i h d : EReal)) (Fin.ext ?_)
  show 256 * e.val + (0 + r.val) = 256 * e.val + r.val
  omega
theorem vOwn_eq (e : Fin 4) (r : Fin 256) (h : Fin 4) (d : Fin 64) : vV (I.v e) 0 256 (by decide) b (ix2 r (hcol h d)) = D.v b (cOwn e r) h d := by
  rw [vV_apply, hI.v, D.vRow_hcol]
  refine congrArg (fun i => D.v b i h d) (Fin.ext ?_)
  show 256 * e.val + (0 + r.val) = 256 * e.val + r.val
  omega
theorem kTop_eq (e : Fin 4) (r : Fin 128) (h : Fin 4) (d : Fin 64) : kV (I.k e) 128 128 (by decide) b (ix2 r (hcol h d)) = (D.k b (cTop e r) h d : EReal) := by
  rw [kV_apply, hI.k, D.kRow_hcol]
  rfl
theorem vTop_eq (e : Fin 4) (r : Fin 128) (h : Fin 4) (d : Fin 64) : vV (I.v e) 128 128 (by decide) b (ix2 r (hcol h d)) = D.v b (cTop e r) h d := by
  rw [vV_apply, hI.v, D.vRow_hcol]
  rfl
theorem kHalf_eq (e : Fin 4) (r : Fin 128) (h : Fin 4) (d : Fin 64) : kgV (kgAll I) e 0 128 (by decide) b (ix2 r (hcol h d)) = (D.k b (cHalf e r) h d : EReal) := by
  rw [kgAll_apply, hI.k, D.kRow_hcol]
  refine congrArg (fun i => (D.k b i h d : EReal)) (Fin.ext ?_)
  show 256 * e.val + (0 + r.val) = 256 * e.val + r.val
  omega
theorem vHalf_eq (e : Fin 4) (r : Fin 128) (h : Fin 4) (d : Fin 64) : vgV (vgAll I) e 0 128 (by decide) b (ix2 r (hcol h d)) = D.v b (cHalf e r) h d := by
  rw [vgAll_apply, hI.v, D.vRow_hcol]
  refine congrArg (fun i => D.v b i h d) (Fin.ext ?_)
  show 256 * e.val + (0 + r.val) = 256 * e.val + r.val
  omega
theorem k1_eq (r : Fin 160) (h : Fin 4) (d : Fin 64) : k1 I b (ix2 r (hcol h d)) = (D.k b (c1 r) h d : EReal) :=
  (k1_apply I D.kRow b hI.k r _).trans (D.kRow_hcol b _ h d)
theorem v1_eq (r : Fin 160) (h : Fin 4) (d : Fin 64) : v1 I b (ix2 r (hcol h d)) = D.v b (c1 r) h d :=
  (v1_apply I D.vRow b hI.v r _).trans (D.vRow_hcol b _ h d)
theorem k2_eq (r : Fin 288) (h : Fin 4) (d : Fin 64) : k2 I b (ix2 r (hcol h d)) = (D.k b (c2 r) h d : EReal) :=
  (k2_apply I D.kRow b hI.k r _).trans (D.kRow_hcol b _ h d)
theorem v2_eq (r : Fin 288) (h : Fin 4) (d : Fin 64) : v2 I b (ix2 r (hcol h d)) = D.v b (c2 r) h d :=
  (v2_apply I D.vRow b hI.v r _).trans (D.vRow_hcol b _ h d)
theorem k3_eq (r : Fin 160) (h : Fin 4) (d : Fin 64) : k3 I b (ix2 r (hcol h d)) = (D.k b (c3 r) h d : EReal) :=
  (k3_apply I D.kRow b hI.k r _).trans (D.kRow_hcol b _ h d)
theorem v3_eq (r : Fin 160) (h : Fin 4) (d : Fin 64) : v3 I b (ix2 r (hcol h d)) = D.v b (c3 r) h d :=
  (v3_apply I D.vRow b hI.v r _).trans (D.vRow_hcol b _ h d)

omit hI in
/-- A sum of weights, and of weighted values, over every key. -/
theorem den_sum (i : Fin 1024) : (∑ k, (D.wt b h i k : EReal)) = (D.den b h i : EReal) := (coe_sum _).symm
omit hI in
theorem wt_zero (i : Fin 1024) (k : Fin 1024) (hk : ¬ Sees i.val k.val) : (D.wt b h i k : EReal) = 0 := by rw [D.wt_off hk]; rfl
omit hI in
theorem wv_zero (i : Fin 1024) (d : Fin 64) (k : Fin 1024) (hk : ¬ Sees i.val k.val) : (D.wt b h i k : EReal) * D.v b k h d = 0 := by
  rw [D.wt_off hk]; exact zero_mul _

include hx hwq

/-- The own block's sums. -/
theorem ownL (e : Fin 4) (he : e = c) (w : BitVec 32) (hw : w = BitVec.ofNat 32 (256 * c.val)) (r : Fin 256) (z : Fin 1) :
    sumL 256 (qs x wq b) (own w) (kV (I.k e) 0 256 (by decide) b) h (ix2 r z) = ∑ k : Fin 256, (D.wt b h (cOwn c r) (cOwn c k) : EReal) := by
  subst he; subst hw
  exact sumL_eq D b _ _ _ (cOwn e) (cOwn e) (qs_eq e x wq hx hwq b) (kOwn_eq hI b e) (own_apply e) h r z
theorem ownA (e : Fin 4) (he : e = c) (w : BitVec 32) (hw : w = BitVec.ofNat 32 (256 * c.val)) (r : Fin 256) (d : Fin 64) :
    sumA 256 (qs x wq b) (own w) (kV (I.k e) 0 256 (by decide) b) (vV (I.v e) 0 256 (by decide) b) h (ix2 r d)
      = ∑ k : Fin 256, (D.wt b h (cOwn c r) (cOwn c k) : EReal) * D.v b (cOwn c k) h d := by
  subst he; subst hw
  exact sumA_eq D b _ _ _ _ (cOwn e) (cOwn e) (qs_eq e x wq hx hwq b) (kOwn_eq hI b e) (vOwn_eq hI b e) (own_apply e) h r d

end Device

section Answers

variable {D : Prob} {I : Ins Ideal} (hI : Fits D I) (x : cc0_stg0_0.ty.Contents (Elt Ideal)) (wq : cc0_stg1_0.ty.Contents (Elt Ideal))
  (wo : cc0_stg4_0.ty.Contents (Elt Ideal)) (hwq : ∀ t j, wq (ix2 t j) = (D.wq t j : EReal)) (hwo : ∀ j e, wo (ix2 j e) = D.wo j e) (b : Fin 2) (h : Fin 4)

include hI hwq

theorem l1_eq (hx : ∀ b r t, x (ix3 b r t) = (D.x b (cOwn 1 r) t : EReal)) (r : Fin 256) (z : Fin 1) :
    l1 I x wq b h (ix2 r z) = (D.den b h (cOwn 1 r) : EReal) := by
  rw [← den_sum, ← sum1 _ r (wt_zero b h (cOwn 1 r))]
  refine congrArg₂ (· + ·) (congrArg₂ (· + ·) (ownL hI 1 x wq hx hwq b h 1 rfl _ rfl r z) ?_) ?_
  · exact sumL_eq D b _ _ _ (cOwn 1) c1 (qs_eq 1 x wq hx hwq b) (k1_eq hI b) m1_apply h r z
  · exact sumL_eq D b _ _ _ (cOwn 1) (cHalf 2) (qs_eq 1 x wq hx hwq b) (kHalf_eq hI b 2) (half_apply 1 2) h r z
theorem a1_eq (hx : ∀ b r t, x (ix3 b r t) = (D.x b (cOwn 1 r) t : EReal)) (r : Fin 256) (d : Fin 64) :
    a1 I x wq b h (ix2 r d) = D.num b h (cOwn 1 r) d := by
  unfold Prob.num
  rw [← sum1 _ r (wv_zero b h (cOwn 1 r) d)]
  refine congrArg₂ (· + ·) (congrArg₂ (· + ·) (ownA hI 1 x wq hx hwq b h 1 rfl _ rfl r d) ?_) ?_
  · exact sumA_eq D b _ _ _ _ (cOwn 1) c1 (qs_eq 1 x wq hx hwq b) (k1_eq hI b) (v1_eq hI b) m1_apply h r d
  · exact sumA_eq D b _ _ _ _ (cOwn 1) (cHalf 2) (qs_eq 1 x wq hx hwq b) (kHalf_eq hI b 2) (vHalf_eq hI b 2) (half_apply 1 2) h r d
theorem l2_eq (hx : ∀ b r t, x (ix3 b r t) = (D.x b (cOwn 2 r) t : EReal)) (r : Fin 256) (z : Fin 1) :
    l2 I x wq b h (ix2 r z) = (D.den b h (cOwn 2 r) : EReal) := by
  rw [← den_sum, ← sum2 _ r (wt_zero b h (cOwn 2 r))]
  refine congrArg₂ (· + ·) (ownL hI 2 x wq hx hwq b h 2 rfl _ rfl r z) ?_
  exact sumL_eq D b _ _ _ (cOwn 2) c2 (qs_eq 2 x wq hx hwq b) (k2_eq hI b) m2_apply h r z
theorem a2_eq (hx : ∀ b r t, x (ix3 b r t) = (D.x b (cOwn 2 r) t : EReal)) (r : Fin 256) (d : Fin 64) :
    a2 I x wq b h (ix2 r d) = D.num b h (cOwn 2 r) d := by
  unfold Prob.num
  rw [← sum2 _ r (wv_zero b h (cOwn 2 r) d)]
  refine congrArg₂ (· + ·) (ownA hI 2 x wq hx hwq b h 2 rfl _ rfl r d) ?_
  exact sumA_eq D b _ _ _ _ (cOwn 2) c2 (qs_eq 2 x wq hx hwq b) (k2_eq hI b) (v2_eq hI b) m2_apply h r d
theorem l3_eq (hx : ∀ b r t, x (ix3 b r t) = (D.x b (cOwn 3 r) t : EReal)) (r : Fin 256) (z : Fin 1) :
    l3 I x wq b h (ix2 r z) = (D.den b h (cOwn 3 r) : EReal) := by
  rw [← den_sum, ← sum3 _ r (wt_zero b h (cOwn 3 r))]
  refine congrArg₂ (· + ·) (ownL hI 3 x wq hx hwq b h 3 rfl _ rfl r z) ?_
  exact sumL_eq D b _ _ _ (cOwn 3) c3 (qs_eq 3 x wq hx hwq b) (k3_eq hI b) m3_apply h r z
theorem a3_eq (hx : ∀ b r t, x (ix3 b r t) = (D.x b (cOwn 3 r) t : EReal)) (r : Fin 256) (d : Fin 64) :
    a3 I x wq b h (ix2 r d) = D.num b h (cOwn 3 r) d := by
  unfold Prob.num
  rw [← sum3 _ r (wv_zero b h (cOwn 3 r) d)]
  refine congrArg₂ (· + ·) (ownA hI 3 x wq hx hwq b h 3 rfl _ rfl r d) ?_
  exact sumA_eq D b _ _ _ _ (cOwn 3) c3 (qs_eq 3 x wq hx hwq b) (k3_eq hI b) (v3_eq hI b) m3_apply h r d

/-- Device 0's sums over its two blocks. -/
theorem l0_eq (hx : ∀ b r t, x (ix3 b r t) = (D.x b (cOwn 0 r) t : EReal)) (r : Fin 256) (z : Fin 1) :
    l0 I x wq b h (ix2 r z) = (∑ k, (D.wt b h (cOwn 0 r) (cOwn 0 k) : EReal)) + ∑ k, (D.wt b h (cOwn 0 r) (cHalf 1 k) : EReal) := by
  refine congrArg₂ (· + ·) (ownL hI 0 x wq hx hwq b h 0 rfl _ rfl r z) ?_
  exact sumL_eq D b _ _ _ (cOwn 0) (cHalf 1) (qs_eq 0 x wq hx hwq b) (kHalf_eq hI b 1) (half_apply 0 1) h r z
theorem a0_eq (hx : ∀ b r t, x (ix3 b r t) = (D.x b (cOwn 0 r) t : EReal)) (r : Fin 256) (d : Fin 64) :
    a0 I x wq b h (ix2 r d) = (∑ k, (D.wt b h (cOwn 0 r) (cOwn 0 k) : EReal) * D.v b (cOwn 0 k) h d)
      + ∑ k, (D.wt b h (cOwn 0 r) (cHalf 1 k) : EReal) * D.v b (cHalf 1 k) h d := by
  refine congrArg₂ (· + ·) (ownA hI 0 x wq hx hwq b h 0 rfl _ rfl r d) ?_
  exact sumA_eq D b _ _ _ _ (cOwn 0) (cHalf 1) (qs_eq 0 x wq hx hwq b) (kHalf_eq hI b 1) (vHalf_eq hI b 1) (half_apply 0 1) h r d

omit hwq
/-- The global queries' row numbers. -/
def cGlob (r : Fin 32) : Fin 1024 := ⟨r.val, by omega⟩

theorem qV_eq (r : Fin 32) (j : Fin 256) : qV I.q b (ix2 r j) = ((D.qry b (cGlob r) j * (1 / 8) : ℝ) : EReal) := (qV_apply I.q b r j).trans (hI.q b r j)
/-- The parts' columns of weighted sums, -/
theorem p1A (r : Fin 32) (d : Fin 64) : ppV (ppAll I) b h 0 (ix2 r ⟨d.val, by omega⟩) = ∑ k, (D.wt b h (cGlob r) (cTop 1 k) : EReal) * D.v b (cTop 1 k) h d := by
  refine (ppAll_apply I b h 0 r _).trans ((congrFun hI.p1 _).trans ((pOf_lo I 128 _ _ b h r d).trans ?_))
  exact partA_eq D b _ _ _ cGlob (cTop 1) (fun r => r.isLt) (qV_eq hI b) (kTop_eq hI b 1) (vTop_eq hI b 1) h 0 0 r d
theorem p2A (r : Fin 32) (d : Fin 64) : ppV (ppAll I) b h 1 (ix2 r ⟨d.val, by omega⟩) = ∑ k, (D.wt b h (cGlob r) (cOwn 2 k) : EReal) * D.v b (cOwn 2 k) h d := by
  refine (ppAll_apply I b h 1 r _).trans ((congrFun hI.p2 _).trans ((pOf_lo I 256 _ _ b h r d).trans ?_))
  exact partA_eq D b _ _ _ cGlob (cOwn 2) (fun r => r.isLt) (qV_eq hI b) (kOwn_eq hI b 2) (vOwn_eq hI b 2) h 0 0 r d
theorem p3A (r : Fin 32) (d : Fin 64) : ppV (ppAll I) b h 2 (ix2 r ⟨d.val, by omega⟩) = ∑ k, (D.wt b h (cGlob r) (cOwn 3 k) : EReal) * D.v b (cOwn 3 k) h d := by
  refine (ppAll_apply I b h 2 r _).trans ((congrFun hI.p3 _).trans ((pOf_lo I 256 _ _ b h r d).trans ?_))
  exact partA_eq D b _ _ _ cGlob (cOwn 3) (fun r => r.isLt) (qV_eq hI b) (kOwn_eq hI b 3) (vOwn_eq hI b 3) h 0 0 r d
/-- and of sums of weights. -/
theorem p1L (r : Fin 32) : ppV (ppAll I) b h 0 (ix2 r 64) = ∑ k, (D.wt b h (cGlob r) (cTop 1 k) : EReal) := by
  refine (ppAll_apply I b h 0 r _).trans ((congrFun hI.p1 _).trans ((pOf_hi I 128 _ _ b h r).trans ?_))
  exact partL_eq D b _ _ cGlob (cTop 1) (fun r => r.isLt) (qV_eq hI b) (kTop_eq hI b 1) h 0 0 r 0
theorem p2L (r : Fin 32) : ppV (ppAll I) b h 1 (ix2 r 64) = ∑ k, (D.wt b h (cGlob r) (cOwn 2 k) : EReal) := by
  refine (ppAll_apply I b h 1 r _).trans ((congrFun hI.p2 _).trans ((pOf_hi I 256 _ _ b h r).trans ?_))
  exact partL_eq D b _ _ cGlob (cOwn 2) (fun r => r.isLt) (qV_eq hI b) (kOwn_eq hI b 2) h 0 0 r 0
theorem p3L (r : Fin 32) : ppV (ppAll I) b h 2 (ix2 r 64) = ∑ k, (D.wt b h (cGlob r) (cOwn 3 k) : EReal) := by
  refine (ppAll_apply I b h 2 r _).trans ((congrFun hI.p3 _).trans ((pOf_hi I 256 _ _ b h r).trans ?_))
  exact partL_eq D b _ _ cGlob (cOwn 3) (fun r => r.isLt) (qV_eq hI b) (kOwn_eq hI b 3) h 0 0 r 0
include hwq

/-- A head's result on device 0. -/
theorem quot0_eq (hx : ∀ b r t, x (ix3 b r t) = (D.x b (cOwn 0 r) t : EReal)) (r : Fin 256) (d : Fin 64) :
    quot0 (l0 I x wq b h) (a0 I x wq b h) (ppV (ppAll I) b h) (ix2 r d) = D.ctx b (cOwn 0 r) h d := by
  unfold Prob.ctx
  by_cases hr : r.val < 32
  · have eg : cGlob ⟨r.val, hr⟩ = cOwn 0 r := Fin.ext (by show r.val = 256 * 0 + r.val; omega)
    rw [quot0_lo _ _ _ r hr d, l0_eq hI x wq hwq b h hx, a0_eq hI x wq hwq b h hx, p1A hI b h ⟨r.val, hr⟩ d, p2A hI b h ⟨r.val, hr⟩ d, p3A hI b h ⟨r.val, hr⟩ d,
      p1L hI b h ⟨r.val, hr⟩, p2L hI b h ⟨r.val, hr⟩, p3L hI b h ⟨r.val, hr⟩, eg]
    refine congrArg₂ Ideal.div ?_ ?_
    · exact sum0_lo fun k => (D.wt b h (cOwn 0 r) k : EReal) * D.v b k h d
    · exact (sum0_lo fun k => (D.wt b h (cOwn 0 r) k : EReal)).trans (den_sum b h _)
  · rw [quot0_hi _ _ _ r hr d, l0_eq hI x wq hwq b h hx, a0_eq hI x wq hwq b h hx]
    refine congrArg₂ Ideal.div ?_ ?_
    · exact sum0_hi _ r (by omega) (wv_zero b h (cOwn 0 r) d)
    · exact (sum0_hi _ r (by omega) (wt_zero b h (cOwn 0 r))).trans (den_sum b h _)

omit hI hwq
include hwo
/-- An output from its heads' results. -/
theorem outOf_eq (f : Fin 2 → Fin 4 → FVec Ideal S256x64 .f32) (c : Fin 4) (hf : ∀ b h r d, f b h (ix2 r d) = D.ctx b (cOwn c r) h d)
    (r : Fin 256) (e : Fin 512) : outOf (fun b => slab (f b) (woV wo)) (ix3 b r e) = D.out b (cOwn c r) e := by
  refine (outOf_apply _ b r e).trans ((slab_apply _ _ 0 r e).trans (Finset.sum_congr rfl fun j _ => ?_))
  rw [hf, woV_apply, hwo]
include hI hwq

/-- Each device's output is its rows of the attention. -/
theorem out0_eq (hx : ∀ b r t, x (ix3 b r t) = (D.x b (cOwn 0 r) t : EReal)) (r : Fin 256) (e : Fin 512) :
    out0 I x wq wo (ix3 b r e) = D.out b (cOwn 0 r) e :=
  outOf_eq wo hwo b _ 0 (fun b h r d => quot0_eq hI x wq hwq b h hx r d) r e
theorem out1_eq (hx : ∀ b r t, x (ix3 b r t) = (D.x b (cOwn 1 r) t : EReal)) (r : Fin 256) (e : Fin 512) :
    out1 I x wq wo (ix3 b r e) = D.out b (cOwn 1 r) e :=
  outOf_eq wo hwo b (fun b h => quot 256 (l1 I x wq b h) (a1 I x wq b h)) 1
    (fun b h r d => (quot_apply 256 (.inl rfl) _ _ r d).trans (congrArg₂ Ideal.div (a1_eq hI x wq hwq b h hx r d) (l1_eq hI x wq hwq b h hx r 0))) r e
theorem out2_eq (hx : ∀ b r t, x (ix3 b r t) = (D.x b (cOwn 2 r) t : EReal)) (r : Fin 256) (e : Fin 512) :
    out2 I x wq wo (ix3 b r e) = D.out b (cOwn 2 r) e :=
  outOf_eq wo hwo b (fun b h => quot 256 (l2 I x wq b h) (a2 I x wq b h)) 2
    (fun b h r d => (quot_apply 256 (.inl rfl) _ _ r d).trans (congrArg₂ Ideal.div (a2_eq hI x wq hwq b h hx r d) (l2_eq hI x wq hwq b h hx r 0))) r e
theorem out3_eq (hx : ∀ b r t, x (ix3 b r t) = (D.x b (cOwn 3 r) t : EReal)) (r : Fin 256) (e : Fin 512) :
    out3 I x wq wo (ix3 b r e) = D.out b (cOwn 3 r) e :=
  outOf_eq wo hwo b (fun b h => quot 256 (l3 I x wq b h) (a3 I x wq b h)) 3
    (fun b h r d => (quot_apply 256 (.inl rfl) _ _ r d).trans (congrArg₂ Ideal.div (a3_eq hI x wq hwq b h hx r d) (l3_eq hI x wq hwq b h hx r 0))) r e

end Answers

end Cert.KernelIdeal.Att
-- ==== Proof.Memory.lean ====
/-
# What is staged, and what is left, in terms of the arguments

Each window is its whole array, so the staged blocks are the arguments, keys and values with their heads side by side, and the
result array ends as the body's output.
-/
module

public import proofs.«01_k».proof.Proof.Arrays
public import proofs.«01_k».proof.Proof.Answer

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ)

theorem xAt_eq (c : Dev nD) : xAt m c = m ((c.tc : Thread nD τ).loc main_arg0) := by
  refine Eq.trans (funext fun i => ?_) (V_main_arg0 m c)
  refine congrArg (V m c main_arg0) (funext fun a => Fin.ext ?_)
  exact (cfg0.win 0).rect_emb_val_of_index_zero t0_0 a rfl i
theorem wqAt_eq (c : Dev nD) : wqAt m c = m ((c.tc : Thread nD τ).loc main_arg1) := by
  refine Eq.trans (funext fun i => ?_) (V_main_arg1 m c)
  refine congrArg (V m c main_arg1) (funext fun a => Fin.ext ?_)
  exact (cfg0.win 1).rect_emb_val_of_index_zero t0_0 a rfl i
theorem woAt_eq (c : Dev nD) : woAt m c = m ((c.tc : Thread nD τ).loc main_arg4) := by
  refine Eq.trans (funext fun i => ?_) (V_main_arg4 m c)
  refine congrArg (V m c main_arg4) (funext fun a => Fin.ext ?_)
  exact (cfg0.win 4).rect_emb_val_of_index_zero t0_0 a rfl i

theorem V_keys (c : Dev nD) : V m c main_v1 = shapeCast S2x256x256 (m ((c.tc : Thread nD τ).loc main_arg2)) shapeCasts_S2x256x4x64_S2x256x256 := by
  show StableHlo.after hostOps0 _ _ = _
  simp only [hostOps0]
  after_results_simp
  rfl
theorem V_values (c : Dev nD) : V m c main_v2 = shapeCast S2x256x256 (m ((c.tc : Thread nD τ).loc main_arg3)) shapeCasts_S2x256x4x64_S2x256x256 := by
  show StableHlo.after hostOps0 _ _ = _
  simp only [hostOps0]
  after_results_simp
  rfl
theorem kAt_eq (c : Dev nD) : kAt m c = shapeCast S2x256x256 (m ((c.tc : Thread nD τ).loc main_arg2)) shapeCasts_S2x256x4x64_S2x256x256 := by
  refine Eq.trans (funext fun i => ?_) (V_keys m c)
  refine congrArg (V m c main_v1) (funext fun a => Fin.ext ?_)
  exact (cfg0.win 2).rect_emb_val_of_index_zero t0_0 a rfl i
theorem vAt_eq (c : Dev nD) : vAt m c = shapeCast S2x256x256 (m ((c.tc : Thread nD τ).loc main_arg3)) shapeCasts_S2x256x4x64_S2x256x256 := by
  refine Eq.trans (funext fun i => ?_) (V_values m c)
  refine congrArg (V m c main_v2) (funext fun a => Fin.ext ?_)
  exact (cfg0.win 3).rect_emb_val_of_index_zero t0_0 a rfl i

/-- Rows with four heads side by side. -/
theorem heads_apply {α : Type} (v : S2x256x4x64.Idx → α) (b : Fin 2) (r j : Fin 256) :
    shapeCast S2x256x256 v shapeCasts_S2x256x4x64_S2x256x256 (ix3 b r j) = v (ix4 b r ⟨j.val / 64, by omega⟩ ⟨j.val % 64, by omega⟩) := by
  unfold shapeCast
  congr 1
  apply Shape.reshapeEquiv_eq_of_rowMajor
  rw [Shape.rowMajor_val_three, Shape.rowMajor_val_four]
  show ((b.val * 256 + r.val) * 4 + j.val / 64) * 64 + j.val % 64 = (b.val * 256 + r.val) * 256 + j.val
  omega
theorem kAt_apply (c : Dev nD) (b : Fin 2) (r j : Fin 256) :
    kAt m c (ix3 b r j) = m ((c.tc : Thread nD τ).loc main_arg2) (ix4 b r ⟨j.val / 64, by omega⟩ ⟨j.val % 64, by omega⟩) :=
  (congrFun (kAt_eq m c) _).trans (heads_apply _ b r j)
theorem vAt_apply (c : Dev nD) (b : Fin 2) (r j : Fin 256) :
    vAt m c (ix3 b r j) = m ((c.tc : Thread nD τ).loc main_arg3) (ix4 b r ⟨j.val / 64, by omega⟩ ⟨j.val % 64, by omega⟩) :=
  (congrFun (vAt_eq m c) _).trans (heads_apply _ b r j)

/-- The result array. -/
theorem V₂_res (c : Dev nD) : V₂ m c main_v3 = outAt m c := by
  refine (V₂_out m c).trans ((dat0 m c).arrAt_eq_of_cover 5 (outAt m c) (fun t _ => ?_) fun i => ⟨t0_0, rfl, ?_⟩)
  · obtain rfl : t = t0_0 := (by decide : ∀ t : Fin cfg0.N, t = t0_0) t
    refine funext fun i => congrArg (outAt m c) (funext fun a => Fin.ext ?_)
    exact ((cfg0.win 5).rect_emb_val_of_index_zero t0_0 a rfl i).symm
  · have e : ((cfg0.win 5).blk t0_0).view.emb i = i := funext fun a => Fin.ext ((cfg0.win 5).rect_emb_val_of_index_zero t0_0 a rfl i)
    exact e ▸ ((cfg0.win 5).blk t0_0).view.emb_mem_set i

end Cert.KernelIdeal.Att
-- ==== Proof.Device.lean ====
/-
# Each device's output

Where the memory of each device holds its part of a problem, each device's output is its rows of the attention.
-/
module

public import proofs.«01_k».proof.Proof.Memory

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The devices' arguments are a problem's: rows cut in four, weights in full. -/
structure Holds (D : Prob) (m : (ℓ : Loc nD τ sig) → Buf (Elt Ideal) ℓ) : Prop where
  x : ∀ (c : Dev nD) b r t, m ((c.tc : Thread nD τ).loc main_arg0) (ix3 b r t) = (D.x b (cOwn c r) t : EReal)
  wq : ∀ (c : Dev nD) t j, m ((c.tc : Thread nD τ).loc main_arg1) (ix2 t j) = (D.wq t j : EReal)
  k : ∀ (c : Dev nD) b r h d, m ((c.tc : Thread nD τ).loc main_arg2) (ix4 b r h d) = (D.k b (cOwn c r) h d : EReal)
  v : ∀ (c : Dev nD) b r h d, m ((c.tc : Thread nD τ).loc main_arg3) (ix4 b r h d) = D.v b (cOwn c r) h d
  wo : ∀ (c : Dev nD) j e, m ((c.tc : Thread nD τ).loc main_arg4) (ix2 j e) = D.wo j e

variable {D : Prob} {m : (ℓ : Loc nD τ sig) → Buf (Elt Ideal) ℓ} (H : Holds D m)
include H

theorem xAt_holds (c : Dev nD) (b : Fin 2) (r : Fin 256) (t : Fin 512) : xAt m c (ix3 b r t) = (D.x b (cOwn c r) t : EReal) :=
  (congrFun (xAt_eq m c) _).trans (H.x c b r t)
theorem wqAt_holds (c : Dev nD) (t : Fin 512) (j : Fin 256) : wqAt m c (ix2 t j) = (D.wq t j : EReal) :=
  (congrFun (wqAt_eq m c) _).trans (H.wq c t j)
theorem woAt_holds (c : Dev nD) (j : Fin 256) (e : Fin 512) : woAt m c (ix2 j e) = D.wo j e :=
  (congrFun (woAt_eq m c) _).trans (H.wo c j e)

/-- What travels between the devices is the problem's. -/
theorem fits : Fits D (ins m) where
  k c b r j := (kAt_apply m c b r j).trans (H.k c b r _ _)
  v c b r j := (vAt_apply m c b r j).trans (H.v c b r _ _)
  q b r j := by
    refine (congrFun (closed_q (kAt m) (vAt m) (xAt m 0) (wqAt m 0)) (ix3 b r j)).trans ((qOf_apply _ _ b r j).trans ?_)
    exact proj_eq D 32 _ _ b ⟨r.val, by omega⟩ r
      (fun t => (xV_apply _ 32 _ b r t).trans ((xAt_holds H 0 b _ t).trans (congrArg (fun i => (D.x b i t : EReal)) (Fin.ext (by show 256 * 0 + r.val = r.val; omega)))))
      (fun t j => (wqV_apply _ t j).trans (wqAt_holds H 0 t j)) j
  p1 := closed_p1 _
  p2 := closed_p2 _
  p3 := closed_p3 _

theorem outAt_eq (c : Dev nD) (b : Fin 2) (r : Fin 256) (e : Fin 512) : outAt m c (ix3 b r e) = D.out b (cOwn c r) e := by
  match c with
  | 0 => exact out0_eq (fits H) _ _ _ (wqAt_holds H 0) (woAt_holds H 0) b (xAt_holds H 0) r e
  | 1 => exact out1_eq (fits H) _ _ _ (wqAt_holds H 1) (woAt_holds H 1) b (xAt_holds H 1) r e
  | 2 => exact out2_eq (fits H) _ _ _ (wqAt_holds H 2) (woAt_holds H 2) b (xAt_holds H 2) r e
  | 3 => exact out3_eq (fits H) _ _ _ (wqAt_holds H 3) (woAt_holds H 3) b (xAt_holds H 3) r e

end Cert.KernelIdeal.Att
-- ==== Proof.Blocks.lean ====
/-
# A device's block of a whole array

Device c's block holds the rows from 256 c on.
-/
module

public import proofs.«01_k».proof.Proof.Keys
public import Idealize.ShloMosaic.Lib.LayoutAt

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

theorem block3 {α : Type} (v : (⟨3, ![2, 1024, 512]⟩ : Shape).Idx → α) (c : Fin 4) (b : Fin 2) (r : Fin 256) (t : Fin 512) :
    Layout.block ⟨3, ![2, 256, 512]⟩ ⟨3, ![2, 1024, 512]⟩ 1 4 c v (by decide) (ix3 b r t) = v (ix3 b (cOwn c r) t) := by
  rw [Layout.block_apply]
  refine congrArg v (funext fun a => Fin.ext ?_)
  match a with
  | ⟨0, _⟩ => rfl
  | ⟨1, _⟩ => exact congrArg (· + r.val) (Nat.mul_comm _ _)
  | ⟨2, _⟩ => rfl

theorem block4 {α : Type} (v : (⟨4, ![2, 1024, 4, 64]⟩ : Shape).Idx → α) (c : Fin 4) (b : Fin 2) (r : Fin 256) (h : Fin 4) (d : Fin 64) :
    Layout.block ⟨4, ![2, 256, 4, 64]⟩ ⟨4, ![2, 1024, 4, 64]⟩ 1 4 c v (by decide) (ix4 b r h d) = v (ix4 b (cOwn c r) h d) := by
  rw [Layout.block_apply]
  refine congrArg v (funext fun a => Fin.ext ?_)
  match a with
  | ⟨0, _⟩ => rfl
  | ⟨1, _⟩ => exact congrArg (· + r.val) (Nat.mul_comm _ _)
  | ⟨2, _⟩ => rfl
  | ⟨3, _⟩ => rfl

/-- Every row is some device's. -/
theorem own_div (i : Fin 1024) : ∃ (c : Fin 4) (r : Fin 256), i = cOwn c r :=
  ⟨⟨i.val / 256, by omega⟩, ⟨i.val % 256, by omega⟩, Fin.ext (by show i.val = 256 * (i.val / 256) + i.val % 256; omega)⟩

end Cert.KernelIdeal.Att
-- ==== Proof.Finite.lean ====
/-
# Finite arguments

What the precondition says: every entry of the inputs, the queries' weights and the keys is a real.
-/
module

public import proofs.«01_k».proof.Proof.Keys
public import proofs.«01_k».proof.Pre_finite_KernelIdeal
public import proofs.«01_k».proof.Pre_finite_ReferenceIdeal
public import Idealize.ShloMosaic.Lib.ReduceAll
public import Idealize.ShloMosaic.Lib.Pointwise

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The precondition's shapes, of a device's blocks, -/
theorem finite_facts : Cert.Pre_finite_KernelIdeal.Facts where
  bitsLt_bf16_f32 := by decide
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

/-- and of the whole arrays. -/
theorem finite_facts_whole : Cert.Pre_finite_ReferenceIdeal.Facts where
  bitsLt_bf16_f32 := by decide
  bcast_S_S2x1024x512 := by decide
  reducesTo_S2x1024x512_S_d0_1_2 := by decide
  h_S_ := by decide
  bcast_S_S512x256 := by decide
  reducesTo_S512x256_S_d0_1 := by decide
  bcast_S_S2x1024x4x64 := by decide
  reducesTo_S2x1024x4x64_S_d0_1_2_3 := by decide

theorem top_eq : (Ideal.ofBits .f32 0x7F800000#32 : EReal) = ⊤ := by
  simp [Ideal.ofBits, Ideal.ieee]

/-- Below `+∞` in absolute value: a real. -/
theorem real_of_abs (a : EReal) (h : Ideal.cmp .olt (max a (-a)) (Ideal.ofBits .f32 0x7F800000#32) = 1#1) :
    ((a.toReal : ℝ) : EReal) = a := by
  rw [top_eq] at h
  induction a using EReal.rec with
  | bot => exact absurd h (by simp [Ideal.cmp])
  | coe r => rfl
  | top => exact absurd h (by simp [Ideal.cmp])

theorem and_one : ∀ a b : BitVec 1, IntOp.andi a b = 1#1 → a = 1#1 ∧ b = 1#1 := by decide

section

open Cert.Pre_finite_KernelIdeal

instance : Subsingleton Cert.Pre_finite_KernelIdeal.S_.Idx := ⟨fun _ _ => funext fun a => a.elim0⟩

variable [Cert.Pre_finite_KernelIdeal.Facts]
  (a0 : FVec Ideal Cert.Pre_finite_KernelIdeal.S2x256x512 .bf16) (a1 : FVec Ideal Cert.Pre_finite_KernelIdeal.S512x256 .bf16)
  (a2 a3 : FVec Ideal Cert.Pre_finite_KernelIdeal.S2x256x4x64 .bf16) (a4 : FVec Ideal Cert.Pre_finite_KernelIdeal.S256x512 .bf16)
  (h : fn a0 a1 a2 a3 a4 = fun _ => 1#1)
include h

theorem finite_x (i : Cert.Pre_finite_KernelIdeal.S2x256x512.Idx) : (((a0 i : EReal).toReal : ℝ) : EReal) = a0 i :=
  real_of_abs _ (Host.reduce_andi_all _ _ _ _ _ (and_one _ _ (and_one _ _ (congrFun h ix0)).1).1 i)
theorem finite_wq (i : Cert.Pre_finite_KernelIdeal.S512x256.Idx) : (((a1 i : EReal).toReal : ℝ) : EReal) = a1 i :=
  real_of_abs _ (Host.reduce_andi_all _ _ _ _ _ (and_one _ _ (and_one _ _ (congrFun h ix0)).1).2 i)
theorem finite_k (i : Cert.Pre_finite_KernelIdeal.S2x256x4x64.Idx) : (((a2 i : EReal).toReal : ℝ) : EReal) = a2 i :=
  real_of_abs _ (Host.reduce_andi_all _ _ _ _ _ (and_one _ _ (congrFun h ix0)).2 i)

end

end Cert.KernelIdeal.Att
-- ==== Proof.RefStages.lean ====
/-
# The reference, stage by stage

The reference's result as a chain of named stages: which keys are seen, the scores, the masked scores, their largest per query, the
exponentials, their sum, the probabilities, the heads' results and the output.
-/
module

public import proofs.«01_k».proof.Proof.Gen.ReferenceIdeal.Run

@[expose] public section

noncomputable section

namespace Cert.ReferenceIdeal.Stages

open Cert.ReferenceIdeal Cert.ReferenceIdeal.Gen Cert.ReferenceIdeal.Value
open Idealize.ShloMosaic
open Idealize.ShloMosaic.TcCoe
open Idealize.SL.Sem Idealize.ShloMosaic.StableHlo

variable {F : FTy → Type} [FloatOps F]

/-- Query numbers down, key numbers across. -/
def rowCol : IVec S1024x1 32 := broadcastInDim S1024x1 ![0] bcast_S1024_S1024x1_0 (iotaInDim S1024 32 0)
def colRow : IVec S1x1024 32 := broadcastInDim S1x1024 ![1] bcast_S1024_S1x1024_1 (iotaInDim S1024 32 0)

/-- Which keys a query sees. -/
def seen : IVec S1024x1024 1 :=
  ori (cmpi .sle (absi (subi (broadcastInDim S1024x1024 ![0, 1] bcast_S1024x1_S1024x1024_0_1 rowCol) (broadcastInDim S1024x1024 ![0, 1] bcast_S1x1024_S1024x1024_0_1 colRow)))
      (broadcastInDim S1024x1024 ![] bcast_S_S1024x1024 (constantI S_ 32 128#32)))
    (ori (broadcastInDim S1024x1024 ![0, 1] bcast_S1x1024_S1024x1024_0_1 (cmpi .slt colRow (broadcastInDim S1x1024 ![] bcast_S_S1x1024 (constantI S_ 32 32#32))))
      (broadcastInDim S1024x1024 ![0, 1] bcast_S1024x1_S1024x1024_0_1 (cmpi .slt rowCol (broadcastInDim S1024x1 ![] bcast_S_S1024x1 (constantI S_ 32 32#32)))))

/-- The queries, with their heads apart. -/
def queries (x : FVec F S2x1024x512 .bf16) (w : FVec F S512x256 .bf16) : FVec F S2x1024x4x64 .bf16 :=
  shapeCast _ (truncf .bf16 (Host.dotGeneral dot_S2x1024x512_S512x256_S2x1024x256_2_0_01_1_n_n none x w) bitsLt_bf16_f32) shapeCasts_S2x1024x256_S2x1024x4x64

/-- The scores, -/
def scores (q k : FVec F S2x1024x4x64 .bf16) : FVec F S2x4x1024x1024 .f32 :=
  mulf (extf .f32 (truncf .bf16 (Host.dotGeneral dot_S2x1024x4x64_S2x1024x4x64_S2x4x1024x1024_3_3_1_1_02_02 none q k) bitsLt_bf16_f32) bitsLt_bf16_f32)
    (broadcastInDim S2x4x1024x1024 ![] bcast_S_S2x4x1024x1024 (constant S_ .f32 0x3E000000#32))

/-- masked, -/
def masked (s : FVec F S2x4x1024x1024 .f32) : FVec F S2x4x1024x1024 .f32 :=
  select (broadcastInDim S2x4x1024x1024 ![0, 1, 2, 3] bcast_S1x1x1024x1024_S2x4x1024x1024_0_1_2_3 (broadcastInDim S1x1x1024x1024 ![2, 3] bcast_S1024x1024_S1x1x1024x1024_2_3 seen))
    s (broadcastInDim S2x4x1024x1024 ![] bcast_S_S2x4x1024x1024 (id (constant S_ .f32 0xFF800000#32)))

/-- each query's largest. -/
def largest (s : FVec F S2x4x1024x1024 .f32) : FVec F S2x4x1024 .f32 :=
  Host.reduce FloatOps.maximumf s (constant S_ .f32 0xFF800000#32) reducesTo_S2x4x1024x1024_S2x4x1024_d3 h_S_

/-- The exponentials of the masked scores less the largest, -/
def expos (s : FVec F S2x4x1024x1024 .f32) : FVec F S2x4x1024x1024 .f32 :=
  Host.exp (subf s (broadcastInDim S2x4x1024x1024 ![0, 1, 2, 3] bcast_S2x4x1024x1_S2x4x1024x1024_0_1_2_3 (broadcastInDim S2x4x1024x1 ![0, 1, 2] bcast_S2x4x1024_S2x4x1024x1_0_1_2 (largest s))))

/-- and their sum. -/
def total (e : FVec F S2x4x1024x1024 .f32) : FVec F S2x4x1024 .f32 :=
  Host.reduceAdd e (constant S_ .f32 0x00000000#32) reducesTo_S2x4x1024x1024_S2x4x1024_d3 h_S_

/-- Whether a query sees any key. -/
def anySeen : IVec S1x1x1024x1 1 :=
  broadcastInDim S1x1x1024x1 ![2] bcast_S1024_S1x1x1024x1_2 (Host.reduce IntOp.ori seen (constantI S_ 1 0#1) reducesTo_S1024x1024_S1024_d1 h_S_)

/-- The divisor, -/
def divisor (e : FVec F S2x4x1024x1024 .f32) : FVec F S2x4x1024x1 .f32 :=
  select (broadcastInDim S2x4x1024x1 ![0, 1, 2, 3] bcast_S1x1x1024x1_S2x4x1024x1_0_1_2_3 anySeen)
    (broadcastInDim S2x4x1024x1 ![0, 1, 2] bcast_S2x4x1024_S2x4x1024x1_0_1_2 (total e)) (broadcastInDim S2x4x1024x1 ![] bcast_S_S2x4x1024x1 (id (constant S_ .f32 0x3F800000#32)))

/-- and the probabilities. -/
def probs (e : FVec F S2x4x1024x1024 .f32) : FVec F S2x4x1024x1024 .f32 :=
  select (broadcastInDim S2x4x1024x1024 ![0, 1, 2, 3] bcast_S1x1x1024x1_S2x4x1024x1024_0_1_2_3 anySeen)
    (Host.divf e (broadcastInDim S2x4x1024x1024 ![0, 1, 2, 3] bcast_S2x4x1024x1_S2x4x1024x1024_0_1_2_3 (divisor e)))
    (broadcastInDim S2x4x1024x1024 ![] bcast_S_S2x4x1024x1024 (id (constant S_ .f32 0x00000000#32)))

/-- The heads' results, side by side, -/
def heads (v : FVec F S2x1024x4x64 .bf16) (p : FVec F S2x4x1024x1024 .f32) : FVec F S2x1024x256 .f32 :=
  shapeCast _ (transpose S2x1024x4x64 [0, 3, 1, 2] (Host.dotGeneral dot_S2x1024x4x64_S2x4x1024x1024_S2x4x64x1024_1_3_3_2_02_01 none (extf .f32 v bitsLt_bf16_f32) p)
    transposes_S2x4x64x1024_S2x1024x4x64_0_3_1_2) shapeCasts_S2x1024x4x64_S2x1024x256

/-- and the output. -/
def output (c : FVec F S2x1024x256 .f32) (wo : FVec F S256x512 .bf16) : FVec F S2x1024x512 .bf16 :=
  truncf .bf16 (Host.dotGeneral dot_S2x1024x256_S256x512_S2x1024x512_2_0_01_1_n_n none c (extf .f32 wo bitsLt_bf16_f32)) bitsLt_bf16_f32

/-- All of it. -/
def all (x : FVec F S2x1024x512 .bf16) (w : FVec F S512x256 .bf16) (k v : FVec F S2x1024x4x64 .bf16) (wo : FVec F S256x512 .bf16) : FVec F S2x1024x512 .bf16 :=
  output (heads v (probs (expos (masked (scores (queries x w) k))))) wo

set_option maxRecDepth 8192 in
theorem res_eq (m : (ℓ : Loc nD τ sig) → Buf (Elt F) ℓ) (c : Dev nD) :
    res_main_v48 m c = all (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end Cert.ReferenceIdeal.Stages
-- ==== Proof.RefEntry.lean ====
/-
# The reference's stages at an entry
-/
module

public import proofs.«01_k».proof.Proof.RefStages
public import proofs.«01_k».proof.Proof.Attend
public import Idealize.ShloMosaic.Lib.Pointwise

@[expose] public section

noncomputable section

namespace Cert.ReferenceIdeal.Stages

open Cert.ReferenceIdeal Cert.ReferenceIdeal.Gen
open Cert.KernelIdeal.Att (Sees sees_word')
open Idealize.ShloMosaic
open Idealize.ShloMosaic.TcCoe

theorem bot_eq : (Ideal.ofBits .f32 0xFF800000#32 : EReal) = ⊥ := by
  simp [Ideal.ofBits, Ideal.ieee]

theorem seen_apply (i k : Fin 1024) : seen (ix2 i k) = BitVec.ofBool (decide (Sees i.val k.val)) := by
  pointwise [seen, rowCol, colRow]
  exact sees_word' i.val k.val i.isLt k.isLt

theorem scores_apply (q k : FVec Ideal S2x1024x4x64 .bf16) (b : Fin 2) (h : Fin 4) (i j : Fin 1024) :
    scores q k (ix4 b h i j) = (∑ d : Fin 64, q (ix4 b i h d) * k (ix4 b j h d)) * Ideal.ofBits .f32 0x3E000000#32 := by
  pointwise [scores]

theorem queries_apply (x : FVec Ideal S2x1024x512 .bf16) (w : FVec Ideal S512x256 .bf16) (b : Fin 2) (i : Fin 1024) (h : Fin 4) (d : Fin 64) :
    queries x w (ix4 b i h d) = ∑ t : Fin 512, x (ix3 b i t) * w (ix2 t ⟨64 * h.val + d.val, by omega⟩) := by
  pointwise [queries]
  exact Finset.sum_congr rfl fun t _ => congrArg (fun a => x (ix3 b i t) * w (ix2 t a)) (Fin.ext (congrArg (· + d.val) (Nat.mul_comm _ _)))

theorem masked_apply (s : FVec Ideal S2x4x1024x1024 .f32) (b : Fin 2) (h : Fin 4) (i j : Fin 1024) :
    masked s (ix4 b h i j) = if Sees i.val j.val then s (ix4 b h i j) else ⊥ := by
  pointwise [masked, seen_apply]
  exact congrArg (fun a => if Sees i.val j.val then s (ix4 b h i j) else a) bot_eq

theorem largest_apply (s : FVec Ideal S2x4x1024x1024 .f32) (b : Fin 2) (h : Fin 4) (i : Fin 1024) :
    largest s (ix3 b h i) = Finset.univ.sup fun j : Fin 1024 => s (ix4 b h i j) := by
  pointwise [largest]
  rw [bot_eq]
  rfl

theorem expos_apply (s : FVec Ideal S2x4x1024x1024 .f32) (b : Fin 2) (h : Fin 4) (i j : Fin 1024) :
    expos s (ix4 b h i j) = Ideal.exp (s (ix4 b h i j) - largest s (ix3 b h i)) := by
  pointwise [expos]

theorem total_apply (e : FVec Ideal S2x4x1024x1024 .f32) (b : Fin 2) (h : Fin 4) (i : Fin 1024) :
    total e (ix3 b h i) = ∑ j : Fin 1024, e (ix4 b h i j) := by
  pointwise [total]

theorem anySeen_apply (z z' z'' : Fin 1) (i : Fin 1024) : anySeen (ix4 z z' i z'') = 1#1 := by
  pointwise [anySeen, seen_apply]
  rw [← Finset.insert_erase (Finset.mem_univ i), Finset.fold_insert (Finset.notMem_erase _ _),
    decide_eq_true (Cert.KernelIdeal.Att.Prob.sees_self i.val)]
  exact (by decide : ∀ w : BitVec 1, IntOp.ori (BitVec.ofBool true) w = 1#1) _

theorem divisor_apply (e : FVec Ideal S2x4x1024x1024 .f32) (b : Fin 2) (h : Fin 4) (i : Fin 1024) (z : Fin 1) :
    divisor e (ix4 b h i z) = ∑ j : Fin 1024, e (ix4 b h i j) := by
  pointwise [divisor, anySeen_apply, total_apply]

theorem probs_apply (e : FVec Ideal S2x4x1024x1024 .f32) (b : Fin 2) (h : Fin 4) (i j : Fin 1024) :
    probs e (ix4 b h i j) = Ideal.div (e (ix4 b h i j)) (∑ k : Fin 1024, e (ix4 b h i k)) := by
  pointwise [probs, anySeen_apply, divisor_apply]

theorem heads_apply (v : FVec Ideal S2x1024x4x64 .bf16) (p : FVec Ideal S2x4x1024x1024 .f32) (b : Fin 2) (i : Fin 1024) (j : Fin 256) :
    heads v p (ix3 b i j) = ∑ k : Fin 1024, v (ix4 b k ⟨j.val / 64, by omega⟩ ⟨j.val % 64, by omega⟩) * p (ix4 b ⟨j.val / 64, by omega⟩ i k) := by
  pointwise [heads]

theorem output_apply (c : FVec Ideal S2x1024x256 .f32) (wo : FVec Ideal S256x512 .bf16) (b : Fin 2) (i : Fin 1024) (e : Fin 512) :
    output c wo (ix3 b i e) = ∑ j : Fin 256, c (ix3 b i j) * wo (ix2 j e) := by
  pointwise [output]

end Cert.ReferenceIdeal.Stages
-- ==== Proof.RefValue.lean ====
/-
# The reference's result is the attention

Dividing each exponential by their sum, after taking the largest score away from every score, gives the same weights as dividing the
weighted sum by the sum of the weights: the factor `exp (-largest)` is common to both, and it is a positive real because a query
sees itself.
-/
module

public import proofs.«01_k».proof.Proof.RefEntry

@[expose] public section

noncomputable section

namespace Cert.ReferenceIdeal.Stages

open Cert.ReferenceIdeal Cert.ReferenceIdeal.Gen
open Cert.KernelIdeal.Att (Sees Prob hcol eighth_eq coe_sum exp_coe exp_bot)
open Idealize.ShloMosaic
open Idealize.ShloMosaic.TcCoe

/-- A real factor that is not negative distributes over a sum. -/
theorem sum_mul_coe {ι : Type} [Fintype ι] (f : ι → EReal) (c : ℝ) (hc : 0 ≤ c) : (∑ i, f i) * (c : EReal) = ∑ i, f i * (c : EReal) := by
  classical
  induction (Finset.univ : Finset ι) using Finset.induction_on with
  | empty => simp
  | insert a s ha ih =>
    rw [Finset.sum_insert ha, Finset.sum_insert ha, EReal.right_distrib_of_nonneg_of_ne_top (EReal.coe_nonneg.mpr hc) (EReal.coe_ne_top c), ih]

/-- The largest of values that are real or `-∞`, one of them real, is real. -/
theorem sup_real {ι : Type} [Fintype ι] (f : ι → EReal) (hf : ∀ i, f i ≠ ⊤) (i : ι) (hi : f i ≠ ⊥) : ∃ r : ℝ, Finset.univ.sup f = (r : EReal) := by
  refine ⟨(Finset.univ.sup f).toReal, (EReal.coe_toReal ?_ ?_).symm⟩
  · exact ((Finset.sup_lt_iff bot_lt_top).mpr fun j _ => lt_top_iff_ne_top.mpr (hf j)).ne
  · exact fun e => hi (le_bot_iff.mp (e ▸ Finset.le_sup (Finset.mem_univ i)))

/-- A quotient of reals by a nonzero one. -/
theorem div_coe (a c : ℝ) (hc : c ≠ 0) : Ideal.div (a : EReal) (c : EReal) = ((a * c⁻¹ : ℝ) : EReal) := by
  unfold Ideal.div
  rw [if_neg (fun e => hc (EReal.coe_eq_zero.mp e)), EReal.coe_mul, EReal.coe_inv]

section Value

variable (D : Prob) (x : FVec Ideal S2x1024x512 .bf16) (w : FVec Ideal S512x256 .bf16) (k v : FVec Ideal S2x1024x4x64 .bf16) (wo : FVec Ideal S256x512 .bf16)
  (hx : ∀ b i t, x (ix3 b i t) = (D.x b i t : EReal))
  (hw : ∀ t j, w (ix2 t j) = (D.wq t j : EReal))
  (hk : ∀ b i h d, k (ix4 b i h d) = (D.k b i h d : EReal))
  (hv : ∀ b i h d, v (ix4 b i h d) = D.v b i h d)
  (hwo : ∀ j e, wo (ix2 j e) = D.wo j e)
include hx hw

theorem queries_eq (b : Fin 2) (i : Fin 1024) (h : Fin 4) (d : Fin 64) : queries x w (ix4 b i h d) = (D.qry b i (hcol h d) : EReal) := by
  rw [queries_apply]
  unfold Prob.qry
  rw [coe_sum]
  exact Finset.sum_congr rfl fun t _ => by rw [hx, hw, EReal.coe_mul]; rfl

include hk

theorem scores_eq (b : Fin 2) (h : Fin 4) (i j : Fin 1024) : scores (queries x w) k (ix4 b h i j) = (D.scr b h i j : EReal) := by
  rw [scores_apply, eighth_eq]
  unfold Prob.scr
  rw [EReal.coe_mul, coe_sum]
  exact congrArg (· * _) (Finset.sum_congr rfl fun d _ => by rw [queries_eq D x w hx hw, hk, EReal.coe_mul])

/-- The exponentials are the weights, up to a positive factor common to a query's keys. -/
theorem expos_eq (b : Fin 2) (h : Fin 4) (i : Fin 1024) :
    ∃ r : ℝ, 0 < r ∧ ∀ j, expos (masked (scores (queries x w) k)) (ix4 b h i j) = ((D.wt b h i j * r : ℝ) : EReal) := by
  have hs : ∀ j, masked (scores (queries x w) k) (ix4 b h i j) = if Sees i.val j.val then (D.scr b h i j : EReal) else ⊥ := fun j => by
    rw [masked_apply, scores_eq D x w k hx hw hk]
  obtain ⟨r, hr⟩ := sup_real (fun j : Fin 1024 => masked (scores (queries x w) k) (ix4 b h i j))
    (fun j => by
      show masked (scores (queries x w) k) (ix4 b h i j) ≠ ⊤
      rw [hs]
      by_cases e : Sees i.val j.val
      · rw [if_pos e]; exact EReal.coe_ne_top _
      · rw [if_neg e]; exact bot_ne_top) i
    (by
      show masked (scores (queries x w) k) (ix4 b h i i) ≠ ⊥
      rw [hs, if_pos (Prob.sees_self _)]; exact EReal.coe_ne_bot _)
  refine ⟨Real.exp (-r), Real.exp_pos _, fun j => ?_⟩
  rw [expos_apply, largest_apply, hr, hs]
  by_cases e : Sees i.val j.val
  · rw [if_pos e, D.wt_on e, ← EReal.coe_sub, exp_coe, ← Real.exp_add, sub_eq_add_neg]
  · rw [if_neg e, D.wt_off e, EReal.bot_sub, exp_bot, zero_mul, EReal.coe_zero]

/-- The probabilities are the weights over their sum. -/
theorem probs_eq (b : Fin 2) (h : Fin 4) (i j : Fin 1024) :
    probs (expos (masked (scores (queries x w) k))) (ix4 b h i j) = ((D.wt b h i j * (D.den b h i)⁻¹ : ℝ) : EReal) := by
  obtain ⟨r, hr, e⟩ := expos_eq D x w k hx hw hk b h i
  have hd := D.den_pos b h i
  rw [probs_apply, e j]
  refine (congrArg (Ideal.div _) ((Finset.sum_congr rfl fun j _ => e j).trans (coe_sum _).symm)).trans ?_
  rw [← Finset.sum_mul]
  refine (div_coe _ _ (mul_pos hd hr).ne').trans (congrArg _ ?_)
  show D.wt b h i j * r * (D.den b h i * r)⁻¹ = _
  field_simp

include hv

theorem heads_eq (b : Fin 2) (i : Fin 1024) (j : Fin 256) :
    heads v (probs (expos (masked (scores (queries x w) k)))) (ix3 b i j) = D.ctx b i ⟨j.val / 64, by omega⟩ ⟨j.val % 64, by omega⟩ := by
  rw [heads_apply]
  have hd := D.den_pos b ⟨j.val / 64, by omega⟩ i
  unfold Prob.ctx Ideal.div
  rw [if_neg (fun e => hd.ne' (EReal.coe_eq_zero.mp e)), ← EReal.coe_inv]
  refine Eq.trans ?_ (sum_mul_coe _ _ (inv_nonneg.mpr hd.le)).symm
  exact Finset.sum_congr rfl fun t _ => by rw [probs_eq D x w k hx hw hk, hv, EReal.coe_mul, ← mul_assoc, mul_comm (D.v _ _ _ _)]

include hwo

theorem all_eq (b : Fin 2) (i : Fin 1024) (e : Fin 512) : all x w k v wo (ix3 b i e) = D.out b i e := by
  unfold all
  rw [output_apply]
  exact Finset.sum_congr rfl fun j _ => by rw [heads_eq D x w k v hx hw hk hv, hwo]

end Value

end Cert.ReferenceIdeal.Stages
-- ==== Proof.Algebraic.lean ====
/-
# The kernel computes the reference

From arguments that are a device's part of the reference's, finite where the precondition says, both run, and each device's result is
its block of the reference's.
-/
module

public import proofs.«01_k».proof.Defs
public import proofs.«01_k».proof.Proof.Device
public import proofs.«01_k».proof.Proof.Blocks
public import proofs.«01_k».proof.Proof.Finite
public import proofs.«01_k».proof.Proof.RefValue
public import proofs.«01_k».proof.Proof.Frames

@[expose] public section

noncomputable section

namespace Cert.Proof

open Idealize.ShloMosaic Idealize.ShloMosaic.TcCoe Idealize.SL.Sem
open Cert.KernelIdeal.Att (Prob Holds cOwn block3 block4 own_div outAt_eq)

attribute [local instance] Cert.KernelIdeal.Gen.facts Cert.ReferenceIdeal.Gen.facts Cert.KernelIdeal.Att.finite_facts

/-- The reference's memory. -/
abbrev RefMem := (ℓ : Loc Cert.ReferenceIdeal.nD Cert.ReferenceIdeal.τ Cert.ReferenceIdeal.sig) → Buf (Elt Ideal) ℓ
/-- The devices'. -/
abbrev DevMem := (ℓ : Loc Cert.KernelIdeal.nD Cert.KernelIdeal.τ Cert.KernelIdeal.sig) → Buf (Elt Ideal) ℓ

section Args

variable (m' : RefMem)

/-- The reference's arguments. -/
def argX : FVec Ideal Cert.ReferenceIdeal.S2x1024x512 .bf16 := m' (((0 : Dev Cert.ReferenceIdeal.nD).tc : Thread Cert.ReferenceIdeal.nD Cert.ReferenceIdeal.τ).loc Cert.ReferenceIdeal.main_arg0)
def argWq : FVec Ideal Cert.ReferenceIdeal.S512x256 .bf16 := m' (((0 : Dev Cert.ReferenceIdeal.nD).tc : Thread Cert.ReferenceIdeal.nD Cert.ReferenceIdeal.τ).loc Cert.ReferenceIdeal.main_arg1)
def argK : FVec Ideal Cert.ReferenceIdeal.S2x1024x4x64 .bf16 := m' (((0 : Dev Cert.ReferenceIdeal.nD).tc : Thread Cert.ReferenceIdeal.nD Cert.ReferenceIdeal.τ).loc Cert.ReferenceIdeal.main_arg2)
def argV : FVec Ideal Cert.ReferenceIdeal.S2x1024x4x64 .bf16 := m' (((0 : Dev Cert.ReferenceIdeal.nD).tc : Thread Cert.ReferenceIdeal.nD Cert.ReferenceIdeal.τ).loc Cert.ReferenceIdeal.main_arg3)
def argWo : FVec Ideal Cert.ReferenceIdeal.S256x512 .bf16 := m' (((0 : Dev Cert.ReferenceIdeal.nD).tc : Thread Cert.ReferenceIdeal.nD Cert.ReferenceIdeal.τ).loc Cert.ReferenceIdeal.main_arg4)

/-- The problem they pose. -/
def prob : Prob where
  x b i t := EReal.toReal (argX m' (ix3 b i t))
  wq t j := EReal.toReal (argWq m' (ix2 t j))
  k b i h d := EReal.toReal (argK m' (ix4 b i h d))
  v b i h d := argV m' (ix4 b i h d)
  wo j e := argWo m' (ix2 j e)

/-- The reference's result. -/
def result : FVec Ideal Cert.ReferenceIdeal.S2x1024x512 .bf16 :=
  Cert.ReferenceIdeal.Stages.all (argX m') (argWq m') (argK m') (argV m') (argWo m')

end Args

section Value

variable (m : DevMem) (m' : RefMem)
  (hf : Cert.Pre_KernelIdeal_finite_KernelIdeal m)
  (h0 : ∀ c : Dev Cert.KernelIdeal.nD, m ((c.tc : Thread Cert.KernelIdeal.nD Cert.KernelIdeal.τ).loc Cert.KernelIdeal.main_arg0)
    = Layout.block ⟨3, ![2, 256, 512]⟩ ⟨3, ![2, 1024, 512]⟩ 1 4 c (argX m') (by decide))
  (h1 : ∀ c : Dev Cert.KernelIdeal.nD, m ((c.tc : Thread Cert.KernelIdeal.nD Cert.KernelIdeal.τ).loc Cert.KernelIdeal.main_arg1) = argWq m')
  (h2 : ∀ c : Dev Cert.KernelIdeal.nD, m ((c.tc : Thread Cert.KernelIdeal.nD Cert.KernelIdeal.τ).loc Cert.KernelIdeal.main_arg2)
    = Layout.block ⟨4, ![2, 256, 4, 64]⟩ ⟨4, ![2, 1024, 4, 64]⟩ 1 4 c (argK m') (by decide))
  (h3 : ∀ c : Dev Cert.KernelIdeal.nD, m ((c.tc : Thread Cert.KernelIdeal.nD Cert.KernelIdeal.τ).loc Cert.KernelIdeal.main_arg3)
    = Layout.block ⟨4, ![2, 256, 4, 64]⟩ ⟨4, ![2, 1024, 4, 64]⟩ 1 4 c (argV m') (by decide))
  (h4 : ∀ c : Dev Cert.KernelIdeal.nD, m ((c.tc : Thread Cert.KernelIdeal.nD Cert.KernelIdeal.τ).loc Cert.KernelIdeal.main_arg4) = argWo m')

include hf h0 in
theorem argX_real (b : Fin 2) (i : Fin 1024) (t : Fin 512) : argX m' (ix3 b i t) = ((prob m').x b i t : EReal) := by
  obtain ⟨c, r, rfl⟩ := own_div i
  have e := (congrFun (h0 c) (ix3 b r t)).trans (block3 (argX m') c b r t)
  have f := Cert.KernelIdeal.Att.finite_x _ _ _ _ _ (hf c) (ix3 b r t)
  exact ((congrArg (fun a : EReal => ((a.toReal : ℝ) : EReal)) e.symm).trans (f.trans e)).symm

include hf h1 in
theorem argWq_real (t : Fin 512) (j : Fin 256) : argWq m' (ix2 t j) = ((prob m').wq t j : EReal) := by
  have e := congrFun (h1 0) (ix2 t j)
  have f := Cert.KernelIdeal.Att.finite_wq _ _ _ _ _ (hf 0) (ix2 t j)
  exact ((congrArg (fun a : EReal => ((a.toReal : ℝ) : EReal)) e.symm).trans (f.trans e)).symm

include hf h2 in
theorem argK_real (b : Fin 2) (i : Fin 1024) (h : Fin 4) (d : Fin 64) : argK m' (ix4 b i h d) = ((prob m').k b i h d : EReal) := by
  obtain ⟨c, r, rfl⟩ := own_div i
  have e := (congrFun (h2 c) (ix4 b r h d)).trans (block4 (argK m') c b r h d)
  have f := Cert.KernelIdeal.Att.finite_k _ _ _ _ _ (hf c) (ix4 b r h d)
  exact ((congrArg (fun a : EReal => ((a.toReal : ℝ) : EReal)) e.symm).trans (f.trans e)).symm

include hf h0 h1 h2 in
/-- The reference computes the attention, -/
theorem result_eq (b : Fin 2) (i : Fin 1024) (e : Fin 512) : result m' (ix3 b i e) = (prob m').out b i e :=
  Cert.ReferenceIdeal.Stages.all_eq (prob m') (argX m') (argWq m') (argK m') (argV m') (argWo m') (argX_real m m' hf h0) (argWq_real m m' hf h1)
    (argK_real m m' hf h2) (fun _ _ _ _ => rfl) (fun _ _ => rfl) b i e

include hf h0 h1 h2 h3 h4

/-- the devices hold its parts, -/
theorem holds : Holds (prob m') m where
  x c b r t := ((congrFun (h0 c) (ix3 b r t)).trans (block3 (argX m') c b r t)).trans (argX_real m m' hf h0 b _ t)
  wq c t j := (congrFun (h1 c) (ix2 t j)).trans (argWq_real m m' hf h1 t j)
  k c b r h d := ((congrFun (h2 c) (ix4 b r h d)).trans (block4 (argK m') c b r h d)).trans (argK_real m m' hf h2 b _ h d)
  v c b r h d := (congrFun (h3 c) (ix4 b r h d)).trans (block4 (argV m') c b r h d)
  wo c j e := congrFun (h4 c) (ix2 j e)

/-- and each device's output is its block of the reference's. -/
theorem output_block (c : Dev Cert.KernelIdeal.nD) :
    Cert.KernelIdeal.Att.outAt m c = Layout.block ⟨3, ![2, 256, 512]⟩ ⟨3, ![2, 1024, 512]⟩ 1 4 c (result m') (by decide) := by
  have key : ∀ (b : Fin 2) (r : Fin 256) (e : Fin 512), Cert.KernelIdeal.Att.outAt m c (ix3 b r e)
      = Layout.block ⟨3, ![2, 256, 512]⟩ ⟨3, ![2, 1024, 512]⟩ 1 4 c (result m') (by decide) (ix3 b r e) := fun b r e =>
    (outAt_eq (holds m m' hf h0 h1 h2 h3 h4) c b r e).trans ((block3 (result m') c b r e).trans (result_eq m m' hf h0 h1 h2 b _ e)).symm
  funext i
  exact (congrArg (Cert.KernelIdeal.Att.outAt m c) (ix3_eta i).symm).trans ((key (i 0) (i 1) (i 2)).trans (congrArg _ (ix3_eta i)))

end Value

theorem algebraic : Cert.algebraic_KernelIdeal_ReferenceIdeal_pre_finite_KernelIdeal := fun m g m' g' hf h =>
  ⟨result m',
   (θ_run _ _ _).mono (fun r k c => ⟨(k.1 c).1.trans ((Cert.KernelIdeal.Att.V₂_res m c).trans
      (output_block m m' hf (fun c => (h c).1) (fun c => (h c).2.1) (fun c => (h c).2.2.1) (fun c => (h c).2.2.2.1) (fun c => (h c).2.2.2.2) c)), (k.1 c).2⟩)
    (Cert.KernelIdeal.Att.run_args m g),
   (θ_run _ _ _).mono (fun r k => ⟨(k 0).1.trans (Cert.ReferenceIdeal.Stages.res_eq m' 0), (k 0).2⟩) (Cert.ReferenceIdeal.Value.run (F := Ideal) m' g')⟩

end Cert.Proof
-- ==== Proof.lean ====
/-
# The certificate

Every claim, from the modules that prove it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Plain
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelIdeal.Att.finite_facts, Cert.KernelIdeal.Att.finite_facts_whole,
  frame_kernel, frame_ideal, fun m ρ _ => frame_ideal m ρ trivial, frame_reference, fun m ρ _ => frame_reference m ρ trivial, preserves, algebraic⟩

end Cert.Proof
